-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_rows [hPre_finite_rows : Cert.Pre_finite_rows.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_rows.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_rows [hPre_finite_rows : Cert.Pre_finite_rows.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_rows.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Kernel3Ideal_pre_finite_rows [hKernel3Ideal : Cert.Kernel3Ideal.Facts] [hPre_finite_rows : Cert.Pre_finite_rows.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_rows m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Reference3Ideal_pre_finite_rows [hReference3Ideal : Cert.Reference3Ideal.Facts] [hPre_finite_rows : Cert.Pre_finite_rows.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_rows m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  IdealRules.bf16_pair.BufferStatement Cert.Kernel2Ideal.S131072x2x128 Cert.Kernel2Ideal.S131072x1x128
  ∧ IdealRules.bf16_pair.BufferStatement Cert.Kernel2Ideal.S2048x2x128 Cert.Kernel2Ideal.S2048x1x128
  ∧ IdealRules.bf16_pair.Statement Cert.Kernel2Ideal.S512x2x128 Cert.Kernel2Ideal.S512x1x128
  ∧ IdealRules.bf16_pack.Statement Cert.Kernel2Ideal.S512x128

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)) →
    ∃ (v0 : (c : Dev Cert.Kernel2Ideal.nD) → Buf (Elt Ideal) ((c.tc : Thread Cert.Kernel2Ideal.nD Cert.Kernel2Ideal.τ).loc Cert.Kernel2Ideal.main_v20_0)) (v1 : (c : Dev Cert.Kernel2Ideal.nD) → Buf (Elt Ideal) ((c.tc : Thread Cert.Kernel2Ideal.nD Cert.Kernel2Ideal.τ).loc Cert.Kernel2Ideal.main_v20_6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v20_0) = v0 c
          ∧ r.2.mem ((c.tc : Thread Cert.Kernel2Ideal.nD Cert.Kernel2Ideal.τ).loc Cert.Kernel2Ideal.main_v20_6) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v49) = v0 c
          ∧ r.2.mem ((c.tc : Thread Cert.Reference2Ideal.nD Cert.Reference2Ideal.τ).loc Cert.Reference2Ideal.main_v56) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12))

def preserves_Kernel3_Kernel3Ideal : Prop :=
  True

def algebraic_Kernel3Ideal_Reference3Ideal_pre_finite_rows [hKernel3Ideal : Cert.Kernel3Ideal.Facts] [hReference3Ideal : Cert.Reference3Ideal.Facts] [hPre_finite_rows : Cert.Pre_finite_rows.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_rows m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v78_0)) (v1 : (c : Dev Cert.Kernel3Ideal.nD) → Buf (Elt Ideal) ((c.tc : Thread Cert.Kernel3Ideal.nD Cert.Kernel3Ideal.τ).loc Cert.Kernel3Ideal.main_v78_1)) (v2 : (c : Dev Cert.Kernel3Ideal.nD) → Buf (Elt Ideal) ((c.tc : Thread Cert.Kernel3Ideal.nD Cert.Kernel3Ideal.τ).loc Cert.Kernel3Ideal.main_v78_2)) (v3 : (c : Dev Cert.Kernel3Ideal.nD) → Buf (Elt Ideal) ((c.tc : Thread Cert.Kernel3Ideal.nD Cert.Kernel3Ideal.τ).loc Cert.Kernel3Ideal.main_v78_3)) (v4 : (c : Dev Cert.Kernel3Ideal.nD) → Buf (Elt Ideal) ((c.tc : Thread Cert.Kernel3Ideal.nD Cert.Kernel3Ideal.τ).loc Cert.Kernel3Ideal.main_v78_4)) (v5 : (c : Dev Cert.Kernel3Ideal.nD) → Buf (Elt Ideal) ((c.tc : Thread Cert.Kernel3Ideal.nD Cert.Kernel3Ideal.τ).loc Cert.Kernel3Ideal.main_v78_5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v78_0) = v0 c
          ∧ r.2.mem ((c.tc : Thread Cert.Kernel3Ideal.nD Cert.Kernel3Ideal.τ).loc Cert.Kernel3Ideal.main_v78_1) = v1 c
          ∧ r.2.mem ((c.tc : Thread Cert.Kernel3Ideal.nD Cert.Kernel3Ideal.τ).loc Cert.Kernel3Ideal.main_v78_2) = v2 c
          ∧ r.2.mem ((c.tc : Thread Cert.Kernel3Ideal.nD Cert.Kernel3Ideal.τ).loc Cert.Kernel3Ideal.main_v78_3) = v3 c
          ∧ r.2.mem ((c.tc : Thread Cert.Kernel3Ideal.nD Cert.Kernel3Ideal.τ).loc Cert.Kernel3Ideal.main_v78_4) = v4 c
          ∧ r.2.mem ((c.tc : Thread Cert.Kernel3Ideal.nD Cert.Kernel3Ideal.τ).loc Cert.Kernel3Ideal.main_v78_5) = v5 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v127) = v0 c
          ∧ r.2.mem ((c.tc : Thread Cert.Reference3Ideal.nD Cert.Reference3Ideal.τ).loc Cert.Reference3Ideal.main_v129) = v1 c
          ∧ r.2.mem ((c.tc : Thread Cert.Reference3Ideal.nD Cert.Reference3Ideal.τ).loc Cert.Reference3Ideal.main_v131) = v2 c
          ∧ r.2.mem ((c.tc : Thread Cert.Reference3Ideal.nD Cert.Reference3Ideal.τ).loc Cert.Reference3Ideal.main_v132) = v3 c
          ∧ r.2.mem ((c.tc : Thread Cert.Reference3Ideal.nD Cert.Reference3Ideal.τ).loc Cert.Reference3Ideal.main_v134) = v4 c
          ∧ r.2.mem ((c.tc : Thread Cert.Reference3Ideal.nD Cert.Reference3Ideal.τ).loc Cert.Reference3Ideal.main_v136) = v5 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite_scores : Cert.Pre_finite_scores.Facts) (hPre_finite_rows : Cert.Pre_finite_rows.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite_rows (hKernel3Ideal := hKernel3Ideal) (hPre_finite_rows := hPre_finite_rows)
    ∧ quiescent_Reference3Ideal (hReference3Ideal := hReference3Ideal)
    ∧ quiescent_Reference3Ideal_pre_finite_rows (hReference3Ideal := hReference3Ideal) (hPre_finite_rows := hPre_finite_rows)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite_rows (hKernel3Ideal := hKernel3Ideal) (hReference3Ideal := hReference3Ideal) (hPre_finite_rows := hPre_finite_rows)
-- ==== Pre_finite_rows.lean ====
abbrev S16x2048x1024 : Shape := ⟨3, ![16, 2048, 1024]⟩
abbrev S1024x3360 : Shape := ⟨2, ![1024, 3360]⟩
abbrev S256 : Shape := ⟨1, ![256]⟩
abbrev S256x768 : Shape := ⟨2, ![256, 768]⟩
abbrev S256x1024 : Shape := ⟨2, ![256, 1024]⟩
abbrev S_ : Shape := ⟨0, ![]⟩

class Facts : Prop where
  bcast_S_S16x2048x1024 : S_.BroadcastsInDim S16x2048x1024 (![] : Fin 0 → Fin S16x2048x1024.rank)
  reducesTo_S16x2048x1024_S_d0_1_2 : S16x2048x1024.ReducesTo [0, 1, 2] S_
  h_S_ : 0 < S_.numel
  bcast_S_S1024x3360 : S_.BroadcastsInDim S1024x3360 (![] : Fin 0 → Fin S1024x3360.rank)
  reducesTo_S1024x3360_S_d0_1 : S1024x3360.ReducesTo [0, 1] S_
  bcast_S_S256 : S_.BroadcastsInDim S256 (![] : Fin 0 → Fin S256.rank)
  reducesTo_S256_S_d0 : S256.ReducesTo [0] S_
  bcast_S_S256x768 : S_.BroadcastsInDim S256x768 (![] : Fin 0 → Fin S256x768.rank)
  reducesTo_S256x768_S_d0_1 : S256x768.ReducesTo [0, 1] S_

variable [Facts]

def fn_part1 {F : FTy → Type} [FloatOps F] (main_v13 : IVec S_ 1) (main_v16 : IVec S256x768 1) : IVec S_ 1 :=
  let main_c_5 : IVec S_ 1 := constantI S_ 1 1#1
  let main_v17 : IVec S_ 1 := (fun x v => Host.reduce IntOp.andi x v reducesTo_S256x768_S_d0_1 h_S_) main_v16 main_c_5
  let main_v18 : IVec S_ 1 := andi main_v13 main_v17
  main_v18

def fn {F : FTy → Type} [FloatOps F] (main_arg0 : FVec F S16x2048x1024 .f32) (main_arg1 : FVec F S1024x3360 .f32) (main_arg2 : FVec F S256 .f32) (main_arg3 : FVec F S256 .f32) (main_arg4 : FVec F S256x768 .f32) (main_arg5 : FVec F S256x1024 .f32) : IVec S_ 1 :=
  let main_v0 : FVec F S16x2048x1024 .f32 := Host.absf main_arg0
  let main_cst : FVec F S_ .f32 := constant S_ .f32 0x7F800000#32
  let main_v1 : FVec F S16x2048x1024 .f32 := broadcastInDim S16x2048x1024 ![] bcast_S_S16x2048x1024 main_cst
  let main_v2 : IVec S16x2048x1024 1 := cmpf .olt main_v0 main_v1
  let main_c : IVec S_ 1 := constantI S_ 1 1#1
  let main_v3 : IVec S_ 1 := (fun x v => Host.reduce IntOp.andi x v reducesTo_S16x2048x1024_S_d0_1_2 h_S_) main_v2 main_c
  let main_v4 : FVec F S1024x3360 .f32 := Host.absf main_arg1
  let main_cst_0 : FVec F S_ .f32 := constant S_ .f32 0x7F800000#32
  let main_v5 : FVec F S1024x3360 .f32 := broadcastInDim S1024x3360 ![] bcast_S_S1024x3360 main_cst_0
  let main_v6 : IVec S1024x3360 1 := cmpf .olt main_v4 main_v5
  let main_c_1 : IVec S_ 1 := constantI S_ 1 1#1
  let main_v7 : IVec S_ 1 := (fun x v => Host.reduce IntOp.andi x v reducesTo_S1024x3360_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x768 .f32 := Host.absf main_arg4
  let main_cst_4 : FVec F S_ .f32 := constant S_ .f32 0x7F800000#32
  let main_v15 : FVec F S256x768 .f32 := broadcastInDim S256x768 ![] bcast_S_S256x768 main_cst_4
  let main_v16 : IVec S256x768 1 := cmpf .olt main_v14 main_v15
  fn_part1 (F := F) main_v13 main_v16
-- ==== Pre_finite_scores.lean ====
abbrev S16x2048x8x64 : Shape := ⟨4, ![16, 2048, 8, 64]⟩
abbrev S16x2048x8x32 : Shape := ⟨4, ![16, 2048, 8, 32]⟩
abbrev S16x2048x32 : Shape := ⟨3, ![16, 2048, 32]⟩
abbrev S_ : Shape := ⟨0, ![]⟩

class Facts : Prop where
  bcast_S_S16x2048x8x64 : S_.BroadcastsInDim S16x2048x8x64 (![] : Fin 0 → Fin S16x2048x8x64.rank)
  reducesTo_S16x2048x8x64_S_d0_1_2_3 : S16x2048x8x64.ReducesTo [0, 1, 2, 3] S_
  h_S_ : 0 < S_.numel
  bcast_S_S16x2048x8x32 : S_.BroadcastsInDim S16x2048x8x32 (![] : Fin 0 → Fin S16x2048x8x32.rank)
  reducesTo_S16x2048x8x32_S_d0_1_2_3 : S16x2048x8x32.ReducesTo [0, 1, 2, 3] S_
  bcast_S_S16x2048x32 : S_.BroadcastsInDim S16x2048x32 (![] : Fin 0 → Fin S16x2048x32.rank)
  reducesTo_S16x2048x32_S_d0_1_2 : S16x2048x32.ReducesTo [0, 1, 2] S_

variable [Facts]

def fn_part1 {F : FTy → Type} [FloatOps F] (main_v13 : IVec S_ 1) (main_v16 : IVec S16x2048x32 1) : IVec S_ 1 :=
  let main_c_5 : IVec S_ 1 := constantI S_ 1 1#1
  let main_v17 : IVec S_ 1 := (fun x v => Host.reduce IntOp.andi x v reducesTo_S16x2048x32_S_d0_1_2 h_S_) main_v16 main_c_5
  let main_v18 : IVec S_ 1 := andi main_v13 main_v17
  main_v18

def fn {F : FTy → Type} [FloatOps F] (main_arg0 : FVec F S16x2048x8x64 .f32) (main_arg1 : FVec F S16x2048x8x32 .f32) (main_arg2 : FVec F S16x2048x8x64 .f32) (main_arg3 : FVec F S16x2048x32 .f32) (main_arg4 : FVec F S16x2048x8x64 .f32) : IVec S_ 1 :=
  let main_v0 : FVec F S16x2048x8x64 .f32 := Host.absf main_arg0
  let main_cst : FVec F S_ .f32 := constant S_ .f32 0x7F800000#32
  let main_v1 : FVec F S16x2048x8x64 .f32 := broadcastInDim S16x2048x8x64 ![] bcast_S_S16x2048x8x64 main_cst
  let main_v2 : IVec S16x2048x8x64 1 := cmpf .olt main_v0 main_v1
  let main_c : IVec S_ 1 := constantI S_ 1 1#1
  let main_v3 : IVec S_ 1 := (fun x v => Host.reduce IntOp.andi x v reducesTo_S16x2048x8x64_S_d0_1_2_3 h_S_) main_v2 main_c
  let main_v4 : FVec F S16x2048x8x32 .f32 := Host.absf main_arg1
  let main_cst_0 : FVec F S_ .f32 := constant S_ .f32 0x7F800000#32
  let main_v5 : FVec F S16x2048x8x32 .f32 := broadcastInDim S16x2048x8x32 ![] bcast_S_S16x2048x8x32 main_cst_0
  let main_v6 : IVec S16x2048x8x32 1 := cmpf .olt main_v4 main_v5
  let main_c_1 : IVec S_ 1 := constantI S_ 1 1#1
  let main_v7 : IVec S_ 1 := (fun x v => Host.reduce IntOp.andi x v reducesTo_S16x2048x8x32_S_d0_1_2_3 h_S_) main_v6 main_c_1
  let main_v8 : IVec S_ 1 := andi main_v3 main_v7
  let main_v9 : FVec F S16x2048x8x64 .f32 := Host.absf main_arg2
  let main_cst_2 : FVec F S_ .f32 := constant S_ .f32 0x7F800000#32
  let main_v10 : FVec F S16x2048x8x64 .f32 := broadcastInDim S16x2048x8x64 ![] bcast_S_S16x2048x8x64 main_cst_2
  let main_v11 : IVec S16x2048x8x64 1 := cmpf .olt main_v9 main_v10
  let main_c_3 : IVec S_ 1 := constantI S_ 1 1#1
  let main_v12 : IVec S_ 1 := (fun x v => Host.reduce IntOp.andi x v reducesTo_S16x2048x8x64_S_d0_1_2_3 h_S_) main_v11 main_c_3
  let main_v13 : IVec S_ 1 := andi main_v8 main_v12
  let main_v14 : FVec F S16x2048x32 .f32 := Host.absf main_arg3
  let main_cst_4 : FVec F S_ .f32 := constant S_ .f32 0x7F800000#32
  let main_v15 : FVec F S16x2048x32 .f32 := broadcastInDim S16x2048x32 ![] bcast_S_S16x2048x32 main_cst_4
  let main_v16 : IVec S16x2048x32 1 := cmpf .olt main_v14 main_v15
  fn_part1 (F := F) main_v13 main_v16
-- ==== Kernel.lean ====
abbrev S16x2048x8x64 : Shape := ⟨4, ![16, 2048, 8, 64]⟩
abbrev S16x2048x8x32 : Shape := ⟨4, ![16, 2048, 8, 32]⟩
abbrev S16x2048x32 : Shape := ⟨3, ![16, 2048, 32]⟩
abbrev S_ : Shape := ⟨0, ![]⟩
abbrev S16x2048x8x128 : Shape := ⟨4, ![16, 2048, 8, 128]⟩
abbrev S16x2048x1x32 : Shape := ⟨4, ![16, 2048, 1, 32]⟩
abbrev S32768x8x64 : Shape := ⟨3, ![32768, 8, 64]⟩
abbrev S8x64x32768 : Shape := ⟨3, ![8, 64, 32768]⟩
abbrev S8x16x32768 : Shape := ⟨3, ![8, 16, 32768]⟩
abbrev S8x80x32768 : Shape := ⟨3, ![8, 80, 32768]⟩
abbrev S32768x1024 : Shape := ⟨2, ![32768, 1024]⟩
abbrev S640x32768 : Shape := ⟨2, ![640, 32768]⟩
abbrev S32768x512 : Shape := ⟨2, ![32768, 512]⟩
abbrev S256x1024 : Shape := ⟨2, ![256, 1024]⟩
abbrev S2048x1024 : Shape := ⟨2, ![2048, 1024]⟩
abbrev S640x2048 : Shape := ⟨2, ![640, 2048]⟩
abbrev S256x512 : Shape := ⟨2, ![256, 512]⟩
abbrev S80x256 : Shape := ⟨2, ![80, 256]⟩
abbrev S1x256 : Shape := ⟨2, ![1, 256]⟩
abbrev S512x128 : Shape := ⟨2, ![512, 128]⟩
abbrev S256x128 : Shape := ⟨2, ![256, 128]⟩
abbrev S512x256 : Shape := ⟨2, ![512, 256]⟩
abbrev S256 : Shape := ⟨1, ![256]⟩
abbrev S80x512 : Shape := ⟨2, ![80, 512]⟩
abbrev S256x256 : Shape := ⟨2, ![256, 256]⟩
abbrev S64x256 : Shape := ⟨2, ![64, 256]⟩
abbrev S128x256 : Shape := ⟨2, ![128, 256]⟩

abbrev nBuf : Space → Nat
  | .hbm => 34
  | .vmem => 16
  | .smem => 0
  | _ => 0

abbrev bufTy : (tb : Table) → Fin (tcTables nBuf tb) → BufTy
  | .hbm, ⟨0, _⟩ => ⟨S16x2048x8x64, .f32⟩
  | .hbm, ⟨1, _⟩ => ⟨S16x2048x8x32, .f32⟩
  | .hbm, ⟨2, _⟩ => ⟨S16x2048x8x64, .f32⟩
  | .hbm, ⟨3, _⟩ => ⟨S16x2048x32, .f32⟩
  | .hbm, ⟨4, _⟩ => ⟨S16x2048x8x64, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S16x2048x8x32, .f32⟩
  | .hbm, ⟨14, _⟩ => ⟨S16x2048x8x64, .f32⟩
  | .hbm, ⟨15, _⟩ => ⟨S16x2048x8x64, .f32⟩
  | .hbm, ⟨16, _⟩ => ⟨S16x2048x8x32, .f32⟩
  | .hbm, ⟨17, _⟩ => ⟨S16x2048x8x32, .f32⟩
  | .hbm, ⟨18, _⟩ => ⟨S16x2048x8x128, .f32⟩
  | .hbm, ⟨19, _⟩ => ⟨S16x2048x8x128, .bf16⟩
  | .hbm, ⟨20, _⟩ => ⟨S16x2048x1x32, .f32⟩
  | .hbm, ⟨21, _⟩ => ⟨S16x2048x8x32, .f32⟩
  | .hbm, ⟨22, _⟩ => ⟨S16x2048x8x128, .f32⟩
  | .hbm, ⟨23, _⟩ => ⟨S16x2048x8x128, .bf16⟩
  | .hbm, ⟨24, _⟩ => ⟨S32768x8x64, .f32⟩
  | .hbm, ⟨25, _⟩ => ⟨S8x64x32768, .f32⟩
  | .hbm, ⟨26, _⟩ => ⟨S8x64x32768, .bf16⟩
  | .hbm, ⟨27, _⟩ => ⟨S_, .bf16⟩
  | .hbm, ⟨28, _⟩ => ⟨S8x16x32768, .bf16⟩
  | .hbm, ⟨29, _⟩ => ⟨S8x80x32768, .bf16⟩
  | .hbm, ⟨30, _⟩ => ⟨S32768x1024, .bf16⟩
  | .hbm, ⟨31, _⟩ => ⟨S32768x1024, .bf16⟩
  | .hbm, ⟨32, _⟩ => ⟨S640x32768, .bf16⟩
  | .hbm, ⟨33, _⟩ => ⟨S32768x512, .bf16⟩
  | .local _ .vmem, ⟨0, _⟩ => ⟨S256x1024, .bf16⟩
  | .local _ .vmem, ⟨1, _⟩ => ⟨S256x1024, .bf16⟩
  | .local _ .vmem, ⟨2, _⟩ => ⟨S2048x1024, .bf16⟩
  | .local _ .vmem, ⟨3, _⟩ => ⟨S2048x1024, .bf16⟩
  | .local _ .vmem, ⟨4, _⟩ => ⟨S640x2048, .bf16⟩
  | .local _ .vmem, ⟨5, _⟩ => ⟨S640x2048, .bf16⟩
  | .local _ .vmem, ⟨6, _⟩ => ⟨S256x512, .bf16⟩
  | .local _ .vmem, ⟨7, _⟩ => ⟨S256x512, .bf16⟩
  | .local _ .vmem, ⟨8, _⟩ => ⟨S80x256, .f32⟩
  | .local _ .vmem, ⟨9, _⟩ => ⟨S80x256, .f32⟩
  | .local _ .vmem, ⟨10, _⟩ => ⟨S80x256, .f32⟩
  | .local _ .vmem, ⟨11, _⟩ => ⟨S80x256, .f32⟩
  | .local _ .vmem, ⟨12, _⟩ => ⟨S80x256, .f32⟩
  | .local _ .vmem, ⟨13, _⟩ => ⟨S80x256, .f32⟩
  | .local _ .vmem, ⟨14, _⟩ => ⟨S80x256, .f32⟩
  | .local _ .vmem, ⟨15, _⟩ => ⟨S80x256, .f32⟩
  | _, _ => ⟨S16x2048x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_cst_2 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_scratch6 : Ref sig .tc := ⟨.vmem, 14, rfl⟩
abbrev cc0_scratch7 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 1, 8], ![false, false, false]⟩

@[reducible] def k0_t1_loop (i : grid0.Coords) : Scf.Loop 32 :=
  let c0_i32_34 : BitVec 32 := 0#32
  let arg2 : BitVec 32 := BitVec.ofNat 32 (i 2).val
  let c256_i32 : BitVec 32 := 256#32
  let v40 : BitVec 32 := Scalar.muli arg2 c256_i32
  let c0_i32 : BitVec 32 := 0#32
  let v42 : BitVec 1 := Scalar.cmpi .sgt v40 c0_i32
  let v43 : BitVec 32 := Scalar.extui v42
  let c0_i32_30 : BitVec 32 := 0#32
  let v44 : BitVec 1 := Scalar.cmpi .slt v40 c0_i32_30
  let v45 : BitVec 32 := Scalar.extui v44
  let v46 : BitVec 32 := Scalar.subi v43 v45
  let c512_i32 : BitVec 32 := 512#32
  let c0_i32_31 : BitVec 32 := 0#32
  let v47 : BitVec 1 := Scalar.cmpi .sgt c512_i32 c0_i32_31
  let v48 : BitVec 32 := Scalar.extui v47
  let c0_i32_32 : BitVec 32 := 0#32
  let v49 : BitVec 1 := Scalar.cmpi .slt c512_i32 c0_i32_32
  let v50 : BitVec 32 := Scalar.extui v49
  let v51 : BitVec 32 := Scalar.subi v48 v50
  let v52 : BitVec 1 := Scalar.cmpi .ne v46 v51
  let v53 : BitVec 32 := Scalar.remsi v40 c512_i32
  let c0_i32_33 : BitVec 32 := 0#32
  let v54 : BitVec 1 := Scalar.cmpi .ne v53 c0_i32_33
  let v55 : BitVec 1 := Scalar.andi v52 v54
  let v41 : BitVec 32 := Scalar.divsi v40 c512_i32
  let c1_i32 : BitVec 32 := 1#32
  let v56 : BitVec 32 := Scalar.subi v41 c1_i32
  let v57 : BitVec 32 := Scalar.select v55 v56 v41
  let v58 : BitVec 32 := Scalar.subi v57 c0_i32_34
  let c1_i32_35 : BitVec 32 := 1#32
  let v60 : BitVec 32 := Scalar.divsi v58 c1_i32_35
  let v61 : BitVec 32 := Scalar.muli v60 c1_i32_35
  let v62 : BitVec 32 := Scalar.addi c0_i32_34 v61
  let c1_i32_36 : BitVec 32 := 1#32
  ⟨c0_i32_34, v62, c1_i32_36⟩
def k0_mult1 (i : grid0.Coords) (k0_t1 : Fin (k0_t1_loop i).trips) : BitVec 32 :=
  let c0_i32_34 : BitVec 32 := 0#32
  let c1_i32_36 : BitVec 32 := 1#32
  let arg15 : BitVec 32 := Scf.iv c0_i32_34 c1_i32_36 k0_t1
  let c512_i32_77 : BitVec 32 := 512#32
  let v119 : BitVec 32 := Scalar.muli arg15 c512_i32_77
  v119
def k0_off1 (i : grid0.Coords) (k0_t1 : Fin (k0_t1_loop i).trips) : Fin 2 → Nat :=
  let c0_i32_34 : BitVec 32 := 0#32
  let c1_i32_36 : BitVec 32 := 1#32
  let arg15 : BitVec 32 := Scf.iv c0_i32_34 c1_i32_36 k0_t1
  let c512_i32_77 : BitVec 32 := 512#32
  let v119 : BitVec 32 := Scalar.muli arg15 c512_i32_77
  let v120 : BitVec 32 := v119
  let v121 : Index := Scalar.indexCast v120
  let c0_78 : Index := 0#32
  ![v121.toNat, 0]
def k0_off2 (i : grid0.Coords) (k0_t1 : Fin (k0_t1_loop i).trips) : Fin 2 → Nat :=
  let c0_i32_34 : BitVec 32 := 0#32
  let c1_i32_36 : BitVec 32 := 1#32
  let arg15 : BitVec 32 := Scf.iv c0_i32_34 c1_i32_36 k0_t1
  let c512_i32_77 : BitVec 32 := 512#32
  let v119 : BitVec 32 := Scalar.muli arg15 c512_i32_77
  let v120 : BitVec 32 := v119
  let v127 : Index := Scalar.indexCast v120
  let c128_82 : Index := 128#32
  ![v127.toNat, 128]
def k0_off3 (i : grid0.Coords) (k0_t1 : Fin (k0_t1_loop i).trips) : Fin 2 → Nat :=
  let c0_i32_34 : BitVec 32 := 0#32
  let c1_i32_36 : BitVec 32 := 1#32
  let arg15 : BitVec 32 := Scf.iv c0_i32_34 c1_i32_36 k0_t1
  let c512_i32_77 : BitVec 32 := 512#32
  let v119 : BitVec 32 := Scalar.muli arg15 c512_i32_77
  let v120 : BitVec 32 := v119
  let v133 : Index := Scalar.indexCast v120
  let c256_86 : Index := 256#32
  ![v133.toNat, 256]
def k0_off4 (i : grid0.Coords) (k0_t1 : Fin (k0_t1_loop i).trips) : Fin 2 → Nat :=
  let c0_i32_34 : BitVec 32 := 0#32
  let c1_i32_36 : BitVec 32 := 1#32
  let arg15 : BitVec 32 := Scf.iv c0_i32_34 c1_i32_36 k0_t1
  let c512_i32_77 : BitVec 32 := 512#32
  let v119 : BitVec 32 := Scalar.muli arg15 c512_i32_77
  let v120 : BitVec 32 := v119
  let v139 : Index := Scalar.indexCast v120
  let c384_90 : Index := 384#32
  ![v139.toNat, 384]
def k0_off5 (i : grid0.Coords) (k0_t1 : Fin (k0_t1_loop i).trips) : Fin 2 → Nat :=
  let c0_i32_34 : BitVec 32 := 0#32
  let c1_i32_36 : BitVec 32 := 1#32
  let arg15 : BitVec 32 := Scf.iv c0_i32_34 c1_i32_36 k0_t1
  let c512_i32_77 : BitVec 32 := 512#32
  let v119 : BitVec 32 := Scalar.muli arg15 c512_i32_77
  let v120 : BitVec 32 := v119
  let v145 : Index := Scalar.indexCast v120
  let c512 : Index := 512#32
  ![v145.toNat, 512]
def k0_off6 (i : grid0.Coords) (k0_t1 : Fin (k0_t1_loop i).trips) : Fin 2 → Nat :=
  let c0_i32_34 : BitVec 32 := 0#32
  let c1_i32_36 : BitVec 32 := 1#32
  let arg15 : BitVec 32 := Scf.iv c0_i32_34 c1_i32_36 k0_t1
  let c512_i32_77 : BitVec 32 := 512#32
  let v119 : BitVec 32 := Scalar.muli arg15 c512_i32_77
  let v120 : BitVec 32 := v119
  let v151 : Index := Scalar.indexCast v120
  let c640 : Index := 640#32
  ![v151.toNat, 640]
def k0_off7 (i : grid0.Coords) (k0_t1 : Fin (k0_t1_loop i).trips) : Fin 2 → Nat :=
  let c0_i32_34 : BitVec 32 := 0#32
  let c1_i32_36 : BitVec 32 := 1#32
  let arg15 : BitVec 32 := Scf.iv c0_i32_34 c1_i32_36 k0_t1
  let c512_i32_77 : BitVec 32 := 512#32
  let v119 : BitVec 32 := Scalar.muli arg15 c512_i32_77
  let v120 : BitVec 32 := v119
  let v157 : Index := Scalar.indexCast v120
  let c768 : Index := 768#32
  ![v157.toNat, 768]
def k0_off8 (i : grid0.Coords) (k0_t1 : Fin (k0_t1_loop i).trips) : Fin 2 → Nat :=
  let c0_i32_34 : BitVec 32 := 0#32
  let c1_i32_36 : BitVec 32 := 1#32
  let arg15 : BitVec 32 := Scf.iv c0_i32_34 c1_i32_36 k0_t1
  let c512_i32_77 : BitVec 32 := 512#32
  let v119 : BitVec 32 := Scalar.muli arg15 c512_i32_77
  let v120 : BitVec 32 := v119
  let v163 : Index := Scalar.indexCast v120
  let c896 : Index := 896#32
  ![v163.toNat, 896]
def k0_off9 (i : grid0.Coords) (k0_t1 : Fin (k0_t1_loop i).trips) : Fin 2 → Nat :=
  let c0_114 : Index := 0#32
  let c0_i32_34 : BitVec 32 := 0#32
  let c1_i32_36 : BitVec 32 := 1#32
  let arg15 : BitVec 32 := Scf.iv c0_i32_34 c1_i32_36 k0_t1
  let c512_i32_77 : BitVec 32 := 512#32
  let v119 : BitVec 32 := Scalar.muli arg15 c512_i32_77
  let v120 : BitVec 32 := v119
  let v241 : Index := Scalar.indexCast v120
  ![0, v241.toNat]
def k0_off10 (i : grid0.Coords) (k0_t1 : Fin (k0_t1_loop i).trips) : Fin 2 → Nat :=
  let c80 : Index := 80#32
  let c0_i32_34 : BitVec 32 := 0#32
  let c1_i32_36 : BitVec 32 := 1#32
  let arg15 : BitVec 32 := Scf.iv c0_i32_34 c1_i32_36 k0_t1
  let c512_i32_77 : BitVec 32 := 512#32
  let v119 : BitVec 32 := Scalar.muli arg15 c512_i32_77
  let v120 : BitVec 32 := v119
  let v252 : Index := Scalar.indexCast v120
  ![80, v252.toNat]
def k0_off11 (i : grid0.Coords) (k0_t1 : Fin (k0_t1_loop i).trips) : Fin 2 → Nat :=
  let c160 : Index := 160#32
  let c0_i32_34 : BitVec 32 := 0#32
  let c1_i32_36 : BitVec 32 := 1#32
  let arg15 : BitVec 32 := Scf.iv c0_i32_34 c1_i32_36 k0_t1
  let c512_i32_77 : BitVec 32 := 512#32
  let v119 : BitVec 32 := Scalar.muli arg15 c512_i32_77
  let v120 : BitVec 32 := v119
  let v263 : Index := Scalar.indexCast v120
  ![160, v263.toNat]
def k0_off12 (i : grid0.Coords) (k0_t1 : Fin (k0_t1_loop i).trips) : Fin 2 → Nat :=
  let c240 : Index := 240#32
  let c0_i32_34 : BitVec 32 := 0#32
  let c1_i32_36 : BitVec 32 := 1#32
  let arg15 : BitVec 32 := Scf.iv c0_i32_34 c1_i32_36 k0_t1
  let c512_i32_77 : BitVec 32 := 512#32
  let v119 : BitVec 32 := Scalar.muli arg15 c512_i32_77
  let v120 : BitVec 32 := v119
  let v274 : Index := Scalar.indexCast v120
  ![240, v274.toNat]
def k0_off13 (i : grid0.Coords) (k0_t1 : Fin (k0_t1_loop i).trips) : Fin 2 → Nat :=
  let c320 : Index := 320#32
  let c0_i32_34 : BitVec 32 := 0#32
  let c1_i32_36 : BitVec 32 := 1#32
  let arg15 : BitVec 32 := Scf.iv c0_i32_34 c1_i32_36 k0_t1
  let c512_i32_77 : BitVec 32 := 512#32
  let v119 : BitVec 32 := Scalar.muli arg15 c512_i32_77
  let v120 : BitVec 32 := v119
  let v285 : Index := Scalar.indexCast v120
  ![320, v285.toNat]
def k0_off14 (i : grid0.Coords) (k0_t1 : Fin (k0_t1_loop i).trips) : Fin 2 → Nat :=
  let c400 : Index := 400#32
  let c0_i32_34 : BitVec 32 := 0#32
  let c1_i32_36 : BitVec 32 := 1#32
  let arg15 : BitVec 32 := Scf.iv c0_i32_34 c1_i32_36 k0_t1
  let c512_i32_77 : BitVec 32 := 512#32
  let v119 : BitVec 32 := Scalar.muli arg15 c512_i32_77
  let v120 : BitVec 32 := v119
  let v296 : Index := Scalar.indexCast v120
  ![400, v296.toNat]
def k0_off15 (i : grid0.Coords) (k0_t1 : Fin (k0_t1_loop i).trips) : Fin 2 → Nat :=
  let c480 : Index := 480#32
  let c0_i32_34 : BitVec 32 := 0#32
  let c1_i32_36 : BitVec 32 := 1#32
  let arg15 : BitVec 32 := Scf.iv c0_i32_34 c1_i32_36 k0_t1
  let c512_i32_77 : BitVec 32 := 512#32
  let v119 : BitVec 32 := Scalar.muli arg15 c512_i32_77
  let v120 : BitVec 32 := v119
  let v307 : Index := Scalar.indexCast v120
  ![480, v307.toNat]
def k0_off16 (i : grid0.Coords) (k0_t1 : Fin (k0_t1_loop i).trips) : Fin 2 → Nat :=
  let c560 : Index := 560#32
  let c0_i32_34 : BitVec 32 := 0#32
  let c1_i32_36 : BitVec 32 := 1#32
  let arg15 : BitVec 32 := Scf.iv c0_i32_34 c1_i32_36 k0_t1
  let c512_i32_77 : BitVec 32 := 512#32
  let v119 : BitVec 32 := Scalar.muli arg15 c512_i32_77
  let v120 : BitVec 32 := v119
  let v318 : Index := Scalar.indexCast v120
  ![560, v318.toNat]
@[reducible] def k0_t2_loop (i : grid0.Coords) : Scf.Loop 32 :=
  let c0_i32_34 : BitVec 32 := 0#32
  let arg2 : BitVec 32 := BitVec.ofNat 32 (i 2).val
  let c256_i32 : BitVec 32 := 256#32
  let v40 : BitVec 32 := Scalar.muli arg2 c256_i32
  let c0_i32 : BitVec 32 := 0#32
  let v42 : BitVec 1 := Scalar.cmpi .sgt v40 c0_i32
  let v43 : BitVec 32 := Scalar.extui v42
  let c0_i32_30 : BitVec 32 := 0#32
  let v44 : BitVec 1 := Scalar.cmpi .slt v40 c0_i32_30
  let v45 : BitVec 32 := Scalar.extui v44
  let v46 : BitVec 32 := Scalar.subi v43 v45
  let c512_i32 : BitVec 32 := 512#32
  let c0_i32_31 : BitVec 32 := 0#32
  let v47 : BitVec 1 := Scalar.cmpi .sgt c512_i32 c0_i32_31
  let v48 : BitVec 32 := Scalar.extui v47
  let c0_i32_32 : BitVec 32 := 0#32
  let v49 : BitVec 1 := Scalar.cmpi .slt c512_i32 c0_i32_32
  let v50 : BitVec 32 := Scalar.extui v49
  let v51 : BitVec 32 := Scalar.subi v48 v50
  let v52 : BitVec 1 := Scalar.cmpi .ne v46 v51
  let v53 : BitVec 32 := Scalar.remsi v40 c512_i32
  let c0_i32_33 : BitVec 32 := 0#32
  let v54 : BitVec 1 := Scalar.cmpi .ne v53 c0_i32_33
  let v55 : BitVec 1 := Scalar.andi v52 v54
  let v41 : BitVec 32 := Scalar.divsi v40 c512_i32
  let c1_i32 : BitVec 32 := 1#32
  let v56 : BitVec 32 := Scalar.subi v41 c1_i32
  let v57 : BitVec 32 := Scalar.select v55 v56 v41
  let v58 : BitVec 32 := Scalar.subi v57 c0_i32_34
  let c1_i32_35 : BitVec 32 := 1#32
  let v60 : BitVec 32 := Scalar.divsi v58 c1_i32_35
  let v61 : BitVec 32 := Scalar.muli v60 c1_i32_35
  let v62 : BitVec 32 := Scalar.addi c0_i32_34 v61
  let v59 : BitVec 32 := Scalar.addi c0_i32_34 v58
  let c1_i32_37 : BitVec 32 := 1#32
  ⟨v62, v59, c1_i32_37⟩
def k0_mult2 (i : grid0.Coords) (k0_t2 : Fin (k0_t2_loop i).trips) : BitVec 32 :=
  let c0_i32_34 : BitVec 32 := 0#32
  let arg2 : BitVec 32 := BitVec.ofNat 32 (i 2).val
  let c256_i32 : BitVec 32 := 256#32
  let v40 : BitVec 32 := Scalar.muli arg2 c256_i32
  let c0_i32 : BitVec 32 := 0#32
  let v42 : BitVec 1 := Scalar.cmpi .sgt v40 c0_i32
  let v43 : BitVec 32 := Scalar.extui v42
  let c0_i32_30 : BitVec 32 := 0#32
  let v44 : BitVec 1 := Scalar.cmpi .slt v40 c0_i32_30
  let v45 : BitVec 32 := Scalar.extui v44
  let v46 : BitVec 32 := Scalar.subi v43 v45
  let c512_i32 : BitVec 32 := 512#32
  let c0_i32_31 : BitVec 32 := 0#32
  let v47 : BitVec 1 := Scalar.cmpi .sgt c512_i32 c0_i32_31
  let v48 : BitVec 32 := Scalar.extui v47
  let c0_i32_32 : BitVec 32 := 0#32
  let v49 : BitVec 1 := Scalar.cmpi .slt c512_i32 c0_i32_32
  let v50 : BitVec 32 := Scalar.extui v49
  let v51 : BitVec 32 := Scalar.subi v48 v50
  let v52 : BitVec 1 := Scalar.cmpi .ne v46 v51
  let v53 : BitVec 32 := Scalar.remsi v40 c512_i32
  let c0_i32_33 : BitVec 32 := 0#32
  let v54 : BitVec 1 := Scalar.cmpi .ne v53 c0_i32_33
  let v55 : BitVec 1 := Scalar.andi v52 v54
  let v41 : BitVec 32 := Scalar.divsi v40 c512_i32
  let c1_i32 : BitVec 32 := 1#32
  let v56 : BitVec 32 := Scalar.subi v41 c1_i32
  let v57 : BitVec 32 := Scalar.select v55 v56 v41
  let v58 : BitVec 32 := Scalar.subi v57 c0_i32_34
  let c1_i32_35 : BitVec 32 := 1#32
  let v60 : BitVec 32 := Scalar.divsi v58 c1_i32_35
  let v61 : BitVec 32 := Scalar.muli v60 c1_i32_35
  let v62 : BitVec 32 := Scalar.addi c0_i32_34 v61
  let c1_i32_37 : BitVec 32 := 1#32
  let arg15 : BitVec 32 := Scf.iv v62 c1_i32_37 k0_t2
  let c512_i32_77 : BitVec 32 := 512#32
  let v119 : BitVec 32 := Scalar.muli arg15 c512_i32_77
  v119
def k0_off17 (i : grid0.Coords) (k0_t2 : Fin (k0_t2_loop i).trips) : Fin 2 → Nat :=
  let c0_i32_34 : BitVec 32 := 0#32
  let arg2 : BitVec 32 := BitVec.ofNat 32 (i 2).val
  let c256_i32 : BitVec 32 := 256#32
  let v40 : BitVec 32 := Scalar.muli arg2 c256_i32
  let c0_i32 : BitVec 32 := 0#32
  let v42 : BitVec 1 := Scalar.cmpi .sgt v40 c0_i32
  let v43 : BitVec 32 := Scalar.extui v42
  let c0_i32_30 : BitVec 32 := 0#32
  let v44 : BitVec 1 := Scalar.cmpi .slt v40 c0_i32_30
  let v45 : BitVec 32 := Scalar.extui v44
  let v46 : BitVec 32 := Scalar.subi v43 v45
  let c512_i32 : BitVec 32 := 512#32
  let c0_i32_31 : BitVec 32 := 0#32
  let v47 : BitVec 1 := Scalar.cmpi .sgt c512_i32 c0_i32_31
  let v48 : BitVec 32 := Scalar.extui v47
  let c0_i32_32 : BitVec 32 := 0#32
  let v49 : BitVec 1 := Scalar.cmpi .slt c512_i32 c0_i32_32
  let v50 : BitVec 32 := Scalar.extui v49
  let v51 : BitVec 32 := Scalar.subi v48 v50
  let v52 : BitVec 1 := Scalar.cmpi .ne v46 v51
  let v53 : BitVec 32 := Scalar.remsi v40 c512_i32
  let c0_i32_33 : BitVec 32 := 0#32
  let v54 : BitVec 1 := Scalar.cmpi .ne v53 c0_i32_33
  let v55 : BitVec 1 := Scalar.andi v52 v54
  let v41 : BitVec 32 := Scalar.divsi v40 c512_i32
  let c1_i32 : BitVec 32 := 1#32
  let v56 : BitVec 32 := Scalar.subi v41 c1_i32
  let v57 : BitVec 32 := Scalar.select v55 v56 v41
  let v58 : BitVec 32 := Scalar.subi v57 c0_i32_34
  let c1_i32_35 : BitVec 32 := 1#32
  let v60 : BitVec 32 := Scalar.divsi v58 c1_i32_35
  let v61 : BitVec 32 := Scalar.muli v60 c1_i32_35
  let v62 : BitVec 32 := Scalar.addi c0_i32_34 v61
  let c1_i32_37 : BitVec 32 := 1#32
  let arg15 : BitVec 32 := Scf.iv v62 c1_i32_37 k0_t2
  let c512_i32_77 : BitVec 32 := 512#32
  let v119 : BitVec 32 := Scalar.muli arg15 c512_i32_77
  let v120 : BitVec 32 := v119
  let v121 : Index := Scalar.indexCast v120
  let c0_78 : Index := 0#32
  ![v121.toNat, 0]
def k0_off18 (i : grid0.Coords) (k0_t2 : Fin (k0_t2_loop i).trips) : Fin 2 → Nat :=
  let c0_i32_34 : BitVec 32 := 0#32
  let arg2 : BitVec 32 := BitVec.ofNat 32 (i 2).val
  let c256_i32 : BitVec 32 := 256#32
  let v40 : BitVec 32 := Scalar.muli arg2 c256_i32
  let c0_i32 : BitVec 32 := 0#32
  let v42 : BitVec 1 := Scalar.cmpi .sgt v40 c0_i32
  let v43 : BitVec 32 := Scalar.extui v42
  let c0_i32_30 : BitVec 32 := 0#32
  let v44 : BitVec 1 := Scalar.cmpi .slt v40 c0_i32_30
  let v45 : BitVec 32 := Scalar.extui v44
  let v46 : BitVec 32 := Scalar.subi v43 v45
  let c512_i32 : BitVec 32 := 512#32
  let c0_i32_31 : BitVec 32 := 0#32
  let v47 : BitVec 1 := Scalar.cmpi .sgt c512_i32 c0_i32_31
  let v48 : BitVec 32 := Scalar.extui v47
  let c0_i32_32 : BitVec 32 := 0#32
  let v49 : BitVec 1 := Scalar.cmpi .slt c512_i32 c0_i32_32
  let v50 : BitVec 32 := Scalar.extui v49
  let v51 : BitVec 32 := Scalar.subi v48 v50
  let v52 : BitVec 1 := Scalar.cmpi .ne v46 v51
  let v53 : BitVec 32 := Scalar.remsi v40 c512_i32
  let c0_i32_33 : BitVec 32 := 0#32
  let v54 : BitVec 1 := Scalar.cmpi .ne v53 c0_i32_33
  let v55 : BitVec 1 := Scalar.andi v52 v54
  let v41 : BitVec 32 := Scalar.divsi v40 c512_i32
  let c1_i32 : BitVec 32 := 1#32
  let v56 : BitVec 32 := Scalar.subi v41 c1_i32
  let v57 : BitVec 32 := Scalar.select v55 v56 v41
  let v58 : BitVec 32 := Scalar.subi v57 c0_i32_34
  let c1_i32_35 : BitVec 32 := 1#32
  let v60 : BitVec 32 := Scalar.divsi v58 c1_i32_35
  let v61 : BitVec 32 := Scalar.muli v60 c1_i32_35
  let v62 : BitVec 32 := Scalar.addi c0_i32_34 v61
  let c1_i32_37 : BitVec 32 := 1#32
  let arg15 : BitVec 32 := Scf.iv v62 c1_i32_37 k0_t2
  let c512_i32_77 : BitVec 32 := 512#32
  let v119 : BitVec 32 := Scalar.muli arg15 c512_i32_77
  let v120 : BitVec 32 := v119
  let v127 : Index := Scalar.indexCast v120
  let c128_82 : Index := 128#32
  ![v127.toNat, 128]
def k0_off19 (i : grid0.Coords) (k0_t2 : Fin (k0_t2_loop i).trips) : Fin 2 → Nat :=
  let c0_i32_34 : BitVec 32 := 0#32
  let arg2 : BitVec 32 := BitVec.ofNat 32 (i 2).val
  let c256_i32 : BitVec 32 := 256#32
  let v40 : BitVec 32 := Scalar.muli arg2 c256_i32
  let c0_i32 : BitVec 32 := 0#32
  let v42 : BitVec 1 := Scalar.cmpi .sgt v40 c0_i32
  let v43 : BitVec 32 := Scalar.extui v42
  let c0_i32_30 : BitVec 32 := 0#32
  let v44 : BitVec 1 := Scalar.cmpi .slt v40 c0_i32_30
  let v45 : BitVec 32 := Scalar.extui v44
  let v46 : BitVec 32 := Scalar.subi v43 v45
  let c512_i32 : BitVec 32 := 512#32
  let c0_i32_31 : BitVec 32 := 0#32
  let v47 : BitVec 1 := Scalar.cmpi .sgt c512_i32 c0_i32_31
  let v48 : BitVec 32 := Scalar.extui v47
  let c0_i32_32 : BitVec 32 := 0#32
  let v49 : BitVec 1 := Scalar.cmpi .slt c512_i32 c0_i32_32
  let v50 : BitVec 32 := Scalar.extui v49
  let v51 : BitVec 32 := Scalar.subi v48 v50
  let v52 : BitVec 1 := Scalar.cmpi .ne v46 v51
  let v53 : BitVec 32 := Scalar.remsi v40 c512_i32
  let c0_i32_33 : BitVec 32 := 0#32
  let v54 : BitVec 1 := Scalar.cmpi .ne v53 c0_i32_33
  let v55 : BitVec 1 := Scalar.andi v52 v54
  let v41 : BitVec 32 := Scalar.divsi v40 c512_i32
  let c1_i32 : BitVec 32 := 1#32
  let v56 : BitVec 32 := Scalar.subi v41 c1_i32
  let v57 : BitVec 32 := Scalar.select v55 v56 v41
  let v58 : BitVec 32 := Scalar.subi v57 c0_i32_34
  let c1_i32_35 : BitVec 32 := 1#32
  let v60 : BitVec 32 := Scalar.divsi v58 c1_i32_35
  let v61 : BitVec 32 := Scalar.muli v60 c1_i32_35
  let v62 : BitVec 32 := Scalar.addi c0_i32_34 v61
  let c1_i32_37 : BitVec 32 := 1#32
  let arg15 : BitVec 32 := Scf.iv v62 c1_i32_37 k0_t2
  let c512_i32_77 : BitVec 32 := 512#32
  let v119 : BitVec 32 := Scalar.muli arg15 c512_i32_77
  let v120 : BitVec 32 := v119
  let v133 : Index := Scalar.indexCast v120
  let c256_86 : Index := 256#32
  ![v133.toNat, 256]
def k0_off20 (i : grid0.Coords) (k0_t2 : Fin (k0_t2_loop i).trips) : Fin 2 → Nat :=
  let c0_i32_34 : BitVec 32 := 0#32
  let arg2 : BitVec 32 := BitVec.ofNat 32 (i 2).val
  let c256_i32 : BitVec 32 := 256#32
  let v40 : BitVec 32 := Scalar.muli arg2 c256_i32
  let c0_i32 : BitVec 32 := 0#32
  let v42 : BitVec 1 := Scalar.cmpi .sgt v40 c0_i32
  let v43 : BitVec 32 := Scalar.extui v42
  let c0_i32_30 : BitVec 32 := 0#32
  let v44 : BitVec 1 := Scalar.cmpi .slt v40 c0_i32_30
  let v45 : BitVec 32 := Scalar.extui v44
  let v46 : BitVec 32 := Scalar.subi v43 v45
  let c512_i32 : BitVec 32 := 512#32
  let c0_i32_31 : BitVec 32 := 0#32
  let v47 : BitVec 1 := Scalar.cmpi .sgt c512_i32 c0_i32_31
  let v48 : BitVec 32 := Scalar.extui v47
  let c0_i32_32 : BitVec 32 := 0#32
  let v49 : BitVec 1 := Scalar.cmpi .slt c512_i32 c0_i32_32
  let v50 : BitVec 32 := Scalar.extui v49
  let v51 : BitVec 32 := Scalar.subi v48 v50
  let v52 : BitVec 1 := Scalar.cmpi .ne v46 v51
  let v53 : BitVec 32 := Scalar.remsi v40 c512_i32
  let c0_i32_33 : BitVec 32 := 0#32
  let v54 : BitVec 1 := Scalar.cmpi .ne v53 c0_i32_33
  let v55 : BitVec 1 := Scalar.andi v52 v54
  let v41 : BitVec 32 := Scalar.divsi v40 c512_i32
  let c1_i32 : BitVec 32 := 1#32
  let v56 : BitVec 32 := Scalar.subi v41 c1_i32
  let v57 : BitVec 32 := Scalar.select v55 v56 v41
  let v58 : BitVec 32 := Scalar.subi v57 c0_i32_34
  let c1_i32_35 : BitVec 32 := 1#32
  let v60 : BitVec 32 := Scalar.divsi v58 c1_i32_35
  let v61 : BitVec 32 := Scalar.muli v60 c1_i32_35
  let v62 : BitVec 32 := Scalar.addi c0_i32_34 v61
  let c1_i32_37 : BitVec 32 := 1#32
  let arg15 : BitVec 32 := Scf.iv v62 c1_i32_37 k0_t2
  let c512_i32_77 : BitVec 32 := 512#32
  let v119 : BitVec 32 := Scalar.muli arg15 c512_i32_77
  let v120 : BitVec 32 := v119
  let v139 : Index := Scalar.indexCast v120
  let c384_90 : Index := 384#32
  ![v139.toNat, 384]
def k0_off21 (i : grid0.Coords) (k0_t2 : Fin (k0_t2_loop i).trips) : Fin 2 → Nat :=
  let c0_i32_34 : BitVec 32 := 0#32
  let arg2 : BitVec 32 := BitVec.ofNat 32 (i 2).val
  let c256_i32 : BitVec 32 := 256#32
  let v40 : BitVec 32 := Scalar.muli arg2 c256_i32
  let c0_i32 : BitVec 32 := 0#32
  let v42 : BitVec 1 := Scalar.cmpi .sgt v40 c0_i32
  let v43 : BitVec 32 := Scalar.extui v42
  let c0_i32_30 : BitVec 32 := 0#32
  let v44 : BitVec 1 := Scalar.cmpi .slt v40 c0_i32_30
  let v45 : BitVec 32 := Scalar.extui v44
  let v46 : BitVec 32 := Scalar.subi v43 v45
  let c512_i32 : BitVec 32 := 512#32
  let c0_i32_31 : BitVec 32 := 0#32
  let v47 : BitVec 1 := Scalar.cmpi .sgt c512_i32 c0_i32_31
  let v48 : BitVec 32 := Scalar.extui v47
  let c0_i32_32 : BitVec 32 := 0#32
  let v49 : BitVec 1 := Scalar.cmpi .slt c512_i32 c0_i32_32
  let v50 : BitVec 32 := Scalar.extui v49
  let v51 : BitVec 32 := Scalar.subi v48 v50
  let v52 : BitVec 1 := Scalar.cmpi .ne v46 v51
  let v53 : BitVec 32 := Scalar.remsi v40 c512_i32
  let c0_i32_33 : BitVec 32 := 0#32
  let v54 : BitVec 1 := Scalar.cmpi .ne v53 c0_i32_33
  let v55 : BitVec 1 := Scalar.andi v52 v54
  let v41 : BitVec 32 := Scalar.divsi v40 c512_i32
  let c1_i32 : BitVec 32 := 1#32
  let v56 : BitVec 32 := Scalar.subi v41 c1_i32
  let v57 : BitVec 32 := Scalar.select v55 v56 v41
  let v58 : BitVec 32 := Scalar.subi v57 c0_i32_34
  let c1_i32_35 : BitVec 32 := 1#32
  let v60 : BitVec 32 := Scalar.divsi v58 c1_i32_35
  let v61 : BitVec 32 := Scalar.muli v60 c1_i32_35
  let v62 : BitVec 32 := Scalar.addi c0_i32_34 v61
  let c1_i32_37 : BitVec 32 := 1#32
  let arg15 : BitVec 32 := Scf.iv v62 c1_i32_37 k0_t2
  let c512_i32_77 : BitVec 32 := 512#32
  let v119 : BitVec 32 := Scalar.muli arg15 c512_i32_77
  let v120 : BitVec 32 := v119
  let v145 : Index := Scalar.indexCast v120
  let c512 : Index := 512#32
  ![v145.toNat, 512]
def k0_off22 (i : grid0.Coords) (k0_t2 : Fin (k0_t2_loop i).trips) : Fin 2 → Nat :=
  let c0_i32_34 : BitVec 32 := 0#32
  let arg2 : BitVec 32 := BitVec.ofNat 32 (i 2).val
  let c256_i32 : BitVec 32 := 256#32
  let v40 : BitVec 32 := Scalar.muli arg2 c256_i32
  let c0_i32 : BitVec 32 := 0#32
  let v42 : BitVec 1 := Scalar.cmpi .sgt v40 c0_i32
  let v43 : BitVec 32 := Scalar.extui v42
  let c0_i32_30 : BitVec 32 := 0#32
  let v44 : BitVec 1 := Scalar.cmpi .slt v40 c0_i32_30
  let v45 : BitVec 32 := Scalar.extui v44
  let v46 : BitVec 32 := Scalar.subi v43 v45
  let c512_i32 : BitVec 32 := 512#32
  let c0_i32_31 : BitVec 32 := 0#32
  let v47 : BitVec 1 := Scalar.cmpi .sgt c512_i32 c0_i32_31
  let v48 : BitVec 32 := Scalar.extui v47
  let c0_i32_32 : BitVec 32 := 0#32
  let v49 : BitVec 1 := Scalar.cmpi .slt c512_i32 c0_i32_32
  let v50 : BitVec 32 := Scalar.extui v49
  let v51 : BitVec 32 := Scalar.subi v48 v50
  let v52 : BitVec 1 := Scalar.cmpi .ne v46 v51
  let v53 : BitVec 32 := Scalar.remsi v40 c512_i32
  let c0_i32_33 : BitVec 32 := 0#32
  let v54 : BitVec 1 := Scalar.cmpi .ne v53 c0_i32_33
  let v55 : BitVec 1 := Scalar.andi v52 v54
  let v41 : BitVec 32 := Scalar.divsi v40 c512_i32
  let c1_i32 : BitVec 32 := 1#32
  let v56 : BitVec 32 := Scalar.subi v41 c1_i32
  let v57 : BitVec 32 := Scalar.select v55 v56 v41
  let v58 : BitVec 32 := Scalar.subi v57 c0_i32_34
  let c1_i32_35 : BitVec 32 := 1#32
  let v60 : BitVec 32 := Scalar.divsi v58 c1_i32_35
  let v61 : BitVec 32 := Scalar.muli v60 c1_i32_35
  let v62 : BitVec 32 := Scalar.addi c0_i32_34 v61
  let c1_i32_37 : BitVec 32 := 1#32
  let arg15 : BitVec 32 := Scf.iv v62 c1_i32_37 k0_t2
  let c512_i32_77 : BitVec 32 := 512#32
  let v119 : BitVec 32 := Scalar.muli arg15 c512_i32_77
  let v120 : BitVec 32 := v119
  let v151 : Index := Scalar.indexCast v120
  let c640 : Index := 640#32
  ![v151.toNat, 640]
def k0_off23 (i : grid0.Coords) (k0_t2 : Fin (k0_t2_loop i).trips) : Fin 2 → Nat :=
  let c0_i32_34 : BitVec 32 := 0#32
  let arg2 : BitVec 32 := BitVec.ofNat 32 (i 2).val
  let c256_i32 : BitVec 32 := 256#32
  let v40 : BitVec 32 := Scalar.muli arg2 c256_i32
  let c0_i32 : BitVec 32 := 0#32
  let v42 : BitVec 1 := Scalar.cmpi .sgt v40 c0_i32
  let v43 : BitVec 32 := Scalar.extui v42
  let c0_i32_30 : BitVec 32 := 0#32
  let v44 : BitVec 1 := Scalar.cmpi .slt v40 c0_i32_30
  let v45 : BitVec 32 := Scalar.extui v44
  let v46 : BitVec 32 := Scalar.subi v43 v45
  let c512_i32 : BitVec 32 := 512#32
  let c0_i32_31 : BitVec 32 := 0#32
  let v47 : BitVec 1 := Scalar.cmpi .sgt c512_i32 c0_i32_31
  let v48 : BitVec 32 := Scalar.extui v47
  let c0_i32_32 : BitVec 32 := 0#32
  let v49 : BitVec 1 := Scalar.cmpi .slt c512_i32 c0_i32_32
  let v50 : BitVec 32 := Scalar.extui v49
  let v51 : BitVec 32 := Scalar.subi v48 v50
  let v52 : BitVec 1 := Scalar.cmpi .ne v46 v51
  let v53 : BitVec 32 := Scalar.remsi v40 c512_i32
  let c0_i32_33 : BitVec 32 := 0#32
  let v54 : BitVec 1 := Scalar.cmpi .ne v53 c0_i32_33
  let v55 : BitVec 1 := Scalar.andi v52 v54
  let v41 : BitVec 32 := Scalar.divsi v40 c512_i32
  let c1_i32 : BitVec 32 := 1#32
  let v56 : BitVec 32 := Scalar.subi v41 c1_i32
  let v57 : BitVec 32 := Scalar.select v55 v56 v41
  let v58 : BitVec 32 := Scalar.subi v57 c0_i32_34
  let c1_i32_35 : BitVec 32 := 1#32
  let v60 : BitVec 32 := Scalar.divsi v58 c1_i32_35
  let v61 : BitVec 32 := Scalar.muli v60 c1_i32_35
  let v62 : BitVec 32 := Scalar.addi c0_i32_34 v61
  let c1_i32_37 : BitVec 32 := 1#32
  let arg15 : BitVec 32 := Scf.iv v62 c1_i32_37 k0_t2
  let c512_i32_77 : BitVec 32 := 512#32
  let v119 : BitVec 32 := Scalar.muli arg15 c512_i32_77
  let v120 : BitVec 32 := v119
  let v157 : Index := Scalar.indexCast v120
  let c768 : Index := 768#32
  ![v157.toNat, 768]
def k0_off24 (i : grid0.Coords) (k0_t2 : Fin (k0_t2_loop i).trips) : Fin 2 → Nat :=
  let c0_i32_34 : BitVec 32 := 0#32
  let arg2 : BitVec 32 := BitVec.ofNat 32 (i 2).val
  let c256_i32 : BitVec 32 := 256#32
  let v40 : BitVec 32 := Scalar.muli arg2 c256_i32
  let c0_i32 : BitVec 32 := 0#32
  let v42 : BitVec 1 := Scalar.cmpi .sgt v40 c0_i32
  let v43 : BitVec 32 := Scalar.extui v42
  let c0_i32_30 : BitVec 32 := 0#32
  let v44 : BitVec 1 := Scalar.cmpi .slt v40 c0_i32_30
  let v45 : BitVec 32 := Scalar.extui v44
  let v46 : BitVec 32 := Scalar.subi v43 v45
  let c512_i32 : BitVec 32 := 512#32
  let c0_i32_31 : BitVec 32 := 0#32
  let v47 : BitVec 1 := Scalar.cmpi .sgt c512_i32 c0_i32_31
  let v48 : BitVec 32 := Scalar.extui v47
  let c0_i32_32 : BitVec 32 := 0#32
  let v49 : BitVec 1 := Scalar.cmpi .slt c512_i32 c0_i32_32
  let v50 : BitVec 32 := Scalar.extui v49
  let v51 : BitVec 32 := Scalar.subi v48 v50
  let v52 : BitVec 1 := Scalar.cmpi .ne v46 v51
  let v53 : BitVec 32 := Scalar.remsi v40 c512_i32
  let c0_i32_33 : BitVec 32 := 0#32
  let v54 : BitVec 1 := Scalar.cmpi .ne v53 c0_i32_33
  let v55 : BitVec 1 := Scalar.andi v52 v54
  let v41 : BitVec 32 := Scalar.divsi v40 c512_i32
  let c1_i32 : BitVec 32 := 1#32
  let v56 : BitVec 32 := Scalar.subi v41 c1_i32
  let v57 : BitVec 32 := Scalar.select v55 v56 v41
  let v58 : BitVec 32 := Scalar.subi v57 c0_i32_34
  let c1_i32_35 : BitVec 32 := 1#32
  let v60 : BitVec 32 := Scalar.divsi v58 c1_i32_35
  let v61 : BitVec 32 := Scalar.muli v60 c1_i32_35
  let v62 : BitVec 32 := Scalar.addi c0_i32_34 v61
  let c1_i32_37 : BitVec 32 := 1#32
  let arg15 : BitVec 32 := Scf.iv v62 c1_i32_37 k0_t2
  let c512_i32_77 : BitVec 32 := 512#32
  let v119 : BitVec 32 := Scalar.muli arg15 c512_i32_77
  let v120 : BitVec 32 := v119
  let v163 : Index := Scalar.indexCast v120
  let c896 : Index := 896#32
  ![v163.toNat, 896]
def k0_off25 (i : grid0.Coords) (k0_t2 : Fin (k0_t2_loop i).trips) : Fin 2 → Nat :=
  let c0_114 : Index := 0#32
  let c0_i32_34 : BitVec 32 := 0#32
  let arg2 : BitVec 32 := BitVec.ofNat 32 (i 2).val
  let c256_i32 : BitVec 32 := 256#32
  let v40 : BitVec 32 := Scalar.muli arg2 c256_i32
  let c0_i32 : BitVec 32 := 0#32
  let v42 : BitVec 1 := Scalar.cmpi .sgt v40 c0_i32
  let v43 : BitVec 32 := Scalar.extui v42
  let c0_i32_30 : BitVec 32 := 0#32
  let v44 : BitVec 1 := Scalar.cmpi .slt v40 c0_i32_30
  let v45 : BitVec 32 := Scalar.extui v44
  let v46 : BitVec 32 := Scalar.subi v43 v45
  let c512_i32 : BitVec 32 := 512#32
  let c0_i32_31 : BitVec 32 := 0#32
  let v47 : BitVec 1 := Scalar.cmpi .sgt c512_i32 c0_i32_31
  let v48 : BitVec 32 := Scalar.extui v47
  let c0_i32_32 : BitVec 32 := 0#32
  let v49 : BitVec 1 := Scalar.cmpi .slt c512_i32 c0_i32_32
  let v50 : BitVec 32 := Scalar.extui v49
  let v51 : BitVec 32 := Scalar.subi v48 v50
  let v52 : BitVec 1 := Scalar.cmpi .ne v46 v51
  let v53 : BitVec 32 := Scalar.remsi v40 c512_i32
  let c0_i32_33 : BitVec 32 := 0#32
  let v54 : BitVec 1 := Scalar.cmpi .ne v53 c0_i32_33
  let v55 : BitVec 1 := Scalar.andi v52 v54
  let v41 : BitVec 32 := Scalar.divsi v40 c512_i32
  let c1_i32 : BitVec 32 := 1#32
  let v56 : BitVec 32 := Scalar.subi v41 c1_i32
  let v57 : BitVec 32 := Scalar.select v55 v56 v41
  let v58 : BitVec 32 := Scalar.subi v57 c0_i32_34
  let c1_i32_35 : BitVec 32 := 1#32
  let v60 : BitVec 32 := Scalar.divsi v58 c1_i32_35
  let v61 : BitVec 32 := Scalar.muli v60 c1_i32_35
  let v62 : BitVec 32 := Scalar.addi c0_i32_34 v61
  let c1_i32_37 : BitVec 32 := 1#32
  let arg15 : BitVec 32 := Scf.iv v62 c1_i32_37 k0_t2
  let c512_i32_77 : BitVec 32 := 512#32
  let v119 : BitVec 32 := Scalar.muli arg15 c512_i32_77
  let v120 : BitVec 32 := v119
  let v241 : Index := Scalar.indexCast v120
  ![0, v241.toNat]
def k0_off26 (i : grid0.Coords) (k0_t2 : Fin (k0_t2_loop i).trips) : Fin 2 → Nat :=
  let c80 : Index := 80#32
  let c0_i32_34 : BitVec 32 := 0#32
  let arg2 : BitVec 32 := BitVec.ofNat 32 (i 2).val
  let c256_i32 : BitVec 32 := 256#32
  let v40 : BitVec 32 := Scalar.muli arg2 c256_i32
  let c0_i32 : BitVec 32 := 0#32
  let v42 : BitVec 1 := Scalar.cmpi .sgt v40 c0_i32
  let v43 : BitVec 32 := Scalar.extui v42
  let c0_i32_30 : BitVec 32 := 0#32
  let v44 : BitVec 1 := Scalar.cmpi .slt v40 c0_i32_30
  let v45 : BitVec 32 := Scalar.extui v44
  let v46 : BitVec 32 := Scalar.subi v43 v45
  let c512_i32 : BitVec 32 := 512#32
  let c0_i32_31 : BitVec 32 := 0#32
  let v47 : BitVec 1 := Scalar.cmpi .sgt c512_i32 c0_i32_31
  let v48 : BitVec 32 := Scalar.extui v47
  let c0_i32_32 : BitVec 32 := 0#32
  let v49 : BitVec 1 := Scalar.cmpi .slt c512_i32 c0_i32_32
  let v50 : BitVec 32 := Scalar.extui v49
  let v51 : BitVec 32 := Scalar.subi v48 v50
  let v52 : BitVec 1 := Scalar.cmpi .ne v46 v51
  let v53 : BitVec 32 := Scalar.remsi v40 c512_i32
  let c0_i32_33 : BitVec 32 := 0#32
  let v54 : BitVec 1 := Scalar.cmpi .ne v53 c0_i32_33
  let v55 : BitVec 1 := Scalar.andi v52 v54
  let v41 : BitVec 32 := Scalar.divsi v40 c512_i32
  let c1_i32 : BitVec 32 := 1#32
  let v56 : BitVec 32 := Scalar.subi v41 c1_i32
  let v57 : BitVec 32 := Scalar.select v55 v56 v41
  let v58 : BitVec 32 := Scalar.subi v57 c0_i32_34
  let c1_i32_35 : BitVec 32 := 1#32
  let v60 : BitVec 32 := Scalar.divsi v58 c1_i32_35
  let v61 : BitVec 32 := Scalar.muli v60 c1_i32_35
  let v62 : BitVec 32 := Scalar.addi c0_i32_34 v61
  let c1_i32_37 : BitVec 32 := 1#32
  let arg15 : BitVec 32 := Scf.iv v62 c1_i32_37 k0_t2
  let c512_i32_77 : BitVec 32 := 512#32
  let v119 : BitVec 32 := Scalar.muli arg15 c512_i32_77
  let v120 : BitVec 32 := v119
  let v252 : Index := Scalar.indexCast v120
  ![80, v252.toNat]
def k0_off27 (i : grid0.Coords) (k0_t2 : Fin (k0_t2_loop i).trips) : Fin 2 → Nat :=
  let c160 : Index := 160#32
  let c0_i32_34 : BitVec 32 := 0#32
  let arg2 : BitVec 32 := BitVec.ofNat 32 (i 2).val
  let c256_i32 : BitVec 32 := 256#32
  let v40 : BitVec 32 := Scalar.muli arg2 c256_i32
  let c0_i32 : BitVec 32 := 0#32
  let v42 : BitVec 1 := Scalar.cmpi .sgt v40 c0_i32
  let v43 : BitVec 32 := Scalar.extui v42
  let c0_i32_30 : BitVec 32 := 0#32
  let v44 : BitVec 1 := Scalar.cmpi .slt v40 c0_i32_30
  let v45 : BitVec 32 := Scalar.extui v44
  let v46 : BitVec 32 := Scalar.subi v43 v45
  let c512_i32 : BitVec 32 := 512#32
  let c0_i32_31 : BitVec 32 := 0#32
  let v47 : BitVec 1 := Scalar.cmpi .sgt c512_i32 c0_i32_31
  let v48 : BitVec 32 := Scalar.extui v47
  let c0_i32_32 : BitVec 32 := 0#32
  let v49 : BitVec 1 := Scalar.cmpi .slt c512_i32 c0_i32_32
  let v50 : BitVec 32 := Scalar.extui v49
  let v51 : BitVec 32 := Scalar.subi v48 v50
  let v52 : BitVec 1 := Scalar.cmpi .ne v46 v51
  let v53 : BitVec 32 := Scalar.remsi v40 c512_i32
  let c0_i32_33 : BitVec 32 := 0#32
  let v54 : BitVec 1 := Scalar.cmpi .ne v53 c0_i32_33
  let v55 : BitVec 1 := Scalar.andi v52 v54
  let v41 : BitVec 32 := Scalar.divsi v40 c512_i32
  let c1_i32 : BitVec 32 := 1#32
  let v56 : BitVec 32 := Scalar.subi v41 c1_i32
  let v57 : BitVec 32 := Scalar.select v55 v56 v41
  let v58 : BitVec 32 := Scalar.subi v57 c0_i32_34
  let c1_i32_35 : BitVec 32 := 1#32
  let v60 : BitVec 32 := Scalar.divsi v58 c1_i32_35
  let v61 : BitVec 32 := Scalar.muli v60 c1_i32_35
  let v62 : BitVec 32 := Scalar.addi c0_i32_34 v61
  let c1_i32_37 : BitVec 32 := 1#32
  let arg15 : BitVec 32 := Scf.iv v62 c1_i32_37 k0_t2
  let c512_i32_77 : BitVec 32 := 512#32
  let v119 : BitVec 32 := Scalar.muli arg15 c512_i32_77
  let v120 : BitVec 32 := v119
  let v263 : Index := Scalar.indexCast v120
  ![160, v263.toNat]
def k0_off28 (i : grid0.Coords) (k0_t2 : Fin (k0_t2_loop i).trips) : Fin 2 → Nat :=
  let c240 : Index := 240#32
  let c0_i32_34 : BitVec 32 := 0#32
  let arg2 : BitVec 32 := BitVec.ofNat 32 (i 2).val
  let c256_i32 : BitVec 32 := 256#32
  let v40 : BitVec 32 := Scalar.muli arg2 c256_i32
  let c0_i32 : BitVec 32 := 0#32
  let v42 : BitVec 1 := Scalar.cmpi .sgt v40 c0_i32
  let v43 : BitVec 32 := Scalar.extui v42
  let c0_i32_30 : BitVec 32 := 0#32
  let v44 : BitVec 1 := Scalar.cmpi .slt v40 c0_i32_30
  let v45 : BitVec 32 := Scalar.extui v44
  let v46 : BitVec 32 := Scalar.subi v43 v45
  let c512_i32 : BitVec 32 := 512#32
  let c0_i32_31 : BitVec 32 := 0#32
  let v47 : BitVec 1 := Scalar.cmpi .sgt c512_i32 c0_i32_31
  let v48 : BitVec 32 := Scalar.extui v47
  let c0_i32_32 : BitVec 32 := 0#32
  let v49 : BitVec 1 := Scalar.cmpi .slt c512_i32 c0_i32_32
  let v50 : BitVec 32 := Scalar.extui v49
  let v51 : BitVec 32 := Scalar.subi v48 v50
  let v52 : BitVec 1 := Scalar.cmpi .ne v46 v51
  let v53 : BitVec 32 := Scalar.remsi v40 c512_i32
  let c0_i32_33 : BitVec 32 := 0#32
  let v54 : BitVec 1 := Scalar.cmpi .ne v53 c0_i32_33
  let v55 : BitVec 1 := Scalar.andi v52 v54
  let v41 : BitVec 32 := Scalar.divsi v40 c512_i32
  let c1_i32 : BitVec 32 := 1#32
  let v56 : BitVec 32 := Scalar.subi v41 c1_i32
  let v57 : BitVec 32 := Scalar.select v55 v56 v41
  let v58 : BitVec 32 := Scalar.subi v57 c0_i32_34
  let c1_i32_35 : BitVec 32 := 1#32
  let v60 : BitVec 32 := Scalar.divsi v58 c1_i32_35
  let v61 : BitVec 32 := Scalar.muli v60 c1_i32_35
  let v62 : BitVec 32 := Scalar.addi c0_i32_34 v61
  let c1_i32_37 : BitVec 32 := 1#32
  let arg15 : BitVec 32 := Scf.iv v62 c1_i32_37 k0_t2
  let c512_i32_77 : BitVec 32 := 512#32
  let v119 : BitVec 32 := Scalar.muli arg15 c512_i32_77
  let v120 : BitVec 32 := v119
  let v274 : Index := Scalar.indexCast v120
  ![240, v274.toNat]
def k0_off29 (i : grid0.Coords) (k0_t2 : Fin (k0_t2_loop i).trips) : Fin 2 → Nat :=
  let c320 : Index := 320#32
  let c0_i32_34 : BitVec 32 := 0#32
  let arg2 : BitVec 32 := BitVec.ofNat 32 (i 2).val
  let c256_i32 : BitVec 32 := 256#32
  let v40 : BitVec 32 := Scalar.muli arg2 c256_i32
  let c0_i32 : BitVec 32 := 0#32
  let v42 : BitVec 1 := Scalar.cmpi .sgt v40 c0_i32
  let v43 : BitVec 32 := Scalar.extui v42
  let c0_i32_30 : BitVec 32 := 0#32
  let v44 : BitVec 1 := Scalar.cmpi .slt v40 c0_i32_30
  let v45 : BitVec 32 := Scalar.extui v44
  let v46 : BitVec 32 := Scalar.subi v43 v45
  let c512_i32 : BitVec 32 := 512#32
  let c0_i32_31 : BitVec 32 := 0#32
  let v47 : BitVec 1 := Scalar.cmpi .sgt c512_i32 c0_i32_31
  let v48 : BitVec 32 := Scalar.extui v47
  let c0_i32_32 : BitVec 32 := 0#32
  let v49 : BitVec 1 := Scalar.cmpi .slt c512_i32 c0_i32_32
  let v50 : BitVec 32 := Scalar.extui v49
  let v51 : BitVec 32 := Scalar.subi v48 v50
  let v52 : BitVec 1 := Scalar.cmpi .ne v46 v51
  let v53 : BitVec 32 := Scalar.remsi v40 c512_i32
  let c0_i32_33 : BitVec 32 := 0#32
  let v54 : BitVec 1 := Scalar.cmpi .ne v53 c0_i32_33
  let v55 : BitVec 1 := Scalar.andi v52 v54
  let v41 : BitVec 32 := Scalar.divsi v40 c512_i32
  let c1_i32 : BitVec 32 := 1#32
  let v56 : BitVec 32 := Scalar.subi v41 c1_i32
  let v57 : BitVec 32 := Scalar.select v55 v56 v41
  let v58 : BitVec 32 := Scalar.subi v57 c0_i32_34
  let c1_i32_35 : BitVec 32 := 1#32
  let v60 : BitVec 32 := Scalar.divsi v58 c1_i32_35
  let v61 : BitVec 32 := Scalar.muli v60 c1_i32_35
  let v62 : BitVec 32 := Scalar.addi c0_i32_34 v61
  let c1_i32_37 : BitVec 32 := 1#32
  let arg15 : BitVec 32 := Scf.iv v62 c1_i32_37 k0_t2
  let c512_i32_77 : BitVec 32 := 512#32
  let v119 : BitVec 32 := Scalar.muli arg15 c512_i32_77
  let v120 : BitVec 32 := v119
  let v285 : Index := Scalar.indexCast v120
  ![320, v285.toNat]
def k0_off30 (i : grid0.Coords) (k0_t2 : Fin (k0_t2_loop i).trips) : Fin 2 → Nat :=
  let c400 : Index := 400#32
  let c0_i32_34 : BitVec 32 := 0#32
  let arg2 : BitVec 32 := BitVec.ofNat 32 (i 2).val
  let c256_i32 : BitVec 32 := 256#32
  let v40 : BitVec 32 := Scalar.muli arg2 c256_i32
  let c0_i32 : BitVec 32 := 0#32
  let v42 : BitVec 1 := Scalar.cmpi .sgt v40 c0_i32
  let v43 : BitVec 32 := Scalar.extui v42
  let c0_i32_30 : BitVec 32 := 0#32
  let v44 : BitVec 1 := Scalar.cmpi .slt v40 c0_i32_30
  let v45 : BitVec 32 := Scalar.extui v44
  let v46 : BitVec 32 := Scalar.subi v43 v45
  let c512_i32 : BitVec 32 := 512#32
  let c0_i32_31 : BitVec 32 := 0#32
  let v47 : BitVec 1 := Scalar.cmpi .sgt c512_i32 c0_i32_31
  let v48 : BitVec 32 := Scalar.extui v47
  let c0_i32_32 : BitVec 32 := 0#32
  let v49 : BitVec 1 := Scalar.cmpi .slt c512_i32 c0_i32_32
  let v50 : BitVec 32 := Scalar.extui v49
  let v51 : BitVec 32 := Scalar.subi v48 v50
  let v52 : BitVec 1 := Scalar.cmpi .ne v46 v51
  let v53 : BitVec 32 := Scalar.remsi v40 c512_i32
  let c0_i32_33 : BitVec 32 := 0#32
  let v54 : BitVec 1 := Scalar.cmpi .ne v53 c0_i32_33
  let v55 : BitVec 1 := Scalar.andi v52 v54
  let v41 : BitVec 32 := Scalar.divsi v40 c512_i32
  let c1_i32 : BitVec 32 := 1#32
  let v56 : BitVec 32 := Scalar.subi v41 c1_i32
  let v57 : BitVec 32 := Scalar.select v55 v56 v41
  let v58 : BitVec 32 := Scalar.subi v57 c0_i32_34
  let c1_i32_35 : BitVec 32 := 1#32
  let v60 : BitVec 32 := Scalar.divsi v58 c1_i32_35
  let v61 : BitVec 32 := Scalar.muli v60 c1_i32_35
  let v62 : BitVec 32 := Scalar.addi c0_i32_34 v61
  let c1_i32_37 : BitVec 32 := 1#32
  let arg15 : BitVec 32 := Scf.iv v62 c1_i32_37 k0_t2
  let c512_i32_77 : BitVec 32 := 512#32
  let v119 : BitVec 32 := Scalar.muli arg15 c512_i32_77
  let v120 : BitVec 32 := v119
  let v296 : Index := Scalar.indexCast v120
  ![400, v296.toNat]
def k0_off31 (i : grid0.Coords) (k0_t2 : Fin (k0_t2_loop i).trips) : Fin 2 → Nat :=
  let c480 : Index := 480#32
  let c0_i32_34 : BitVec 32 := 0#32
  let arg2 : BitVec 32 := BitVec.ofNat 32 (i 2).val
  let c256_i32 : BitVec 32 := 256#32
  let v40 : BitVec 32 := Scalar.muli arg2 c256_i32
  let c0_i32 : BitVec 32 := 0#32
  let v42 : BitVec 1 := Scalar.cmpi .sgt v40 c0_i32
  let v43 : BitVec 32 := Scalar.extui v42
  let c0_i32_30 : BitVec 32 := 0#32
  let v44 : BitVec 1 := Scalar.cmpi .slt v40 c0_i32_30
  let v45 : BitVec 32 := Scalar.extui v44
  let v46 : BitVec 32 := Scalar.subi v43 v45
  let c512_i32 : BitVec 32 := 512#32
  let c0_i32_31 : BitVec 32 := 0#32
  let v47 : BitVec 1 := Scalar.cmpi .sgt c512_i32 c0_i32_31
  let v48 : BitVec 32 := Scalar.extui v47
  let c0_i32_32 : BitVec 32 := 0#32
  let v49 : BitVec 1 := Scalar.cmpi .slt c512_i32 c0_i32_32
  let v50 : BitVec 32 := Scalar.extui v49
  let v51 : BitVec 32 := Scalar.subi v48 v50
  let v52 : BitVec 1 := Scalar.cmpi .ne v46 v51
  let v53 : BitVec 32 := Scalar.remsi v40 c512_i32
  let c0_i32_33 : BitVec 32 := 0#32
  let v54 : BitVec 1 := Scalar.cmpi .ne v53 c0_i32_33
  let v55 : BitVec 1 := Scalar.andi v52 v54
  let v41 : BitVec 32 := Scalar.divsi v40 c512_i32
  let c1_i32 : BitVec 32 := 1#32
  let v56 : BitVec 32 := Scalar.subi v41 c1_i32
  let v57 : BitVec 32 := Scalar.select v55 v56 v41
  let v58 : BitVec 32 := Scalar.subi v57 c0_i32_34
  let c1_i32_35 : BitVec 32 := 1#32
  let v60 : BitVec 32 := Scalar.divsi v58 c1_i32_35
  let v61 : BitVec 32 := Scalar.muli v60 c1_i32_35
  let v62 : BitVec 32 := Scalar.addi c0_i32_34 v61
  let c1_i32_37 : BitVec 32 := 1#32
  let arg15 : BitVec 32 := Scf.iv v62 c1_i32_37 k0_t2
  let c512_i32_77 : BitVec 32 := 512#32
  let v119 : BitVec 32 := Scalar.muli arg15 c512_i32_77
  let v120 : BitVec 32 := v119
  let v307 : Index := Scalar.indexCast v120
  ![480, v307.toNat]
def k0_off32 (i : grid0.Coords) (k0_t2 : Fin (k0_t2_loop i).trips) : Fin 2 → Nat :=
  let c560 : Index := 560#32
  let c0_i32_34 : BitVec 32 := 0#32
  let arg2 : BitVec 32 := BitVec.ofNat 32 (i 2).val
  let c256_i32 : BitVec 32 := 256#32
  let v40 : BitVec 32 := Scalar.muli arg2 c256_i32
  let c0_i32 : BitVec 32 := 0#32
  let v42 : BitVec 1 := Scalar.cmpi .sgt v40 c0_i32
  let v43 : BitVec 32 := Scalar.extui v42
  let c0_i32_30 : BitVec 32 := 0#32
  let v44 : BitVec 1 := Scalar.cmpi .slt v40 c0_i32_30
  let v45 : BitVec 32 := Scalar.extui v44
  let v46 : BitVec 32 := Scalar.subi v43 v45
  let c512_i32 : BitVec 32 := 512#32
  let c0_i32_31 : BitVec 32 := 0#32
  let v47 : BitVec 1 := Scalar.cmpi .sgt c512_i32 c0_i32_31
  let v48 : BitVec 32 := Scalar.extui v47
  let c0_i32_32 : BitVec 32 := 0#32
  let v49 : BitVec 1 := Scalar.cmpi .slt c512_i32 c0_i32_32
  let v50 : BitVec 32 := Scalar.extui v49
  let v51 : BitVec 32 := Scalar.subi v48 v50
  let v52 : BitVec 1 := Scalar.cmpi .ne v46 v51
  let v53 : BitVec 32 := Scalar.remsi v40 c512_i32
  let c0_i32_33 : BitVec 32 := 0#32
  let v54 : BitVec 1 := Scalar.cmpi .ne v53 c0_i32_33
  let v55 : BitVec 1 := Scalar.andi v52 v54
  let v41 : BitVec 32 := Scalar.divsi v40 c512_i32
  let c1_i32 : BitVec 32 := 1#32
  let v56 : BitVec 32 := Scalar.subi v41 c1_i32
  let v57 : BitVec 32 := Scalar.select v55 v56 v41
  let v58 : BitVec 32 := Scalar.subi v57 c0_i32_34
  let c1_i32_35 : BitVec 32 := 1#32
  let v60 : BitVec 32 := Scalar.divsi v58 c1_i32_35
  let v61 : BitVec 32 := Scalar.muli v60 c1_i32_35
  let v62 : BitVec 32 := Scalar.addi c0_i32_34 v61
  let c1_i32_37 : BitVec 32 := 1#32
  let arg15 : BitVec 32 := Scf.iv v62 c1_i32_37 k0_t2
  let c512_i32_77 : BitVec 32 := 512#32
  let v119 : BitVec 32 := Scalar.muli arg15 c512_i32_77
  let v120 : BitVec 32 := v119
  let v318 : Index := Scalar.indexCast v120
  ![560, v318.toNat]
def k0_mult3 (i : grid0.Coords) : BitVec 32 :=
  let arg2 : BitVec 32 := BitVec.ofNat 32 (i 2).val
  let c256_i32 : BitVec 32 := 256#32
  let v40 : BitVec 32 := Scalar.muli arg2 c256_i32
  let c0_i32 : BitVec 32 := 0#32
  let v42 : BitVec 1 := Scalar.cmpi .sgt v40 c0_i32
  let v43 : BitVec 32 := Scalar.extui v42
  let c0_i32_30 : BitVec 32 := 0#32
  let v44 : BitVec 1 := Scalar.cmpi .slt v40 c0_i32_30
  let v45 : BitVec 32 := Scalar.extui v44
  let v46 : BitVec 32 := Scalar.subi v43 v45
  let c512_i32 : BitVec 32 := 512#32
  let c0_i32_31 : BitVec 32 := 0#32
  let v47 : BitVec 1 := Scalar.cmpi .sgt c512_i32 c0_i32_31
  let v48 : BitVec 32 := Scalar.extui v47
  let c0_i32_32 : BitVec 32 := 0#32
  let v49 : BitVec 1 := Scalar.cmpi .slt c512_i32 c0_i32_32
  let v50 : BitVec 32 := Scalar.extui v49
  let v51 : BitVec 32 := Scalar.subi v48 v50
  let v52 : BitVec 1 := Scalar.cmpi .ne v46 v51
  let v53 : BitVec 32 := Scalar.remsi v40 c512_i32
  let c0_i32_33 : BitVec 32 := 0#32
  let v54 : BitVec 1 := Scalar.cmpi .ne v53 c0_i32_33
  let v55 : BitVec 1 := Scalar.andi v52 v54
  let v41 : BitVec 32 := Scalar.divsi v40 c512_i32
  let c1_i32 : BitVec 32 := 1#32
  let v56 : BitVec 32 := Scalar.subi v41 c1_i32
  let v57 : BitVec 32 := Scalar.select v55 v56 v41
  let c512_i32_38 : BitVec 32 := 512#32
  let v65 : BitVec 32 := Scalar.muli v57 c512_i32_38
  v65
def k0_cond1 (i : grid0.Coords) : BitVec 1 :=
  let arg2 : BitVec 32 := BitVec.ofNat 32 (i 2).val
  let c256_i32 : BitVec 32 := 256#32
  let v40 : BitVec 32 := Scalar.muli arg2 c256_i32
  let c0_i32 : BitVec 32 := 0#32
  let v42 : BitVec 1 := Scalar.cmpi .sgt v40 c0_i32
  let v43 : BitVec 32 := Scalar.extui v42
  let c0_i32_30 : BitVec 32 := 0#32
  let v44 : BitVec 1 := Scalar.cmpi .slt v40 c0_i32_30
  let v45 : BitVec 32 := Scalar.extui v44
  let v46 : BitVec 32 := Scalar.subi v43 v45
  let c512_i32 : BitVec 32 := 512#32
  let c0_i32_31 : BitVec 32 := 0#32
  let v47 : BitVec 1 := Scalar.cmpi .sgt c512_i32 c0_i32_31
  let v48 : BitVec 32 := Scalar.extui v47
  let c0_i32_32 : BitVec 32 := 0#32
  let v49 : BitVec 1 := Scalar.cmpi .slt c512_i32 c0_i32_32
  let v50 : BitVec 32 := Scalar.extui v49
  let v51 : BitVec 32 := Scalar.subi v48 v50
  let v52 : BitVec 1 := Scalar.cmpi .ne v46 v51
  let v53 : BitVec 32 := Scalar.remsi v40 c512_i32
  let c0_i32_33 : BitVec 32 := 0#32
  let v54 : BitVec 1 := Scalar.cmpi .ne v53 c0_i32_33
  let v55 : BitVec 1 := Scalar.andi v52 v54
  let v41 : BitVec 32 := Scalar.divsi v40 c512_i32
  let c1_i32 : BitVec 32 := 1#32
  let v56 : BitVec 32 := Scalar.subi v41 c1_i32
  let v57 : BitVec 32 := Scalar.select v55 v56 v41
  let c512_i32_38 : BitVec 32 := 512#32
  let v65 : BitVec 32 := Scalar.muli v57 c512_i32_38
  let v66 : BitVec 32 := v65
  let c256_i32_39 : BitVec 32 := 256#32
  let v67 : BitVec 32 := Scalar.muli arg2 c256_i32_39
  let v68 : BitVec 1 := Scalar.cmpi .slt v66 v67
  let v69 : BitVec 32 := Scalar.extui v68
  let c0_i32_40 : BitVec 32 := 0#32
  let v70 : BitVec 1 := Scalar.cmpi .ne v69 c0_i32_40
  v70

def k0_off33 (i : grid0.Coords) : Fin 2 → Nat :=
  let arg2 : BitVec 32 := BitVec.ofNat 32 (i 2).val
  let c256_i32 : BitVec 32 := 256#32
  let v40 : BitVec 32 := Scalar.muli arg2 c256_i32
  let c0_i32 : BitVec 32 := 0#32
  let v42 : BitVec 1 := Scalar.cmpi .sgt v40 c0_i32
  let v43 : BitVec 32 := Scalar.extui v42
  let c0_i32_30 : BitVec 32 := 0#32
  let v44 : BitVec 1 := Scalar.cmpi .slt v40 c0_i32_30
  let v45 : BitVec 32 := Scalar.extui v44
  let v46 : BitVec 32 := Scalar.subi v43 v45
  let c512_i32 : BitVec 32 := 512#32
  let c0_i32_31 : BitVec 32 := 0#32
  let v47 : BitVec 1 := Scalar.cmpi .sgt c512_i32 c0_i32_31
  let v48 : BitVec 32 := Scalar.extui v47
  let c0_i32_32 : BitVec 32 := 0#32
  let v49 : BitVec 1 := Scalar.cmpi .slt c512_i32 c0_i32_32
  let v50 : BitVec 32 := Scalar.extui v49
  let v51 : BitVec 32 := Scalar.subi v48 v50
  let v52 : BitVec 1 := Scalar.cmpi .ne v46 v51
  let v53 : BitVec 32 := Scalar.remsi v40 c512_i32
  let c0_i32_33 : BitVec 32 := 0#32
  let v54 : BitVec 1 := Scalar.cmpi .ne v53 c0_i32_33
  let v55 : BitVec 1 := Scalar.andi v52 v54
  let v41 : BitVec 32 := Scalar.divsi v40 c512_i32
  let c1_i32 : BitVec 32 := 1#32
  let v56 : BitVec 32 := Scalar.subi v41 c1_i32
  let v57 : BitVec 32 := Scalar.select v55 v56 v41
  let c512_i32_38 : BitVec 32 := 512#32
  let v65 : BitVec 32 := Scalar.muli v57 c512_i32_38
  let v66 : BitVec 32 := v65
  let v119 : Index := Scalar.indexCast v66
  let c0_77 : Index := 0#32
  ![v119.toNat, 0]
def k0_off34 (i : grid0.Coords) : Fin 2 → Nat :=
  let arg2 : BitVec 32 := BitVec.ofNat 32 (i 2).val
  let c256_i32 : BitVec 32 := 256#32
  let v40 : BitVec 32 := Scalar.muli arg2 c256_i32
  let c0_i32 : BitVec 32 := 0#32
  let v42 : BitVec 1 := Scalar.cmpi .sgt v40 c0_i32
  let v43 : BitVec 32 := Scalar.extui v42
  let c0_i32_30 : BitVec 32 := 0#32
  let v44 : BitVec 1 := Scalar.cmpi .slt v40 c0_i32_30
  let v45 : BitVec 32 := Scalar.extui v44
  let v46 : BitVec 32 := Scalar.subi v43 v45
  let c512_i32 : BitVec 32 := 512#32
  let c0_i32_31 : BitVec 32 := 0#32
  let v47 : BitVec 1 := Scalar.cmpi .sgt c512_i32 c0_i32_31
  let v48 : BitVec 32 := Scalar.extui v47
  let c0_i32_32 : BitVec 32 := 0#32
  let v49 : BitVec 1 := Scalar.cmpi .slt c512_i32 c0_i32_32
  let v50 : BitVec 32 := Scalar.extui v49
  let v51 : BitVec 32 := Scalar.subi v48 v50
  let v52 : BitVec 1 := Scalar.cmpi .ne v46 v51
  let v53 : BitVec 32 := Scalar.remsi v40 c512_i32
  let c0_i32_33 : BitVec 32 := 0#32
  let v54 : BitVec 1 := Scalar.cmpi .ne v53 c0_i32_33
  let v55 : BitVec 1 := Scalar.andi v52 v54
  let v41 : BitVec 32 := Scalar.divsi v40 c512_i32
  let c1_i32 : BitVec 32 := 1#32
  let v56 : BitVec 32 := Scalar.subi v41 c1_i32
  let v57 : BitVec 32 := Scalar.select v55 v56 v41
  let c512_i32_38 : BitVec 32 := 512#32
  let v65 : BitVec 32 := Scalar.muli v57 c512_i32_38
  let v66 : BitVec 32 := v65
  let v125 : Index := Scalar.indexCast v66
  let c128_81 : Index := 128#32
  ![v125.toNat, 128]
def k0_off35 (i : grid0.Coords) : Fin 2 → Nat :=
  let arg2 : BitVec 32 := BitVec.ofNat 32 (i 2).val
  let c256_i32 : BitVec 32 := 256#32
  let v40 : BitVec 32 := Scalar.muli arg2 c256_i32
  let c0_i32 : BitVec 32 := 0#32
  let v42 : BitVec 1 := Scalar.cmpi .sgt v40 c0_i32
  let v43 : BitVec 32 := Scalar.extui v42
  let c0_i32_30 : BitVec 32 := 0#32
  let v44 : BitVec 1 := Scalar.cmpi .slt v40 c0_i32_30
  let v45 : BitVec 32 := Scalar.extui v44
  let v46 : BitVec 32 := Scalar.subi v43 v45
  let c512_i32 : BitVec 32 := 512#32
  let c0_i32_31 : BitVec 32 := 0#32
  let v47 : BitVec 1 := Scalar.cmpi .sgt c512_i32 c0_i32_31
  let v48 : BitVec 32 := Scalar.extui v47
  let c0_i32_32 : BitVec 32 := 0#32
  let v49 : BitVec 1 := Scalar.cmpi .slt c512_i32 c0_i32_32
  let v50 : BitVec 32 := Scalar.extui v49
  let v51 : BitVec 32 := Scalar.subi v48 v50
  let v52 : BitVec 1 := Scalar.cmpi .ne v46 v51
  let v53 : BitVec 32 := Scalar.remsi v40 c512_i32
  let c0_i32_33 : BitVec 32 := 0#32
  let v54 : BitVec 1 := Scalar.cmpi .ne v53 c0_i32_33
  let v55 : BitVec 1 := Scalar.andi v52 v54
  let v41 : BitVec 32 := Scalar.divsi v40 c512_i32
  let c1_i32 : BitVec 32 := 1#32
  let v56 : BitVec 32 := Scalar.subi v41 c1_i32
  let v57 : BitVec 32 := Scalar.select v55 v56 v41
  let c512_i32_38 : BitVec 32 := 512#32
  let v65 : BitVec 32 := Scalar.muli v57 c512_i32_38
  let v66 : BitVec 32 := v65
  let v131 : Index := Scalar.indexCast v66
  let c256_85 : Index := 256#32
  ![v131.toNat, 256]
def k0_off36 (i : grid0.Coords) : Fin 2 → Nat :=
  let arg2 : BitVec 32 := BitVec.ofNat 32 (i 2).val
  let c256_i32 : BitVec 32 := 256#32
  let v40 : BitVec 32 := Scalar.muli arg2 c256_i32
  let c0_i32 : BitVec 32 := 0#32
  let v42 : BitVec 1 := Scalar.cmpi .sgt v40 c0_i32
  let v43 : BitVec 32 := Scalar.extui v42
  let c0_i32_30 : BitVec 32 := 0#32
  let v44 : BitVec 1 := Scalar.cmpi .slt v40 c0_i32_30
  let v45 : BitVec 32 := Scalar.extui v44
  let v46 : BitVec 32 := Scalar.subi v43 v45
  let c512_i32 : BitVec 32 := 512#32
  let c0_i32_31 : BitVec 32 := 0#32
  let v47 : BitVec 1 := Scalar.cmpi .sgt c512_i32 c0_i32_31
  let v48 : BitVec 32 := Scalar.extui v47
  let c0_i32_32 : BitVec 32 := 0#32
  let v49 : BitVec 1 := Scalar.cmpi .slt c512_i32 c0_i32_32
  let v50 : BitVec 32 := Scalar.extui v49
  let v51 : BitVec 32 := Scalar.subi v48 v50
  let v52 : BitVec 1 := Scalar.cmpi .ne v46 v51
  let v53 : BitVec 32 := Scalar.remsi v40 c512_i32
  let c0_i32_33 : BitVec 32 := 0#32
  let v54 : BitVec 1 := Scalar.cmpi .ne v53 c0_i32_33
  let v55 : BitVec 1 := Scalar.andi v52 v54
  let v41 : BitVec 32 := Scalar.divsi v40 c512_i32
  let c1_i32 : BitVec 32 := 1#32
  let v56 : BitVec 32 := Scalar.subi v41 c1_i32
  let v57 : BitVec 32 := Scalar.select v55 v56 v41
  let c512_i32_38 : BitVec 32 := 512#32
  let v65 : BitVec 32 := Scalar.muli v57 c512_i32_38
  let v66 : BitVec 32 := v65
  let v137 : Index := Scalar.indexCast v66
  let c384_89 : Index := 384#32
  ![v137.toNat, 384]
def k0_off37 (i : grid0.Coords) : Fin 2 → Nat :=
  let arg2 : BitVec 32 := BitVec.ofNat 32 (i 2).val
  let c256_i32 : BitVec 32 := 256#32
  let v40 : BitVec 32 := Scalar.muli arg2 c256_i32
  let c0_i32 : BitVec 32 := 0#32
  let v42 : BitVec 1 := Scalar.cmpi .sgt v40 c0_i32
  let v43 : BitVec 32 := Scalar.extui v42
  let c0_i32_30 : BitVec 32 := 0#32
  let v44 : BitVec 1 := Scalar.cmpi .slt v40 c0_i32_30
  let v45 : BitVec 32 := Scalar.extui v44
  let v46 : BitVec 32 := Scalar.subi v43 v45
  let c512_i32 : BitVec 32 := 512#32
  let c0_i32_31 : BitVec 32 := 0#32
  let v47 : BitVec 1 := Scalar.cmpi .sgt c512_i32 c0_i32_31
  let v48 : BitVec 32 := Scalar.extui v47
  let c0_i32_32 : BitVec 32 := 0#32
  let v49 : BitVec 1 := Scalar.cmpi .slt c512_i32 c0_i32_32
  let v50 : BitVec 32 := Scalar.extui v49
  let v51 : BitVec 32 := Scalar.subi v48 v50
  let v52 : BitVec 1 := Scalar.cmpi .ne v46 v51
  let v53 : BitVec 32 := Scalar.remsi v40 c512_i32
  let c0_i32_33 : BitVec 32 := 0#32
  let v54 : BitVec 1 := Scalar.cmpi .ne v53 c0_i32_33
  let v55 : BitVec 1 := Scalar.andi v52 v54
  let v41 : BitVec 32 := Scalar.divsi v40 c512_i32
  let c1_i32 : BitVec 32 := 1#32
  let v56 : BitVec 32 := Scalar.subi v41 c1_i32
  let v57 : BitVec 32 := Scalar.select v55 v56 v41
  let c512_i32_38 : BitVec 32 := 512#32
  let v65 : BitVec 32 := Scalar.muli v57 c512_i32_38
  let v66 : BitVec 32 := v65
  let v143 : Index := Scalar.indexCast v66
  let c512 : Index := 512#32
  ![v143.toNat, 512]
def k0_off38 (i : grid0.Coords) : Fin 2 → Nat :=
  let arg2 : BitVec 32 := BitVec.ofNat 32 (i 2).val
  let c256_i32 : BitVec 32 := 256#32
  let v40 : BitVec 32 := Scalar.muli arg2 c256_i32
  let c0_i32 : BitVec 32 := 0#32
  let v42 : BitVec 1 := Scalar.cmpi .sgt v40 c0_i32
  let v43 : BitVec 32 := Scalar.extui v42
  let c0_i32_30 : BitVec 32 := 0#32
  let v44 : BitVec 1 := Scalar.cmpi .slt v40 c0_i32_30
  let v45 : BitVec 32 := Scalar.extui v44
  let v46 : BitVec 32 := Scalar.subi v43 v45
  let c512_i32 : BitVec 32 := 512#32
  let c0_i32_31 : BitVec 32 := 0#32
  let v47 : BitVec 1 := Scalar.cmpi .sgt c512_i32 c0_i32_31
  let v48 : BitVec 32 := Scalar.extui v47
  let c0_i32_32 : BitVec 32 := 0#32
  let v49 : BitVec 1 := Scalar.cmpi .slt c512_i32 c0_i32_32
  let v50 : BitVec 32 := Scalar.extui v49
  let v51 : BitVec 32 := Scalar.subi v48 v50
  let v52 : BitVec 1 := Scalar.cmpi .ne v46 v51
  let v53 : BitVec 32 := Scalar.remsi v40 c512_i32
  let c0_i32_33 : BitVec 32 := 0#32
  let v54 : BitVec 1 := Scalar.cmpi .ne v53 c0_i32_33
  let v55 : BitVec 1 := Scalar.andi v52 v54
  let v41 : BitVec 32 := Scalar.divsi v40 c512_i32
  let c1_i32 : BitVec 32 := 1#32
  let v56 : BitVec 32 := Scalar.subi v41 c1_i32
  let v57 : BitVec 32 := Scalar.select v55 v56 v41
  let c512_i32_38 : BitVec 32 := 512#32
  let v65 : BitVec 32 := Scalar.muli v57 c512_i32_38
  let v66 : BitVec 32 := v65
  let v149 : Index := Scalar.indexCast v66
  let c640 : Index := 640#32
  ![v149.toNat, 640]
def k0_off39 (i : grid0.Coords) : Fin 2 → Nat :=
  let arg2 : BitVec 32 := BitVec.ofNat 32 (i 2).val
  let c256_i32 : BitVec 32 := 256#32
  let v40 : BitVec 32 := Scalar.muli arg2 c256_i32
  let c0_i32 : BitVec 32 := 0#32
  let v42 : BitVec 1 := Scalar.cmpi .sgt v40 c0_i32
  let v43 : BitVec 32 := Scalar.extui v42
  let c0_i32_30 : BitVec 32 := 0#32
  let v44 : BitVec 1 := Scalar.cmpi .slt v40 c0_i32_30
  let v45 : BitVec 32 := Scalar.extui v44
  let v46 : BitVec 32 := Scalar.subi v43 v45
  let c512_i32 : BitVec 32 := 512#32
  let c0_i32_31 : BitVec 32 := 0#32
  let v47 : BitVec 1 := Scalar.cmpi .sgt c512_i32 c0_i32_31
  let v48 : BitVec 32 := Scalar.extui v47
  let c0_i32_32 : BitVec 32 := 0#32
  let v49 : BitVec 1 := Scalar.cmpi .slt c512_i32 c0_i32_32
  let v50 : BitVec 32 := Scalar.extui v49
  let v51 : BitVec 32 := Scalar.subi v48 v50
  let v52 : BitVec 1 := Scalar.cmpi .ne v46 v51
  let v53 : BitVec 32 := Scalar.remsi v40 c512_i32
  let c0_i32_33 : BitVec 32 := 0#32
  let v54 : BitVec 1 := Scalar.cmpi .ne v53 c0_i32_33
  let v55 : BitVec 1 := Scalar.andi v52 v54
  let v41 : BitVec 32 := Scalar.divsi v40 c512_i32
  let c1_i32 : BitVec 32 := 1#32
  let v56 : BitVec 32 := Scalar.subi v41 c1_i32
  let v57 : BitVec 32 := Scalar.select v55 v56 v41
  let c512_i32_38 : BitVec 32 := 512#32
  let v65 : BitVec 32 := Scalar.muli v57 c512_i32_38
  let v66 : BitVec 32 := v65
  let v155 : Index := Scalar.indexCast v66
  let c768 : Index := 768#32
  ![v155.toNat, 768]
def k0_off40 (i : grid0.Coords) : Fin 2 → Nat :=
  let arg2 : BitVec 32 := BitVec.ofNat 32 (i 2).val
  let c256_i32 : BitVec 32 := 256#32
  let v40 : BitVec 32 := Scalar.muli arg2 c256_i32
  let c0_i32 : BitVec 32 := 0#32
  let v42 : BitVec 1 := Scalar.cmpi .sgt v40 c0_i32
  let v43 : BitVec 32 := Scalar.extui v42
  let c0_i32_30 : BitVec 32 := 0#32
  let v44 : BitVec 1 := Scalar.cmpi .slt v40 c0_i32_30
  let v45 : BitVec 32 := Scalar.extui v44
  let v46 : BitVec 32 := Scalar.subi v43 v45
  let c512_i32 : BitVec 32 := 512#32
  let c0_i32_31 : BitVec 32 := 0#32
  let v47 : BitVec 1 := Scalar.cmpi .sgt c512_i32 c0_i32_31
  let v48 : BitVec 32 := Scalar.extui v47
  let c0_i32_32 : BitVec 32 := 0#32
  let v49 : BitVec 1 := Scalar.cmpi .slt c512_i32 c0_i32_32
  let v50 : BitVec 32 := Scalar.extui v49
  let v51 : BitVec 32 := Scalar.subi v48 v50
  let v52 : BitVec 1 := Scalar.cmpi .ne v46 v51
  let v53 : BitVec 32 := Scalar.remsi v40 c512_i32
  let c0_i32_33 : BitVec 32 := 0#32
  let v54 : BitVec 1 := Scalar.cmpi .ne v53 c0_i32_33
  let v55 : BitVec 1 := Scalar.andi v52 v54
  let v41 : BitVec 32 := Scalar.divsi v40 c512_i32
  let c1_i32 : BitVec 32 := 1#32
  let v56 : BitVec 32 := Scalar.subi v41 c1_i32
  let v57 : BitVec 32 := Scalar.select v55 v56 v41
  let c512_i32_38 : BitVec 32 := 512#32
  let v65 : BitVec 32 := Scalar.muli v57 c512_i32_38
  let v66 : BitVec 32 := v65
  let v161 : Index := Scalar.indexCast v66
  let c896 : Index := 896#32
  ![v161.toNat, 896]
def k0_off41 (i : grid0.Coords) : Fin 2 → Nat :=
  let c0_129 : Index := 0#32
  let arg2 : BitVec 32 := BitVec.ofNat 32 (i 2).val
  let c256_i32 : BitVec 32 := 256#32
  let v40 : BitVec 32 := Scalar.muli arg2 c256_i32
  let c0_i32 : BitVec 32 := 0#32
  let v42 : BitVec 1 := Scalar.cmpi .sgt v40 c0_i32
  let v43 : BitVec 32 := Scalar.extui v42
  let c0_i32_30 : BitVec 32 := 0#32
  let v44 : BitVec 1 := Scalar.cmpi .slt v40 c0_i32_30
  let v45 : BitVec 32 := Scalar.extui v44
  let v46 : BitVec 32 := Scalar.subi v43 v45
  let c512_i32 : BitVec 32 := 512#32
  let c0_i32_31 : BitVec 32 := 0#32
  let v47 : BitVec 1 := Scalar.cmpi .sgt c512_i32 c0_i32_31
  let v48 : BitVec 32 := Scalar.extui v47
  let c0_i32_32 : BitVec 32 := 0#32
  let v49 : BitVec 1 := Scalar.cmpi .slt c512_i32 c0_i32_32
  let v50 : BitVec 32 := Scalar.extui v49
  let v51 : BitVec 32 := Scalar.subi v48 v50
  let v52 : BitVec 1 := Scalar.cmpi .ne v46 v51
  let v53 : BitVec 32 := Scalar.remsi v40 c512_i32
  let c0_i32_33 : BitVec 32 := 0#32
  let v54 : BitVec 1 := Scalar.cmpi .ne v53 c0_i32_33
  let v55 : BitVec 1 := Scalar.andi v52 v54
  let v41 : BitVec 32 := Scalar.divsi v40 c512_i32
  let c1_i32 : BitVec 32 := 1#32
  let v56 : BitVec 32 := Scalar.subi v41 c1_i32
  let v57 : BitVec 32 := Scalar.select v55 v56 v41
  let c512_i32_38 : BitVec 32 := 512#32
  let v65 : BitVec 32 := Scalar.muli v57 c512_i32_38
  let v66 : BitVec 32 := v65
  let v319 : Index := Scalar.indexCast v66
  ![0, v319.toNat]
def k0_off42 (i : grid0.Coords) : Fin 2 → Nat :=
  let c80 : Index := 80#32
  let arg2 : BitVec 32 := BitVec.ofNat 32 (i 2).val
  let c256_i32 : BitVec 32 := 256#32
  let v40 : BitVec 32 := Scalar.muli arg2 c256_i32
  let c0_i32 : BitVec 32 := 0#32
  let v42 : BitVec 1 := Scalar.cmpi .sgt v40 c0_i32
  let v43 : BitVec 32 := Scalar.extui v42
  let c0_i32_30 : BitVec 32 := 0#32
  let v44 : BitVec 1 := Scalar.cmpi .slt v40 c0_i32_30
  let v45 : BitVec 32 := Scalar.extui v44
  let v46 : BitVec 32 := Scalar.subi v43 v45
  let c512_i32 : BitVec 32 := 512#32
  let c0_i32_31 : BitVec 32 := 0#32
  let v47 : BitVec 1 := Scalar.cmpi .sgt c512_i32 c0_i32_31
  let v48 : BitVec 32 := Scalar.extui v47
  let c0_i32_32 : BitVec 32 := 0#32
  let v49 : BitVec 1 := Scalar.cmpi .slt c512_i32 c0_i32_32
  let v50 : BitVec 32 := Scalar.extui v49
  let v51 : BitVec 32 := Scalar.subi v48 v50
  let v52 : BitVec 1 := Scalar.cmpi .ne v46 v51
  let v53 : BitVec 32 := Scalar.remsi v40 c512_i32
  let c0_i32_33 : BitVec 32 := 0#32
  let v54 : BitVec 1 := Scalar.cmpi .ne v53 c0_i32_33
  let v55 : BitVec 1 := Scalar.andi v52 v54
  let v41 : BitVec 32 := Scalar.divsi v40 c512_i32
  let c1_i32 : BitVec 32 := 1#32
  let v56 : BitVec 32 := Scalar.subi v41 c1_i32
  let v57 : BitVec 32 := Scalar.select v55 v56 v41
  let c512_i32_38 : BitVec 32 := 512#32
  let v65 : BitVec 32 := Scalar.muli v57 c512_i32_38
  let v66 : BitVec 32 := v65
  let v330 : Index := Scalar.indexCast v66
  ![80, v330.toNat]
def k0_off43 (i : grid0.Coords) : Fin 2 → Nat :=
  let c160 : Index := 160#32
  let arg2 : BitVec 32 := BitVec.ofNat 32 (i 2).val
  let c256_i32 : BitVec 32 := 256#32
  let v40 : BitVec 32 := Scalar.muli arg2 c256_i32
  let c0_i32 : BitVec 32 := 0#32
  let v42 : BitVec 1 := Scalar.cmpi .sgt v40 c0_i32
  let v43 : BitVec 32 := Scalar.extui v42
  let c0_i32_30 : BitVec 32 := 0#32
  let v44 : BitVec 1 := Scalar.cmpi .slt v40 c0_i32_30
  let v45 : BitVec 32 := Scalar.extui v44
  let v46 : BitVec 32 := Scalar.subi v43 v45
  let c512_i32 : BitVec 32 := 512#32
  let c0_i32_31 : BitVec 32 := 0#32
  let v47 : BitVec 1 := Scalar.cmpi .sgt c512_i32 c0_i32_31
  let v48 : BitVec 32 := Scalar.extui v47
  let c0_i32_32 : BitVec 32 := 0#32
  let v49 : BitVec 1 := Scalar.cmpi .slt c512_i32 c0_i32_32
  let v50 : BitVec 32 := Scalar.extui v49
  let v51 : BitVec 32 := Scalar.subi v48 v50
  let v52 : BitVec 1 := Scalar.cmpi .ne v46 v51
  let v53 : BitVec 32 := Scalar.remsi v40 c512_i32
  let c0_i32_33 : BitVec 32 := 0#32
  let v54 : BitVec 1 := Scalar.cmpi .ne v53 c0_i32_33
  let v55 : BitVec 1 := Scalar.andi v52 v54
  let v41 : BitVec 32 := Scalar.divsi v40 c512_i32
  let c1_i32 : BitVec 32 := 1#32
  let v56 : BitVec 32 := Scalar.subi v41 c1_i32
  let v57 : BitVec 32 := Scalar.select v55 v56 v41
  let c512_i32_38 : BitVec 32 := 512#32
  let v65 : BitVec 32 := Scalar.muli v57 c512_i32_38
  let v66 : BitVec 32 := v65
  let v341 : Index := Scalar.indexCast v66
  ![160, v341.toNat]
def k0_off44 (i : grid0.Coords) : Fin 2 → Nat :=
  let c240 : Index := 240#32
  let arg2 : BitVec 32 := BitVec.ofNat 32 (i 2).val
  let c256_i32 : BitVec 32 := 256#32
  let v40 : BitVec 32 := Scalar.muli arg2 c256_i32
  let c0_i32 : BitVec 32 := 0#32
  let v42 : BitVec 1 := Scalar.cmpi .sgt v40 c0_i32
  let v43 : BitVec 32 := Scalar.extui v42
  let c0_i32_30 : BitVec 32 := 0#32
  let v44 : BitVec 1 := Scalar.cmpi .slt v40 c0_i32_30
  let v45 : BitVec 32 := Scalar.extui v44
  let v46 : BitVec 32 := Scalar.subi v43 v45
  let c512_i32 : BitVec 32 := 512#32
  let c0_i32_31 : BitVec 32 := 0#32
  let v47 : BitVec 1 := Scalar.cmpi .sgt c512_i32 c0_i32_31
  let v48 : BitVec 32 := Scalar.extui v47
  let c0_i32_32 : BitVec 32 := 0#32
  let v49 : BitVec 1 := Scalar.cmpi .slt c512_i32 c0_i32_32
  let v50 : BitVec 32 := Scalar.extui v49
  let v51 : BitVec 32 := Scalar.subi v48 v50
  let v52 : BitVec 1 := Scalar.cmpi .ne v46 v51
  let v53 : BitVec 32 := Scalar.remsi v40 c512_i32
  let c0_i32_33 : BitVec 32 := 0#32
  let v54 : BitVec 1 := Scalar.cmpi .ne v53 c0_i32_33
  let v55 : BitVec 1 := Scalar.andi v52 v54
  let v41 : BitVec 32 := Scalar.divsi v40 c512_i32
  let c1_i32 : BitVec 32 := 1#32
  let v56 : BitVec 32 := Scalar.subi v41 c1_i32
  let v57 : BitVec 32 := Scalar.select v55 v56 v41
  let c512_i32_38 : BitVec 32 := 512#32
  let v65 : BitVec 32 := Scalar.muli v57 c512_i32_38
  let v66 : BitVec 32 := v65
  let v352 : Index := Scalar.indexCast v66
  ![240, v352.toNat]
def k0_off45 (i : grid0.Coords) : Fin 2 → Nat :=
  let c320 : Index := 320#32
  let arg2 : BitVec 32 := BitVec.ofNat 32 (i 2).val
  let c256_i32 : BitVec 32 := 256#32
  let v40 : BitVec 32 := Scalar.muli arg2 c256_i32
  let c0_i32 : BitVec 32 := 0#32
  let v42 : BitVec 1 := Scalar.cmpi .sgt v40 c0_i32
  let v43 : BitVec 32 := Scalar.extui v42
  let c0_i32_30 : BitVec 32 := 0#32
  let v44 : BitVec 1 := Scalar.cmpi .slt v40 c0_i32_30
  let v45 : BitVec 32 := Scalar.extui v44
  let v46 : BitVec 32 := Scalar.subi v43 v45
  let c512_i32 : BitVec 32 := 512#32
  let c0_i32_31 : BitVec 32 := 0#32
  let v47 : BitVec 1 := Scalar.cmpi .sgt c512_i32 c0_i32_31
  let v48 : BitVec 32 := Scalar.extui v47
  let c0_i32_32 : BitVec 32 := 0#32
  let v49 : BitVec 1 := Scalar.cmpi .slt c512_i32 c0_i32_32
  let v50 : BitVec 32 := Scalar.extui v49
  let v51 : BitVec 32 := Scalar.subi v48 v50
  let v52 : BitVec 1 := Scalar.cmpi .ne v46 v51
  let v53 : BitVec 32 := Scalar.remsi v40 c512_i32
  let c0_i32_33 : BitVec 32 := 0#32
  let v54 : BitVec 1 := Scalar.cmpi .ne v53 c0_i32_33
  let v55 : BitVec 1 := Scalar.andi v52 v54
  let v41 : BitVec 32 := Scalar.divsi v40 c512_i32
  let c1_i32 : BitVec 32 := 1#32
  let v56 : BitVec 32 := Scalar.subi v41 c1_i32
  let v57 : BitVec 32 := Scalar.select v55 v56 v41
  let c512_i32_38 : BitVec 32 := 512#32
  let v65 : BitVec 32 := Scalar.muli v57 c512_i32_38
  let v66 : BitVec 32 := v65
  let v363 : Index := Scalar.indexCast v66
  ![320, v363.toNat]
def k0_off46 (i : grid0.Coords) : Fin 2 → Nat :=
  let c400 : Index := 400#32
  let arg2 : BitVec 32 := BitVec.ofNat 32 (i 2).val
  let c256_i32 : BitVec 32 := 256#32
  let v40 : BitVec 32 := Scalar.muli arg2 c256_i32
  let c0_i32 : BitVec 32 := 0#32
  let v42 : BitVec 1 := Scalar.cmpi .sgt v40 c0_i32
  let v43 : BitVec 32 := Scalar.extui v42
  let c0_i32_30 : BitVec 32 := 0#32
  let v44 : BitVec 1 := Scalar.cmpi .slt v40 c0_i32_30
  let v45 : BitVec 32 := Scalar.extui v44
  let v46 : BitVec 32 := Scalar.subi v43 v45
  let c512_i32 : BitVec 32 := 512#32
  let c0_i32_31 : BitVec 32 := 0#32
  let v47 : BitVec 1 := Scalar.cmpi .sgt c512_i32 c0_i32_31
  let v48 : BitVec 32 := Scalar.extui v47
  let c0_i32_32 : BitVec 32 := 0#32
  let v49 : BitVec 1 := Scalar.cmpi .slt c512_i32 c0_i32_32
  let v50 : BitVec 32 := Scalar.extui v49
  let v51 : BitVec 32 := Scalar.subi v48 v50
  let v52 : BitVec 1 := Scalar.cmpi .ne v46 v51
  let v53 : BitVec 32 := Scalar.remsi v40 c512_i32
  let c0_i32_33 : BitVec 32 := 0#32
  let v54 : BitVec 1 := Scalar.cmpi .ne v53 c0_i32_33
  let v55 : BitVec 1 := Scalar.andi v52 v54
  let v41 : BitVec 32 := Scalar.divsi v40 c512_i32
  let c1_i32 : BitVec 32 := 1#32
  let v56 : BitVec 32 := Scalar.subi v41 c1_i32
  let v57 : BitVec 32 := Scalar.select v55 v56 v41
  let c512_i32_38 : BitVec 32 := 512#32
  let v65 : BitVec 32 := Scalar.muli v57 c512_i32_38
  let v66 : BitVec 32 := v65
  let v374 : Index := Scalar.indexCast v66
  ![400, v374.toNat]
def k0_off47 (i : grid0.Coords) : Fin 2 → Nat :=
  let c480 : Index := 480#32
  let arg2 : BitVec 32 := BitVec.ofNat 32 (i 2).val
  let c256_i32 : BitVec 32 := 256#32
  let v40 : BitVec 32 := Scalar.muli arg2 c256_i32
  let c0_i32 : BitVec 32 := 0#32
  let v42 : BitVec 1 := Scalar.cmpi .sgt v40 c0_i32
  let v43 : BitVec 32 := Scalar.extui v42
  let c0_i32_30 : BitVec 32 := 0#32
  let v44 : BitVec 1 := Scalar.cmpi .slt v40 c0_i32_30
  let v45 : BitVec 32 := Scalar.extui v44
  let v46 : BitVec 32 := Scalar.subi v43 v45
  let c512_i32 : BitVec 32 := 512#32
  let c0_i32_31 : BitVec 32 := 0#32
  let v47 : BitVec 1 := Scalar.cmpi .sgt c512_i32 c0_i32_31
  let v48 : BitVec 32 := Scalar.extui v47
  let c0_i32_32 : BitVec 32 := 0#32
  let v49 : BitVec 1 := Scalar.cmpi .slt c512_i32 c0_i32_32
  let v50 : BitVec 32 := Scalar.extui v49
  let v51 : BitVec 32 := Scalar.subi v48 v50
  let v52 : BitVec 1 := Scalar.cmpi .ne v46 v51
  let v53 : BitVec 32 := Scalar.remsi v40 c512_i32
  let c0_i32_33 : BitVec 32 := 0#32
  let v54 : BitVec 1 := Scalar.cmpi .ne v53 c0_i32_33
  let v55 : BitVec 1 := Scalar.andi v52 v54
  let v41 : BitVec 32 := Scalar.divsi v40 c512_i32
  let c1_i32 : BitVec 32 := 1#32
  let v56 : BitVec 32 := Scalar.subi v41 c1_i32
  let v57 : BitVec 32 := Scalar.select v55 v56 v41
  let c512_i32_38 : BitVec 32 := 512#32
  let v65 : BitVec 32 := Scalar.muli v57 c512_i32_38
  let v66 : BitVec 32 := v65
  let v385 : Index := Scalar.indexCast v66
  ![480, v385.toNat]
def k0_off48 (i : grid0.Coords) : Fin 2 → Nat :=
  let c560 : Index := 560#32
  let arg2 : BitVec 32 := BitVec.ofNat 32 (i 2).val
  let c256_i32 : BitVec 32 := 256#32
  let v40 : BitVec 32 := Scalar.muli arg2 c256_i32
  let c0_i32 : BitVec 32 := 0#32
  let v42 : BitVec 1 := Scalar.cmpi .sgt v40 c0_i32
  let v43 : BitVec 32 := Scalar.extui v42
  let c0_i32_30 : BitVec 32 := 0#32
  let v44 : BitVec 1 := Scalar.cmpi .slt v40 c0_i32_30
  let v45 : BitVec 32 := Scalar.extui v44
  let v46 : BitVec 32 := Scalar.subi v43 v45
  let c512_i32 : BitVec 32 := 512#32
  let c0_i32_31 : BitVec 32 := 0#32
  let v47 : BitVec 1 := Scalar.cmpi .sgt c512_i32 c0_i32_31
  let v48 : BitVec 32 := Scalar.extui v47
  let c0_i32_32 : BitVec 32 := 0#32
  let v49 : BitVec 1 := Scalar.cmpi .slt c512_i32 c0_i32_32
  let v50 : BitVec 32 := Scalar.extui v49
  let v51 : BitVec 32 := Scalar.subi v48 v50
  let v52 : BitVec 1 := Scalar.cmpi .ne v46 v51
  let v53 : BitVec 32 := Scalar.remsi v40 c512_i32
  let c0_i32_33 : BitVec 32 := 0#32
  let v54 : BitVec 1 := Scalar.cmpi .ne v53 c0_i32_33
  let v55 : BitVec 1 := Scalar.andi v52 v54
  let v41 : BitVec 32 := Scalar.divsi v40 c512_i32
  let c1_i32 : BitVec 32 := 1#32
  let v56 : BitVec 32 := Scalar.subi v41 c1_i32
  let v57 : BitVec 32 := Scalar.select v55 v56 v41
  let c512_i32_38 : BitVec 32 := 512#32
  let v65 : BitVec 32 := Scalar.muli v57 c512_i32_38
  let v66 : BitVec 32 := v65
  let v396 : Index := Scalar.indexCast v66
  ![560, v396.toNat]
def k0_off49 (i : grid0.Coords) : Fin 2 → Nat :=
  let arg2 : BitVec 32 := BitVec.ofNat 32 (i 2).val
  let c256_i32 : BitVec 32 := 256#32
  let v40 : BitVec 32 := Scalar.muli arg2 c256_i32
  let c0_i32 : BitVec 32 := 0#32
  let v42 : BitVec 1 := Scalar.cmpi .sgt v40 c0_i32
  let v43 : BitVec 32 := Scalar.extui v42
  let c0_i32_30 : BitVec 32 := 0#32
  let v44 : BitVec 1 := Scalar.cmpi .slt v40 c0_i32_30
  let v45 : BitVec 32 := Scalar.extui v44
  let v46 : BitVec 32 := Scalar.subi v43 v45
  let c512_i32 : BitVec 32 := 512#32
  let c0_i32_31 : BitVec 32 := 0#32
  let v47 : BitVec 1 := Scalar.cmpi .sgt c512_i32 c0_i32_31
  let v48 : BitVec 32 := Scalar.extui v47
  let c0_i32_32 : BitVec 32 := 0#32
  let v49 : BitVec 1 := Scalar.cmpi .slt c512_i32 c0_i32_32
  let v50 : BitVec 32 := Scalar.extui v49
  let v51 : BitVec 32 := Scalar.subi v48 v50
  let v52 : BitVec 1 := Scalar.cmpi .ne v46 v51
  let v53 : BitVec 32 := Scalar.remsi v40 c512_i32
  let c0_i32_33 : BitVec 32 := 0#32
  let v54 : BitVec 1 := Scalar.cmpi .ne v53 c0_i32_33
  let v55 : BitVec 1 := Scalar.andi v52 v54
  let v41 : BitVec 32 := Scalar.divsi v40 c512_i32
  let c1_i32 : BitVec 32 := 1#32
  let v56 : BitVec 32 := Scalar.subi v41 c1_i32
  let v57 : BitVec 32 := Scalar.select v55 v56 v41
  let c512_i32_38 : BitVec 32 := 512#32
  let v65 : BitVec 32 := Scalar.muli v57 c512_i32_38
  let v66 : BitVec 32 := v65
  let v119 : Index := Scalar.indexCast v66
  let c0_77 : Index := 0#32
  ![v119.toNat, 0]
def k0_off50 (i : grid0.Coords) : Fin 2 → Nat :=
  let arg2 : BitVec 32 := BitVec.ofNat 32 (i 2).val
  let c256_i32 : BitVec 32 := 256#32
  let v40 : BitVec 32 := Scalar.muli arg2 c256_i32
  let c0_i32 : BitVec 32 := 0#32
  let v42 : BitVec 1 := Scalar.cmpi .sgt v40 c0_i32
  let v43 : BitVec 32 := Scalar.extui v42
  let c0_i32_30 : BitVec 32 := 0#32
  let v44 : BitVec 1 := Scalar.cmpi .slt v40 c0_i32_30
  let v45 : BitVec 32 := Scalar.extui v44
  let v46 : BitVec 32 := Scalar.subi v43 v45
  let c512_i32 : BitVec 32 := 512#32
  let c0_i32_31 : BitVec 32 := 0#32
  let v47 : BitVec 1 := Scalar.cmpi .sgt c512_i32 c0_i32_31
  let v48 : BitVec 32 := Scalar.extui v47
  let c0_i32_32 : BitVec 32 := 0#32
  let v49 : BitVec 1 := Scalar.cmpi .slt c512_i32 c0_i32_32
  let v50 : BitVec 32 := Scalar.extui v49
  let v51 : BitVec 32 := Scalar.subi v48 v50
  let v52 : BitVec 1 := Scalar.cmpi .ne v46 v51
  let v53 : BitVec 32 := Scalar.remsi v40 c512_i32
  let c0_i32_33 : BitVec 32 := 0#32
  let v54 : BitVec 1 := Scalar.cmpi .ne v53 c0_i32_33
  let v55 : BitVec 1 := Scalar.andi v52 v54
  let v41 : BitVec 32 := Scalar.divsi v40 c512_i32
  let c1_i32 : BitVec 32 := 1#32
  let v56 : BitVec 32 := Scalar.subi v41 c1_i32
  let v57 : BitVec 32 := Scalar.select v55 v56 v41
  let c512_i32_38 : BitVec 32 := 512#32
  let v65 : BitVec 32 := Scalar.muli v57 c512_i32_38
  let v66 : BitVec 32 := v65
  let v125 : Index := Scalar.indexCast v66
  let c128_81 : Index := 128#32
  ![v125.toNat, 128]
def k0_off51 (i : grid0.Coords) : Fin 2 → Nat :=
  let arg2 : BitVec 32 := BitVec.ofNat 32 (i 2).val
  let c256_i32 : BitVec 32 := 256#32
  let v40 : BitVec 32 := Scalar.muli arg2 c256_i32
  let c0_i32 : BitVec 32 := 0#32
  let v42 : BitVec 1 := Scalar.cmpi .sgt v40 c0_i32
  let v43 : BitVec 32 := Scalar.extui v42
  let c0_i32_30 : BitVec 32 := 0#32
  let v44 : BitVec 1 := Scalar.cmpi .slt v40 c0_i32_30
  let v45 : BitVec 32 := Scalar.extui v44
  let v46 : BitVec 32 := Scalar.subi v43 v45
  let c512_i32 : BitVec 32 := 512#32
  let c0_i32_31 : BitVec 32 := 0#32
  let v47 : BitVec 1 := Scalar.cmpi .sgt c512_i32 c0_i32_31
  let v48 : BitVec 32 := Scalar.extui v47
  let c0_i32_32 : BitVec 32 := 0#32
  let v49 : BitVec 1 := Scalar.cmpi .slt c512_i32 c0_i32_32
  let v50 : BitVec 32 := Scalar.extui v49
  let v51 : BitVec 32 := Scalar.subi v48 v50
  let v52 : BitVec 1 := Scalar.cmpi .ne v46 v51
  let v53 : BitVec 32 := Scalar.remsi v40 c512_i32
  let c0_i32_33 : BitVec 32 := 0#32
  let v54 : BitVec 1 := Scalar.cmpi .ne v53 c0_i32_33
  let v55 : BitVec 1 := Scalar.andi v52 v54
  let v41 : BitVec 32 := Scalar.divsi v40 c512_i32
  let c1_i32 : BitVec 32 := 1#32
  let v56 : BitVec 32 := Scalar.subi v41 c1_i32
  let v57 : BitVec 32 := Scalar.select v55 v56 v41
  let c512_i32_38 : BitVec 32 := 512#32
  let v65 : BitVec 32 := Scalar.muli v57 c512_i32_38
  let v66 : BitVec 32 := v65
  let v131 : Index := Scalar.indexCast v66
  let c256_85 : Index := 256#32
  ![v131.toNat, 256]
def k0_off52 (i : grid0.Coords) : Fin 2 → Nat :=
  let arg2 : BitVec 32 := BitVec.ofNat 32 (i 2).val
  let c256_i32 : BitVec 32 := 256#32
  let v40 : BitVec 32 := Scalar.muli arg2 c256_i32
  let c0_i32 : BitVec 32 := 0#32
  let v42 : BitVec 1 := Scalar.cmpi .sgt v40 c0_i32
  let v43 : BitVec 32 := Scalar.extui v42
  let c0_i32_30 : BitVec 32 := 0#32
  let v44 : BitVec 1 := Scalar.cmpi .slt v40 c0_i32_30
  let v45 : BitVec 32 := Scalar.extui v44
  let v46 : BitVec 32 := Scalar.subi v43 v45
  let c512_i32 : BitVec 32 := 512#32
  let c0_i32_31 : BitVec 32 := 0#32
  let v47 : BitVec 1 := Scalar.cmpi .sgt c512_i32 c0_i32_31
  let v48 : BitVec 32 := Scalar.extui v47
  let c0_i32_32 : BitVec 32 := 0#32
  let v49 : BitVec 1 := Scalar.cmpi .slt c512_i32 c0_i32_32
  let v50 : BitVec 32 := Scalar.extui v49
  let v51 : BitVec 32 := Scalar.subi v48 v50
  let v52 : BitVec 1 := Scalar.cmpi .ne v46 v51
  let v53 : BitVec 32 := Scalar.remsi v40 c512_i32
  let c0_i32_33 : BitVec 32 := 0#32
  let v54 : BitVec 1 := Scalar.cmpi .ne v53 c0_i32_33
  let v55 : BitVec 1 := Scalar.andi v52 v54
  let v41 : BitVec 32 := Scalar.divsi v40 c512_i32
  let c1_i32 : BitVec 32 := 1#32
  let v56 : BitVec 32 := Scalar.subi v41 c1_i32
  let v57 : BitVec 32 := Scalar.select v55 v56 v41
  let c512_i32_38 : BitVec 32 := 512#32
  let v65 : BitVec 32 := Scalar.muli v57 c512_i32_38
  let v66 : BitVec 32 := v65
  let v137 : Index := Scalar.indexCast v66
  let c384_89 : Index := 384#32
  ![v137.toNat, 384]
def k0_off53 (i : grid0.Coords) : Fin 2 → Nat :=
  let arg2 : BitVec 32 := BitVec.ofNat 32 (i 2).val
  let c256_i32 : BitVec 32 := 256#32
  let v40 : BitVec 32 := Scalar.muli arg2 c256_i32
  let c0_i32 : BitVec 32 := 0#32
  let v42 : BitVec 1 := Scalar.cmpi .sgt v40 c0_i32
  let v43 : BitVec 32 := Scalar.extui v42
  let c0_i32_30 : BitVec 32 := 0#32
  let v44 : BitVec 1 := Scalar.cmpi .slt v40 c0_i32_30
  let v45 : BitVec 32 := Scalar.extui v44
  let v46 : BitVec 32 := Scalar.subi v43 v45
  let c512_i32 : BitVec 32 := 512#32
  let c0_i32_31 : BitVec 32 := 0#32
  let v47 : BitVec 1 := Scalar.cmpi .sgt c512_i32 c0_i32_31
  let v48 : BitVec 32 := Scalar.extui v47
  let c0_i32_32 : BitVec 32 := 0#32
  let v49 : BitVec 1 := Scalar.cmpi .slt c512_i32 c0_i32_32
  let v50 : BitVec 32 := Scalar.extui v49
  let v51 : BitVec 32 := Scalar.subi v48 v50
  let v52 : BitVec 1 := Scalar.cmpi .ne v46 v51
  let v53 : BitVec 32 := Scalar.remsi v40 c512_i32
  let c0_i32_33 : BitVec 32 := 0#32
  let v54 : BitVec 1 := Scalar.cmpi .ne v53 c0_i32_33
  let v55 : BitVec 1 := Scalar.andi v52 v54
  let v41 : BitVec 32 := Scalar.divsi v40 c512_i32
  let c1_i32 : BitVec 32 := 1#32
  let v56 : BitVec 32 := Scalar.subi v41 c1_i32
  let v57 : BitVec 32 := Scalar.select v55 v56 v41
  let c512_i32_38 : BitVec 32 := 512#32
  let v65 : BitVec 32 := Scalar.muli v57 c512_i32_38
  let v66 : BitVec 32 := v65
  let v143 : Index := Scalar.indexCast v66
  let c512 : Index := 512#32
  ![v143.toNat, 512]
def k0_off54 (i : grid0.Coords) : Fin 2 → Nat :=
  let arg2 : BitVec 32 := BitVec.ofNat 32 (i 2).val
  let c256_i32 : BitVec 32 := 256#32
  let v40 : BitVec 32 := Scalar.muli arg2 c256_i32
  let c0_i32 : BitVec 32 := 0#32
  let v42 : BitVec 1 := Scalar.cmpi .sgt v40 c0_i32
  let v43 : BitVec 32 := Scalar.extui v42
  let c0_i32_30 : BitVec 32 := 0#32
  let v44 : BitVec 1 := Scalar.cmpi .slt v40 c0_i32_30
  let v45 : BitVec 32 := Scalar.extui v44
  let v46 : BitVec 32 := Scalar.subi v43 v45
  let c512_i32 : BitVec 32 := 512#32
  let c0_i32_31 : BitVec 32 := 0#32
  let v47 : BitVec 1 := Scalar.cmpi .sgt c512_i32 c0_i32_31
  let v48 : BitVec 32 := Scalar.extui v47
  let c0_i32_32 : BitVec 32 := 0#32
  let v49 : BitVec 1 := Scalar.cmpi .slt c512_i32 c0_i32_32
  let v50 : BitVec 32 := Scalar.extui v49
  let v51 : BitVec 32 := Scalar.subi v48 v50
  let v52 : BitVec 1 := Scalar.cmpi .ne v46 v51
  let v53 : BitVec 32 := Scalar.remsi v40 c512_i32
  let c0_i32_33 : BitVec 32 := 0#32
  let v54 : BitVec 1 := Scalar.cmpi .ne v53 c0_i32_33
  let v55 : BitVec 1 := Scalar.andi v52 v54
  let v41 : BitVec 32 := Scalar.divsi v40 c512_i32
  let c1_i32 : BitVec 32 := 1#32
  let v56 : BitVec 32 := Scalar.subi v41 c1_i32
  let v57 : BitVec 32 := Scalar.select v55 v56 v41
  let c512_i32_38 : BitVec 32 := 512#32
  let v65 : BitVec 32 := Scalar.muli v57 c512_i32_38
  let v66 : BitVec 32 := v65
  let v149 : Index := Scalar.indexCast v66
  let c640 : Index := 640#32
  ![v149.toNat, 640]
def k0_off55 (i : grid0.Coords) : Fin 2 → Nat :=
  let arg2 : BitVec 32 := BitVec.ofNat 32 (i 2).val
  let c256_i32 : BitVec 32 := 256#32
  let v40 : BitVec 32 := Scalar.muli arg2 c256_i32
  let c0_i32 : BitVec 32 := 0#32
  let v42 : BitVec 1 := Scalar.cmpi .sgt v40 c0_i32
  let v43 : BitVec 32 := Scalar.extui v42
  let c0_i32_30 : BitVec 32 := 0#32
  let v44 : BitVec 1 := Scalar.cmpi .slt v40 c0_i32_30
  let v45 : BitVec 32 := Scalar.extui v44
  let v46 : BitVec 32 := Scalar.subi v43 v45
  let c512_i32 : BitVec 32 := 512#32
  let c0_i32_31 : BitVec 32 := 0#32
  let v47 : BitVec 1 := Scalar.cmpi .sgt c512_i32 c0_i32_31
  let v48 : BitVec 32 := Scalar.extui v47
  let c0_i32_32 : BitVec 32 := 0#32
  let v49 : BitVec 1 := Scalar.cmpi .slt c512_i32 c0_i32_32
  let v50 : BitVec 32 := Scalar.extui v49
  let v51 : BitVec 32 := Scalar.subi v48 v50
  let v52 : BitVec 1 := Scalar.cmpi .ne v46 v51
  let v53 : BitVec 32 := Scalar.remsi v40 c512_i32
  let c0_i32_33 : BitVec 32 := 0#32
  let v54 : BitVec 1 := Scalar.cmpi .ne v53 c0_i32_33
  let v55 : BitVec 1 := Scalar.andi v52 v54
  let v41 : BitVec 32 := Scalar.divsi v40 c512_i32
  let c1_i32 : BitVec 32 := 1#32
  let v56 : BitVec 32 := Scalar.subi v41 c1_i32
  let v57 : BitVec 32 := Scalar.select v55 v56 v41
  let c512_i32_38 : BitVec 32 := 512#32
  let v65 : BitVec 32 := Scalar.muli v57 c512_i32_38
  let v66 : BitVec 32 := v65
  let v155 : Index := Scalar.indexCast v66
  let c768 : Index := 768#32
  ![v155.toNat, 768]
def k0_off56 (i : grid0.Coords) : Fin 2 → Nat :=
  let arg2 : BitVec 32 := BitVec.ofNat 32 (i 2).val
  let c256_i32 : BitVec 32 := 256#32
  let v40 : BitVec 32 := Scalar.muli arg2 c256_i32
  let c0_i32 : BitVec 32 := 0#32
  let v42 : BitVec 1 := Scalar.cmpi .sgt v40 c0_i32
  let v43 : BitVec 32 := Scalar.extui v42
  let c0_i32_30 : BitVec 32 := 0#32
  let v44 : BitVec 1 := Scalar.cmpi .slt v40 c0_i32_30
  let v45 : BitVec 32 := Scalar.extui v44
  let v46 : BitVec 32 := Scalar.subi v43 v45
  let c512_i32 : BitVec 32 := 512#32
  let c0_i32_31 : BitVec 32 := 0#32
  let v47 : BitVec 1 := Scalar.cmpi .sgt c512_i32 c0_i32_31
  let v48 : BitVec 32 := Scalar.extui v47
  let c0_i32_32 : BitVec 32 := 0#32
  let v49 : BitVec 1 := Scalar.cmpi .slt c512_i32 c0_i32_32
  let v50 : BitVec 32 := Scalar.extui v49
  let v51 : BitVec 32 := Scalar.subi v48 v50
  let v52 : BitVec 1 := Scalar.cmpi .ne v46 v51
  let v53 : BitVec 32 := Scalar.remsi v40 c512_i32
  let c0_i32_33 : BitVec 32 := 0#32
  let v54 : BitVec 1 := Scalar.cmpi .ne v53 c0_i32_33
  let v55 : BitVec 1 := Scalar.andi v52 v54
  let v41 : BitVec 32 := Scalar.divsi v40 c512_i32
  let c1_i32 : BitVec 32 := 1#32
  let v56 : BitVec 32 := Scalar.subi v41 c1_i32
  let v57 : BitVec 32 := Scalar.select v55 v56 v41
  let c512_i32_38 : BitVec 32 := 512#32
  let v65 : BitVec 32 := Scalar.muli v57 c512_i32_38
  let v66 : BitVec 32 := v65
  let v161 : Index := Scalar.indexCast v66
  let c896 : Index := 896#32
  ![v161.toNat, 896]
def k0_off57 (i : grid0.Coords) : Fin 2 → Nat :=
  let c0_129 : Index := 0#32
  let arg2 : BitVec 32 := BitVec.ofNat 32 (i 2).val
  let c256_i32 : BitVec 32 := 256#32
  let v40 : BitVec 32 := Scalar.muli arg2 c256_i32
  let c0_i32 : BitVec 32 := 0#32
  let v42 : BitVec 1 := Scalar.cmpi .sgt v40 c0_i32
  let v43 : BitVec 32 := Scalar.extui v42
  let c0_i32_30 : BitVec 32 := 0#32
  let v44 : BitVec 1 := Scalar.cmpi .slt v40 c0_i32_30
  let v45 : BitVec 32 := Scalar.extui v44
  let v46 : BitVec 32 := Scalar.subi v43 v45
  let c512_i32 : BitVec 32 := 512#32
  let c0_i32_31 : BitVec 32 := 0#32
  let v47 : BitVec 1 := Scalar.cmpi .sgt c512_i32 c0_i32_31
  let v48 : BitVec 32 := Scalar.extui v47
  let c0_i32_32 : BitVec 32 := 0#32
  let v49 : BitVec 1 := Scalar.cmpi .slt c512_i32 c0_i32_32
  let v50 : BitVec 32 := Scalar.extui v49
  let v51 : BitVec 32 := Scalar.subi v48 v50
  let v52 : BitVec 1 := Scalar.cmpi .ne v46 v51
  let v53 : BitVec 32 := Scalar.remsi v40 c512_i32
  let c0_i32_33 : BitVec 32 := 0#32
  let v54 : BitVec 1 := Scalar.cmpi .ne v53 c0_i32_33
  let v55 : BitVec 1 := Scalar.andi v52 v54
  let v41 : BitVec 32 := Scalar.divsi v40 c512_i32
  let c1_i32 : BitVec 32 := 1#32
  let v56 : BitVec 32 := Scalar.subi v41 c1_i32
  let v57 : BitVec 32 := Scalar.select v55 v56 v41
  let c512_i32_38 : BitVec 32 := 512#32
  let v65 : BitVec 32 := Scalar.muli v57 c512_i32_38
  let v66 : BitVec 32 := v65
  let v319 : Index := Scalar.indexCast v66
  ![0, v319.toNat]
def k0_off58 (i : grid0.Coords) : Fin 2 → Nat :=
  let c80 : Index := 80#32
  let arg2 : BitVec 32 := BitVec.ofNat 32 (i 2).val
  let c256_i32 : BitVec 32 := 256#32
  let v40 : BitVec 32 := Scalar.muli arg2 c256_i32
  let c0_i32 : BitVec 32 := 0#32
  let v42 : BitVec 1 := Scalar.cmpi .sgt v40 c0_i32
  let v43 : BitVec 32 := Scalar.extui v42
  let c0_i32_30 : BitVec 32 := 0#32
  let v44 : BitVec 1 := Scalar.cmpi .slt v40 c0_i32_30
  let v45 : BitVec 32 := Scalar.extui v44
  let v46 : BitVec 32 := Scalar.subi v43 v45
  let c512_i32 : BitVec 32 := 512#32
  let c0_i32_31 : BitVec 32 := 0#32
  let v47 : BitVec 1 := Scalar.cmpi .sgt c512_i32 c0_i32_31
  let v48 : BitVec 32 := Scalar.extui v47
  let c0_i32_32 : BitVec 32 := 0#32
  let v49 : BitVec 1 := Scalar.cmpi .slt c512_i32 c0_i32_32
  let v50 : BitVec 32 := Scalar.extui v49
  let v51 : BitVec 32 := Scalar.subi v48 v50
  let v52 : BitVec 1 := Scalar.cmpi .ne v46 v51
  let v53 : BitVec 32 := Scalar.remsi v40 c512_i32
  let c0_i32_33 : BitVec 32 := 0#32
  let v54 : BitVec 1 := Scalar.cmpi .ne v53 c0_i32_33
  let v55 : BitVec 1 := Scalar.andi v52 v54
  let v41 : BitVec 32 := Scalar.divsi v40 c512_i32
  let c1_i32 : BitVec 32 := 1#32
  let v56 : BitVec 32 := Scalar.subi v41 c1_i32
  let v57 : BitVec 32 := Scalar.select v55 v56 v41
  let c512_i32_38 : BitVec 32 := 512#32
  let v65 : BitVec 32 := Scalar.muli v57 c512_i32_38
  let v66 : BitVec 32 := v65
  let v330 : Index := Scalar.indexCast v66
  ![80, v330.toNat]
def k0_off59 (i : grid0.Coords) : Fin 2 → Nat :=
  let c160 : Index := 160#32
  let arg2 : BitVec 32 := BitVec.ofNat 32 (i 2).val
  let c256_i32 : BitVec 32 := 256#32
  let v40 : BitVec 32 := Scalar.muli arg2 c256_i32
  let c0_i32 : BitVec 32 := 0#32
  let v42 : BitVec 1 := Scalar.cmpi .sgt v40 c0_i32
  let v43 : BitVec 32 := Scalar.extui v42
  let c0_i32_30 : BitVec 32 := 0#32
  let v44 : BitVec 1 := Scalar.cmpi .slt v40 c0_i32_30
  let v45 : BitVec 32 := Scalar.extui v44
  let v46 : BitVec 32 := Scalar.subi v43 v45
  let c512_i32 : BitVec 32 := 512#32
  let c0_i32_31 : BitVec 32 := 0#32
  let v47 : BitVec 1 := Scalar.cmpi .sgt c512_i32 c0_i32_31
  let v48 : BitVec 32 := Scalar.extui v47
  let c0_i32_32 : BitVec 32 := 0#32
  let v49 : BitVec 1 := Scalar.cmpi .slt c512_i32 c0_i32_32
  let v50 : BitVec 32 := Scalar.extui v49
  let v51 : BitVec 32 := Scalar.subi v48 v50
  let v52 : BitVec 1 := Scalar.cmpi .ne v46 v51
  let v53 : BitVec 32 := Scalar.remsi v40 c512_i32
  let c0_i32_33 : BitVec 32 := 0#32
  let v54 : BitVec 1 := Scalar.cmpi .ne v53 c0_i32_33
  let v55 : BitVec 1 := Scalar.andi v52 v54
  let v41 : BitVec 32 := Scalar.divsi v40 c512_i32
  let c1_i32 : BitVec 32 := 1#32
  let v56 : BitVec 32 := Scalar.subi v41 c1_i32
  let v57 : BitVec 32 := Scalar.select v55 v56 v41
  let c512_i32_38 : BitVec 32 := 512#32
  let v65 : BitVec 32 := Scalar.muli v57 c512_i32_38
  let v66 : BitVec 32 := v65
  let v341 : Index := Scalar.indexCast v66
  ![160, v341.toNat]
def k0_off60 (i : grid0.Coords) : Fin 2 → Nat :=
  let c240 : Index := 240#32
  let arg2 : BitVec 32 := BitVec.ofNat 32 (i 2).val
  let c256_i32 : BitVec 32 := 256#32
  let v40 : BitVec 32 := Scalar.muli arg2 c256_i32
  let c0_i32 : BitVec 32 := 0#32
  let v42 : BitVec 1 := Scalar.cmpi .sgt v40 c0_i32
  let v43 : BitVec 32 := Scalar.extui v42
  let c0_i32_30 : BitVec 32 := 0#32
  let v44 : BitVec 1 := Scalar.cmpi .slt v40 c0_i32_30
  let v45 : BitVec 32 := Scalar.extui v44
  let v46 : BitVec 32 := Scalar.subi v43 v45
  let c512_i32 : BitVec 32 := 512#32
  let c0_i32_31 : BitVec 32 := 0#32
  let v47 : BitVec 1 := Scalar.cmpi .sgt c512_i32 c0_i32_31
  let v48 : BitVec 32 := Scalar.extui v47
  let c0_i32_32 : BitVec 32 := 0#32
  let v49 : BitVec 1 := Scalar.cmpi .slt c512_i32 c0_i32_32
  let v50 : BitVec 32 := Scalar.extui v49
  let v51 : BitVec 32 := Scalar.subi v48 v50
  let v52 : BitVec 1 := Scalar.cmpi .ne v46 v51
  let v53 : BitVec 32 := Scalar.remsi v40 c512_i32
  let c0_i32_33 : BitVec 32 := 0#32
  let v54 : BitVec 1 := Scalar.cmpi .ne v53 c0_i32_33
  let v55 : BitVec 1 := Scalar.andi v52 v54
  let v41 : BitVec 32 := Scalar.divsi v40 c512_i32
  let c1_i32 : BitVec 32 := 1#32
  let v56 : BitVec 32 := Scalar.subi v41 c1_i32
  let v57 : BitVec 32 := Scalar.select v55 v56 v41
  let c512_i32_38 : BitVec 32 := 512#32
  let v65 : BitVec 32 := Scalar.muli v57 c512_i32_38
  let v66 : BitVec 32 := v65
  let v352 : Index := Scalar.indexCast v66
  ![240, v352.toNat]
def k0_off61 (i : grid0.Coords) : Fin 2 → Nat :=
  let c320 : Index := 320#32
  let arg2 : BitVec 32 := BitVec.ofNat 32 (i 2).val
  let c256_i32 : BitVec 32 := 256#32
  let v40 : BitVec 32 := Scalar.muli arg2 c256_i32
  let c0_i32 : BitVec 32 := 0#32
  let v42 : BitVec 1 := Scalar.cmpi .sgt v40 c0_i32
  let v43 : BitVec 32 := Scalar.extui v42
  let c0_i32_30 : BitVec 32 := 0#32
  let v44 : BitVec 1 := Scalar.cmpi .slt v40 c0_i32_30
  let v45 : BitVec 32 := Scalar.extui v44
  let v46 : BitVec 32 := Scalar.subi v43 v45
  let c512_i32 : BitVec 32 := 512#32
  let c0_i32_31 : BitVec 32 := 0#32
  let v47 : BitVec 1 := Scalar.cmpi .sgt c512_i32 c0_i32_31
  let v48 : BitVec 32 := Scalar.extui v47
  let c0_i32_32 : BitVec 32 := 0#32
  let v49 : BitVec 1 := Scalar.cmpi .slt c512_i32 c0_i32_32
  let v50 : BitVec 32 := Scalar.extui v49
  let v51 : BitVec 32 := Scalar.subi v48 v50
  let v52 : BitVec 1 := Scalar.cmpi .ne v46 v51
  let v53 : BitVec 32 := Scalar.remsi v40 c512_i32
  let c0_i32_33 : BitVec 32 := 0#32
  let v54 : BitVec 1 := Scalar.cmpi .ne v53 c0_i32_33
  let v55 : BitVec 1 := Scalar.andi v52 v54
  let v41 : BitVec 32 := Scalar.divsi v40 c512_i32
  let c1_i32 : BitVec 32 := 1#32
  let v56 : BitVec 32 := Scalar.subi v41 c1_i32
  let v57 : BitVec 32 := Scalar.select v55 v56 v41
  let c512_i32_38 : BitVec 32 := 512#32
  let v65 : BitVec 32 := Scalar.muli v57 c512_i32_38
  let v66 : BitVec 32 := v65
  let v363 : Index := Scalar.indexCast v66
  ![320, v363.toNat]
def k0_off62 (i : grid0.Coords) : Fin 2 → Nat :=
  let c400 : Index := 400#32
  let arg2 : BitVec 32 := BitVec.ofNat 32 (i 2).val
  let c256_i32 : BitVec 32 := 256#32
  let v40 : BitVec 32 := Scalar.muli arg2 c256_i32
  let c0_i32 : BitVec 32 := 0#32
  let v42 : BitVec 1 := Scalar.cmpi .sgt v40 c0_i32
  let v43 : BitVec 32 := Scalar.extui v42
  let c0_i32_30 : BitVec 32 := 0#32
  let v44 : BitVec 1 := Scalar.cmpi .slt v40 c0_i32_30
  let v45 : BitVec 32 := Scalar.extui v44
  let v46 : BitVec 32 := Scalar.subi v43 v45
  let c512_i32 : BitVec 32 := 512#32
  let c0_i32_31 : BitVec 32 := 0#32
  let v47 : BitVec 1 := Scalar.cmpi .sgt c512_i32 c0_i32_31
  let v48 : BitVec 32 := Scalar.extui v47
  let c0_i32_32 : BitVec 32 := 0#32
  let v49 : BitVec 1 := Scalar.cmpi .slt c512_i32 c0_i32_32
  let v50 : BitVec 32 := Scalar.extui v49
  let v51 : BitVec 32 := Scalar.subi v48 v50
  let v52 : BitVec 1 := Scalar.cmpi .ne v46 v51
  let v53 : BitVec 32 := Scalar.remsi v40 c512_i32
  let c0_i32_33 : BitVec 32 := 0#32
  let v54 : BitVec 1 := Scalar.cmpi .ne v53 c0_i32_33
  let v55 : BitVec 1 := Scalar.andi v52 v54
  let v41 : BitVec 32 := Scalar.divsi v40 c512_i32
  let c1_i32 : BitVec 32 := 1#32
  let v56 : BitVec 32 := Scalar.subi v41 c1_i32
  let v57 : BitVec 32 := Scalar.select v55 v56 v41
  let c512_i32_38 : BitVec 32 := 512#32
  let v65 : BitVec 32 := Scalar.muli v57 c512_i32_38
  let v66 : BitVec 32 := v65
  let v374 : Index := Scalar.indexCast v66
  ![400, v374.toNat]
def k0_off63 (i : grid0.Coords) : Fin 2 → Nat :=
  let c480 : Index := 480#32
  let arg2 : BitVec 32 := BitVec.ofNat 32 (i 2).val
  let c256_i32 : BitVec 32 := 256#32
  let v40 : BitVec 32 := Scalar.muli arg2 c256_i32
  let c0_i32 : BitVec 32 := 0#32
  let v42 : BitVec 1 := Scalar.cmpi .sgt v40 c0_i32
  let v43 : BitVec 32 := Scalar.extui v42
  let c0_i32_30 : BitVec 32 := 0#32
  let v44 : BitVec 1 := Scalar.cmpi .slt v40 c0_i32_30
  let v45 : BitVec 32 := Scalar.extui v44
  let v46 : BitVec 32 := Scalar.subi v43 v45
  let c512_i32 : BitVec 32 := 512#32
  let c0_i32_31 : BitVec 32 := 0#32
  let v47 : BitVec 1 := Scalar.cmpi .sgt c512_i32 c0_i32_31
  let v48 : BitVec 32 := Scalar.extui v47
  let c0_i32_32 : BitVec 32 := 0#32
  let v49 : BitVec 1 := Scalar.cmpi .slt c512_i32 c0_i32_32
  let v50 : BitVec 32 := Scalar.extui v49
  let v51 : BitVec 32 := Scalar.subi v48 v50
  let v52 : BitVec 1 := Scalar.cmpi .ne v46 v51
  let v53 : BitVec 32 := Scalar.remsi v40 c512_i32
  let c0_i32_33 : BitVec 32 := 0#32
  let v54 : BitVec 1 := Scalar.cmpi .ne v53 c0_i32_33
  let v55 : BitVec 1 := Scalar.andi v52 v54
  let v41 : BitVec 32 := Scalar.divsi v40 c512_i32
  let c1_i32 : BitVec 32 := 1#32
  let v56 : BitVec 32 := Scalar.subi v41 c1_i32
  let v57 : BitVec 32 := Scalar.select v55 v56 v41
  let c512_i32_38 : BitVec 32 := 512#32
  let v65 : BitVec 32 := Scalar.muli v57 c512_i32_38
  let v66 : BitVec 32 := v65
  let v385 : Index := Scalar.indexCast v66
  ![480, v385.toNat]
def k0_off64 (i : grid0.Coords) : Fin 2 → Nat :=
  let c560 : Index := 560#32
  let arg2 : BitVec 32 := BitVec.ofNat 32 (i 2).val
  let c256_i32 : BitVec 32 := 256#32
  let v40 : BitVec 32 := Scalar.muli arg2 c256_i32
  let c0_i32 : BitVec 32 := 0#32
  let v42 : BitVec 1 := Scalar.cmpi .sgt v40 c0_i32
  let v43 : BitVec 32 := Scalar.extui v42
  let c0_i32_30 : BitVec 32 := 0#32
  let v44 : BitVec 1 := Scalar.cmpi .slt v40 c0_i32_30
  let v45 : BitVec 32 := Scalar.extui v44
  let v46 : BitVec 32 := Scalar.subi v43 v45
  let c512_i32 : BitVec 32 := 512#32
  let c0_i32_31 : BitVec 32 := 0#32
  let v47 : BitVec 1 := Scalar.cmpi .sgt c512_i32 c0_i32_31
  let v48 : BitVec 32 := Scalar.extui v47
  let c0_i32_32 : BitVec 32 := 0#32
  let v49 : BitVec 1 := Scalar.cmpi .slt c512_i32 c0_i32_32
  let v50 : BitVec 32 := Scalar.extui v49
  let v51 : BitVec 32 := Scalar.subi v48 v50
  let v52 : BitVec 1 := Scalar.cmpi .ne v46 v51
  let v53 : BitVec 32 := Scalar.remsi v40 c512_i32
  let c0_i32_33 : BitVec 32 := 0#32
  let v54 : BitVec 1 := Scalar.cmpi .ne v53 c0_i32_33
  let v55 : BitVec 1 := Scalar.andi v52 v54
  let v41 : BitVec 32 := Scalar.divsi v40 c512_i32
  let c1_i32 : BitVec 32 := 1#32
  let v56 : BitVec 32 := Scalar.subi v41 c1_i32
  let v57 : BitVec 32 := Scalar.select v55 v56 v41
  let c512_i32_38 : BitVec 32 := 512#32
  let v65 : BitVec 32 := Scalar.muli v57 c512_i32_38
  let v66 : BitVec 32 := v65
  let v396 : Index := Scalar.indexCast v66
  ![560, v396.toNat]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S640x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S16x2048x8x64 : Shape := ⟨4, ![16, 2048, 8, 64]⟩
abbrev S16x2048x8x32 : Shape := ⟨4, ![16, 2048, 8, 32]⟩
abbrev S16x2048x32 : Shape := ⟨3, ![16, 2048, 32]⟩
abbrev S16x8x2048x2048 : Shape := ⟨4, ![16, 8, 2048, 2048]⟩
abbrev S16x2048x2048x8 : Shape := ⟨4, ![16, 2048, 2048, 8]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S16x8x2048 : Shape := ⟨3, ![16, 8, 2048]⟩
abbrev S16x8x2048x1 : Shape := ⟨4, ![16, 8, 2048, 1]⟩
abbrev S16x8x64x2048 : Shape := ⟨4, ![16, 8, 64, 2048]⟩
abbrev S32768x512 : Shape := ⟨2, ![32768, 512]⟩

abbrev nBuf : Space → Nat
  | .hbm => 42
  | .vmem => 0
  | .smem => 0
  | _ => 0

abbrev bufTy : (tb : Table) → Fin (tcTables nBuf tb) → BufTy
  | .hbm, ⟨0, _⟩ => ⟨S16x2048x8x64, .f32⟩
  | .hbm, ⟨1, _⟩ => ⟨S16x2048x8x32, .f32⟩
  | .hbm, ⟨2, _⟩ => ⟨S16x2048x8x64, .f32⟩
  | .hbm, ⟨3, _⟩ => ⟨S16x2048x32, .f32⟩
  | .hbm, ⟨4, _⟩ => ⟨S16x2048x8x64, .f32⟩
  | .hbm, ⟨5, _⟩ => ⟨S16x8x2048x2048, .f32⟩
  | .hbm, ⟨6, _⟩ => ⟨S16x2048x2048x8, .f32⟩
  | .hbm, ⟨7, _⟩ => ⟨S16x8x2048x2048, .f32⟩
  | .hbm, ⟨8, _⟩ => ⟨S16x8x2048x2048, .f32⟩
  | .hbm, ⟨9, _⟩ => ⟨S_, .f32⟩
  | .hbm, ⟨10, _⟩ => ⟨S_, .f32⟩
  | .hbm, ⟨11, _⟩ => ⟨S16x8x2048x2048, .f32⟩
  | .hbm, ⟨12, _⟩ => ⟨S16x8x2048x2048, .f32⟩
  | .hbm, ⟨13, _⟩ => ⟨S2048, .i32⟩
  | .hbm, ⟨14, _⟩ => ⟨S1x2048, .i32⟩
  | .hbm, ⟨15, _⟩ => ⟨S2048x1, .i32⟩
  | .hbm, ⟨16, _⟩ => ⟨S2048x2048, .i32⟩
  | .hbm, ⟨17, _⟩ => ⟨S2048x2048, .i32⟩
  | .hbm, ⟨18, _⟩ => ⟨S2048x2048, .i1⟩
  | .hbm, ⟨19, _⟩ => ⟨S_, .f32⟩
  | .hbm, ⟨20, _⟩ => ⟨S_, .f32⟩
  | .hbm, ⟨21, _⟩ => ⟨S16x8x2048x2048, .i1⟩
  | .hbm, ⟨22, _⟩ => ⟨S16x8x2048x2048, .f32⟩
  | .hbm, ⟨23, _⟩ => ⟨S16x8x2048x2048, .f32⟩
  | .hbm, ⟨24, _⟩ => ⟨S_, .f32⟩
  | .hbm, ⟨25, _⟩ => ⟨S16x8x2048, .f32⟩
  | .hbm, ⟨26, _⟩ => ⟨S_, .f32⟩
  | .hbm, ⟨27, _⟩ => ⟨S16x8x2048, .f32⟩
  | .hbm, ⟨28, _⟩ => ⟨S16x8x2048, .f32⟩
  | .hbm, ⟨29, _⟩ => ⟨S16x8x2048x1, .f32⟩
  | .hbm, ⟨30, _⟩ => ⟨S16x8x2048x2048, .f32⟩
  | .hbm, ⟨31, _⟩ => ⟨S16x8x2048x2048, .f32⟩
  | .hbm, ⟨32, _⟩ => ⟨S16x8x2048x2048, .f32⟩
  | .hbm, ⟨33, _⟩ => ⟨S_, .f32⟩
  | .hbm, ⟨34, _⟩ => ⟨S16x8x2048, .f32⟩
  | .hbm, ⟨35, _⟩ => ⟨S16x8x2048x1, .f32⟩
  | .hbm, ⟨36, _⟩ => ⟨S16x8x2048x2048, .f32⟩
  | .hbm, ⟨37, _⟩ => ⟨S16x8x2048x2048, .f32⟩
  | .hbm, ⟨38, _⟩ => ⟨S16x8x64x2048, .f32⟩
  | .hbm, ⟨39, _⟩ => ⟨S16x2048x8x64, .f32⟩
  | .hbm, ⟨40, _⟩ => ⟨S32768x512, .f32⟩
  | .hbm, ⟨41, _⟩ => ⟨S32768x512, .bf16⟩
  | _, _ => ⟨S16x2048x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩

abbrev nD : Nat := 1
abbrev τ : Topo := Topo.v7x

variable {F : FTy → Type} [FloatOps F]
-- ==== Kernel2.lean ====
abbrev S16x2048x1024 : Shape := ⟨3, ![16, 2048, 1024]⟩
abbrev S32768x512 : Shape := ⟨2, ![32768, 512]⟩
abbrev S1024x3360 : Shape := ⟨2, ![1024, 3360]⟩
abbrev S512x1024 : Shape := ⟨2, ![512, 1024]⟩
abbrev S1024x1024 : Shape := ⟨2, ![1024, 1024]⟩
abbrev S1024 : Shape := ⟨1, ![1024]⟩
abbrev S1024x256 : Shape := ⟨2, ![1024, 256]⟩
abbrev S256 : Shape := ⟨1, ![256]⟩
abbrev S1024x512 : Shape := ⟨2, ![1024, 512]⟩
abbrev S256x1024 : Shape := ⟨2, ![256, 1024]⟩
abbrev S1024x2048 : Shape := ⟨2, ![1024, 2048]⟩
abbrev S256x256 : Shape := ⟨2, ![256, 256]⟩
abbrev S32768x1024 : Shape := ⟨2, ![32768, 1024]⟩
abbrev S1x1024 : Shape := ⟨2, ![1, 1024]⟩
abbrev S256x1 : Shape := ⟨2, ![256, 1]⟩
abbrev S131072x128 : Shape := ⟨2, ![131072, 128]⟩
abbrev S8x32768 : Shape := ⟨2, ![8, 32768]⟩
abbrev S256x128 : Shape := ⟨2, ![256, 128]⟩
abbrev S512x512 : Shape := ⟨2, ![512, 512]⟩
abbrev S2048x128 : Shape := ⟨2, ![2048, 128]⟩
abbrev S8x512 : Shape := ⟨2, ![8, 512]⟩
abbrev S512x2048 : Shape := ⟨2, ![512, 2048]⟩
abbrev S512 : Shape := ⟨1, ![512]⟩
abbrev S512x1 : Shape := ⟨2, ![512, 1]⟩
abbrev S512x128 : Shape := ⟨2, ![512, 128]⟩
abbrev S512x256 : Shape := ⟨2, ![512, 256]⟩
abbrev S256x512 : Shape := ⟨2, ![256, 512]⟩
abbrev S32x256 : Shape := ⟨2, ![32, 256]⟩
abbrev S1x256 : Shape := ⟨2, ![1, 256]⟩
abbrev S8x256 : Shape := ⟨2, ![8, 256]⟩

abbrev nBuf : Space → Nat
  | .hbm => 40
  | .vmem => 31
  | .smem => 0
  | _ => 0

abbrev bufTy : (tb : Table) → Fin (tcTables nBuf tb) → BufTy
  | .hbm, ⟨0, _⟩ => ⟨S16x2048x1024, .f32⟩
  | .hbm, ⟨1, _⟩ => ⟨S32768x512, .f32⟩
  | .hbm, ⟨2, _⟩ => ⟨S32768x512, .f32⟩
  | .hbm, ⟨3, _⟩ => ⟨S1024x3360, .f32⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S1024x256, .f32⟩
  | .hbm, ⟨10, _⟩ => ⟨S256, .f32⟩
  | .hbm, ⟨11, _⟩ => ⟨S1024x512, .f32⟩
  | .hbm, ⟨12, _⟩ => ⟨S256x1024, .f32⟩
  | .hbm, ⟨13, _⟩ => ⟨S1024x2048, .f32⟩
  | .hbm, ⟨14, _⟩ => ⟨S1024x2048, .bf16⟩
  | .hbm, ⟨15, _⟩ => ⟨S256x256, .i32⟩
  | .hbm, ⟨16, _⟩ => ⟨S256x256, .i32⟩
  | .hbm, ⟨17, _⟩ => ⟨S256x256, .i1⟩
  | .hbm, ⟨18, _⟩ => ⟨S256x256, .f32⟩
  | .hbm, ⟨19, _⟩ => ⟨S256x256, .bf16⟩
  | .hbm, ⟨20, _⟩ => ⟨S32768x1024, .f32⟩
  | .hbm, ⟨21, _⟩ => ⟨S32768x512, .bf16⟩
  | .hbm, ⟨22, _⟩ => ⟨S32768x512, .bf16⟩
  | .hbm, ⟨23, _⟩ => ⟨S512x1024, .bf16⟩
  | .hbm, ⟨24, _⟩ => ⟨S512x1024, .bf16⟩
  | .hbm, ⟨25, _⟩ => ⟨S1024x1024, .bf16⟩
  | .hbm, ⟨26, _⟩ => ⟨S1x1024, .f32⟩
  | .hbm, ⟨27, _⟩ => ⟨S1x1024, .f32⟩
  | .hbm, ⟨28, _⟩ => ⟨S256x1024, .f32⟩
  | .hbm, ⟨29, _⟩ => ⟨S256x1024, .bf16⟩
  | .hbm, ⟨30, _⟩ => ⟨S256x1, .f32⟩
  | .hbm, ⟨31, _⟩ => ⟨S1024x512, .bf16⟩
  | .hbm, ⟨32, _⟩ => ⟨S256x1024, .bf16⟩
  | .hbm, ⟨33, _⟩ => ⟨S32768x1024, .f32⟩
  | .hbm, ⟨34, _⟩ => ⟨S131072x128, .i32⟩
  | .hbm, ⟨35, _⟩ => ⟨S8x32768, .i32⟩
  | .hbm, ⟨36, _⟩ => ⟨S8x32768, .f32⟩
  | .hbm, ⟨37, _⟩ => ⟨S8x32768, .i32⟩
  | .hbm, ⟨38, _⟩ => ⟨S256x128, .i32⟩
  | .hbm, ⟨39, _⟩ => ⟨S32768x1024, .bf16⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x1024, .bf16⟩
  | .local _ .vmem, ⟨7, _⟩ => ⟨S512x1024, .bf16⟩
  | .local _ .vmem, ⟨8, _⟩ => ⟨S1024x2048, .bf16⟩
  | .local _ .vmem, ⟨9, _⟩ => ⟨S1024x1024, .bf16⟩
  | .local _ .vmem, ⟨10, _⟩ => ⟨S1x1024, .f32⟩
  | .local _ .vmem, ⟨11, _⟩ => ⟨S1x1024, .f32⟩
  | .local _ .vmem, ⟨12, _⟩ => ⟨S256x1024, .bf16⟩
  | .local _ .vmem, ⟨13, _⟩ => ⟨S256x1, .f32⟩
  | .local _ .vmem, ⟨14, _⟩ => ⟨S256x256, .bf16⟩
  | .local _ .vmem, ⟨15, _⟩ => ⟨S1024x512, .bf16⟩
  | .local _ .vmem, ⟨16, _⟩ => ⟨S256x1024, .bf16⟩
  | .local _ .vmem, ⟨17, _⟩ => ⟨S512x1024, .f32⟩
  | .local _ .vmem, ⟨18, _⟩ => ⟨S512x1024, .f32⟩
  | .local _ .vmem, ⟨19, _⟩ => ⟨S2048x128, .i32⟩
  | .local _ .vmem, ⟨20, _⟩ => ⟨S2048x128, .i32⟩
  | .local _ .vmem, ⟨21, _⟩ => ⟨S8x512, .i32⟩
  | .local _ .vmem, ⟨22, _⟩ => ⟨S8x512, .i32⟩
  | .local _ .vmem, ⟨23, _⟩ => ⟨S8x512, .f32⟩
  | .local _ .vmem, ⟨24, _⟩ => ⟨S8x512, .f32⟩
  | .local _ .vmem, ⟨25, _⟩ => ⟨S8x512, .i32⟩
  | .local _ .vmem, ⟨26, _⟩ => ⟨S8x512, .i32⟩
  | .local _ .vmem, ⟨27, _⟩ => ⟨S256x128, .i32⟩
  | .local _ .vmem, ⟨28, _⟩ => ⟨S512x1024, .bf16⟩
  | .local _ .vmem, ⟨29, _⟩ => ⟨S512x1024, .bf16⟩
  | .local _ .vmem, ⟨30, _⟩ => ⟨S256x128, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20_0 : Ref sig .tc := ⟨.hbm, 33, rfl⟩
abbrev main_v20_1 : Ref sig .tc := ⟨.hbm, 34, rfl⟩
abbrev main_v20_2 : Ref sig .tc := ⟨.hbm, 35, rfl⟩
abbrev main_v20_3 : Ref sig .tc := ⟨.hbm, 36, rfl⟩
abbrev main_v20_4 : Ref sig .tc := ⟨.hbm, 37, rfl⟩
abbrev main_v20_5 : Ref sig .tc := ⟨.hbm, 38, rfl⟩
abbrev main_v20_6 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg17_1 : Ref sig .tc := ⟨.vmem, 24, rfl⟩
abbrev cc0_stg18_0 : Ref sig .tc := ⟨.vmem, 25, rfl⟩
abbrev cc0_stg18_1 : Ref sig .tc := ⟨.vmem, 26, rfl⟩
abbrev cc0_stg19_0 : Ref sig .tc := ⟨.vmem, 27, rfl⟩
abbrev cc0_stg20_0 : Ref sig .tc := ⟨.vmem, 28, rfl⟩
abbrev cc0_stg20_1 : Ref sig .tc := ⟨.vmem, 29, rfl⟩
abbrev cc0_scratch0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem14_1 : DmaSem sig := 18
abbrev cc0_sem15_0 : DmaSem sig := 19
abbrev cc0_sem15_1 : DmaSem sig := 20
abbrev cc0_sem16_0 : DmaSem sig := 21
abbrev cc0_sem16_1 : DmaSem sig := 22
abbrev cc0_sem17_0 : DmaSem sig := 23
abbrev cc0_sem17_1 : DmaSem sig := 24
abbrev cc0_sem18_0 : DmaSem sig := 25
abbrev cc0_sem18_1 : DmaSem sig := 26
abbrev cc0_sem19_0 : DmaSem sig := 27
abbrev cc0_sem20_0 : DmaSem sig := 28
abbrev cc0_sem20_1 : DmaSem sig := 29

abbrev nD : Nat := 1
abbrev τ : Topo := Topo.v7x

variable {F : FTy → Type} [BitOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S2048x128 .i32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S8x512 .i32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S8x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S8x512 .i32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 1 → Memref sig .tc .vmem S256x128 .i32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 2 → Memref sig .tc .vmem S512x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== Kernel2Ideal.lean ====
abbrev S16x2048x1024 : Shape := ⟨3, ![16, 2048, 1024]⟩
abbrev S32768x512 : Shape := ⟨2, ![32768, 512]⟩
abbrev S1024x3360 : Shape := ⟨2, ![1024, 3360]⟩
abbrev S512x1024 : Shape := ⟨2, ![512, 1024]⟩
abbrev S1024x1024 : Shape := ⟨2, ![1024, 1024]⟩
abbrev S1024 : Shape := ⟨1, ![1024]⟩
abbrev S1024x256 : Shape := ⟨2, ![1024, 256]⟩
abbrev S256 : Shape := ⟨1, ![256]⟩
abbrev S1024x512 : Shape := ⟨2, ![1024, 512]⟩
abbrev S256x1024 : Shape := ⟨2, ![256, 1024]⟩
abbrev S1024x2048 : Shape := ⟨2, ![1024, 2048]⟩
abbrev S256x256 : Shape := ⟨2, ![256, 256]⟩
abbrev S32768x1024 : Shape := ⟨2, ![32768, 1024]⟩
abbrev S1x1024 : Shape := ⟨2, ![1, 1024]⟩
abbrev S256x1 : Shape := ⟨2, ![256, 1]⟩
abbrev S131072x2x128 : Shape := ⟨3, ![131072, 2, 128]⟩
abbrev S8x32768 : Shape := ⟨2, ![8, 32768]⟩
abbrev S256x128 : Shape := ⟨2, ![256, 128]⟩
abbrev S131072x1x128 : Shape := ⟨3, ![131072, 1, 128]⟩
abbrev S131072x128 : Shape := ⟨2, ![131072, 128]⟩
abbrev S512x512 : Shape := ⟨2, ![512, 512]⟩
abbrev S2048x128 : Shape := ⟨2, ![2048, 128]⟩
abbrev S2048x2x128 : Shape := ⟨3, ![2048, 2, 128]⟩
abbrev S2048x1x128 : Shape := ⟨3, ![2048, 1, 128]⟩
abbrev S8x512 : Shape := ⟨2, ![8, 512]⟩
abbrev S512x2048 : Shape := ⟨2, ![512, 2048]⟩
abbrev S512 : Shape := ⟨1, ![512]⟩
abbrev S512x1 : Shape := ⟨2, ![512, 1]⟩
abbrev S512x128 : Shape := ⟨2, ![512, 128]⟩
abbrev S512x2x128 : Shape := ⟨3, ![512, 2, 128]⟩
abbrev S512x1x128 : Shape := ⟨3, ![512, 1, 128]⟩
abbrev S512x256 : Shape := ⟨2, ![512, 256]⟩
abbrev S256x512 : Shape := ⟨2, ![256, 512]⟩
abbrev S32x256 : Shape := ⟨2, ![32, 256]⟩
abbrev S1x256 : Shape := ⟨2, ![1, 256]⟩
abbrev S8x256 : Shape := ⟨2, ![8, 256]⟩

abbrev nBuf : Space → Nat
  | .hbm => 40
  | .vmem => 31
  | .smem => 0
  | _ => 0

abbrev bufTy : (tb : Table) → Fin (tcTables nBuf tb) → BufTy
  | .hbm, ⟨0, _⟩ => ⟨S16x2048x1024, .f32⟩
  | .hbm, ⟨1, _⟩ => ⟨S32768x512, .f32⟩
  | .hbm, ⟨2, _⟩ => ⟨S32768x512, .f32⟩
  | .hbm, ⟨3, _⟩ => ⟨S1024x3360, .f32⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S1024x256, .f32⟩
  | .hbm, ⟨10, _⟩ => ⟨S256, .f32⟩
  | .hbm, ⟨11, _⟩ => ⟨S1024x512, .f32⟩
  | .hbm, ⟨12, _⟩ => ⟨S256x1024, .f32⟩
  | .hbm, ⟨13, _⟩ => ⟨S1024x2048, .f32⟩
  | .hbm, ⟨14, _⟩ => ⟨S1024x2048, .bf16⟩
  | .hbm, ⟨15, _⟩ => ⟨S256x256, .i32⟩
  | .hbm, ⟨16, _⟩ => ⟨S256x256, .i32⟩
  | .hbm, ⟨17, _⟩ => ⟨S256x256, .i1⟩
  | .hbm, ⟨18, _⟩ => ⟨S256x256, .f32⟩
  | .hbm, ⟨19, _⟩ => ⟨S256x256, .bf16⟩
  | .hbm, ⟨20, _⟩ => ⟨S32768x1024, .f32⟩
  | .hbm, ⟨21, _⟩ => ⟨S32768x512, .bf16⟩
  | .hbm, ⟨22, _⟩ => ⟨S32768x512, .bf16⟩
  | .hbm, ⟨23, _⟩ => ⟨S512x1024, .bf16⟩
  | .hbm, ⟨24, _⟩ => ⟨S512x1024, .bf16⟩
  | .hbm, ⟨25, _⟩ => ⟨S1024x1024, .bf16⟩
  | .hbm, ⟨26, _⟩ => ⟨S1x1024, .f32⟩
  | .hbm, ⟨27, _⟩ => ⟨S1x1024, .f32⟩
  | .hbm, ⟨28, _⟩ => ⟨S256x1024, .f32⟩
  | .hbm, ⟨29, _⟩ => ⟨S256x1024, .bf16⟩
  | .hbm, ⟨30, _⟩ => ⟨S256x1, .f32⟩
  | .hbm, ⟨31, _⟩ => ⟨S1024x512, .bf16⟩
  | .hbm, ⟨32, _⟩ => ⟨S256x1024, .bf16⟩
  | .hbm, ⟨33, _⟩ => ⟨S32768x1024, .f32⟩
  | .hbm, ⟨34, _⟩ => ⟨S131072x2x128, .bf16⟩
  | .hbm, ⟨35, _⟩ => ⟨S8x32768, .i32⟩
  | .hbm, ⟨36, _⟩ => ⟨S8x32768, .f32⟩
  | .hbm, ⟨37, _⟩ => ⟨S8x32768, .i32⟩
  | .hbm, ⟨38, _⟩ => ⟨S256x128, .i32⟩
  | .hbm, ⟨39, _⟩ => ⟨S32768x1024, .bf16⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x1024, .bf16⟩
  | .local _ .vmem, ⟨7, _⟩ => ⟨S512x1024, .bf16⟩
  | .local _ .vmem, ⟨8, _⟩ => ⟨S1024x2048, .bf16⟩
  | .local _ .vmem, ⟨9, _⟩ => ⟨S1024x1024, .bf16⟩
  | .local _ .vmem, ⟨10, _⟩ => ⟨S1x1024, .f32⟩
  | .local _ .vmem, ⟨11, _⟩ => ⟨S1x1024, .f32⟩
  | .local _ .vmem, ⟨12, _⟩ => ⟨S256x1024, .bf16⟩
  | .local _ .vmem, ⟨13, _⟩ => ⟨S256x1, .f32⟩
  | .local _ .vmem, ⟨14, _⟩ => ⟨S256x256, .bf16⟩
  | .local _ .vmem, ⟨15, _⟩ => ⟨S1024x512, .bf16⟩
  | .local _ .vmem, ⟨16, _⟩ => ⟨S256x1024, .bf16⟩
  | .local _ .vmem, ⟨17, _⟩ => ⟨S512x1024, .f32⟩
  | .local _ .vmem, ⟨18, _⟩ => ⟨S512x1024, .f32⟩
  | .local _ .vmem, ⟨19, _⟩ => ⟨S2048x2x128, .bf16⟩
  | .local _ .vmem, ⟨20, _⟩ => ⟨S2048x2x128, .bf16⟩
  | .local _ .vmem, ⟨21, _⟩ => ⟨S8x512, .i32⟩
  | .local _ .vmem, ⟨22, _⟩ => ⟨S8x512, .i32⟩
  | .local _ .vmem, ⟨23, _⟩ => ⟨S8x512, .f32⟩
  | .local _ .vmem, ⟨24, _⟩ => ⟨S8x512, .f32⟩
  | .local _ .vmem, ⟨25, _⟩ => ⟨S8x512, .i32⟩
  | .local _ .vmem, ⟨26, _⟩ => ⟨S8x512, .i32⟩
  | .local _ .vmem, ⟨27, _⟩ => ⟨S256x128, .i32⟩
  | .local _ .vmem, ⟨28, _⟩ => ⟨S512x1024, .bf16⟩
  | .local _ .vmem, ⟨29, _⟩ => ⟨S512x1024, .bf16⟩
  | .local _ .vmem, ⟨30, _⟩ => ⟨S256x128, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20_0 : Ref sig .tc := ⟨.hbm, 33, rfl⟩
abbrev main_v20_1 : Ref sig .tc := ⟨.hbm, 34, rfl⟩
abbrev main_v20_2 : Ref sig .tc := ⟨.hbm, 35, rfl⟩
abbrev main_v20_3 : Ref sig .tc := ⟨.hbm, 36, rfl⟩
abbrev main_v20_4 : Ref sig .tc := ⟨.hbm, 37, rfl⟩
abbrev main_v20_5 : Ref sig .tc := ⟨.hbm, 38, rfl⟩
abbrev main_v20_6 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg17_1 : Ref sig .tc := ⟨.vmem, 24, rfl⟩
abbrev cc0_stg18_0 : Ref sig .tc := ⟨.vmem, 25, rfl⟩
abbrev cc0_stg18_1 : Ref sig .tc := ⟨.vmem, 26, rfl⟩
abbrev cc0_stg19_0 : Ref sig .tc := ⟨.vmem, 27, rfl⟩
abbrev cc0_stg20_0 : Ref sig .tc := ⟨.vmem, 28, rfl⟩
abbrev cc0_stg20_1 : Ref sig .tc := ⟨.vmem, 29, rfl⟩
abbrev cc0_scratch0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem14_1 : DmaSem sig := 18
abbrev cc0_sem15_0 : DmaSem sig := 19
abbrev cc0_sem15_1 : DmaSem sig := 20
abbrev cc0_sem16_0 : DmaSem sig := 21
abbrev cc0_sem16_1 : DmaSem sig := 22
abbrev cc0_sem17_0 : DmaSem sig := 23
abbrev cc0_sem17_1 : DmaSem sig := 24
abbrev cc0_sem18_0 : DmaSem sig := 25
abbrev cc0_sem18_1 : DmaSem sig := 26
abbrev cc0_sem19_0 : DmaSem sig := 27
abbrev cc0_sem20_0 : DmaSem sig := 28
abbrev cc0_sem20_1 : DmaSem sig := 29

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 3 → Nat :=
  let arg0 : BitVec 32 := BitVec.ofNat 32 (i 0).val
  let c0_i32 : BitVec 32 := 0#32
  let c0_i32_0 : BitVec 32 := 0#32
  ![arg0.toNat, 0, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S2048x2x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S8x512 .i32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S8x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S8x512 .i32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 1 → Memref sig .tc .vmem S256x128 .i32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 2 → Memref sig .tc .vmem S512x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== Reference2Ideal.lean ====
abbrev S16x2048x1024 : Shape := ⟨3, ![16, 2048, 1024]⟩
abbrev S32768x512 : Shape := ⟨2, ![32768, 512]⟩
abbrev S1024x3360 : Shape := ⟨2, ![1024, 3360]⟩
abbrev S512x1024 : Shape := ⟨2, ![512, 1024]⟩
abbrev S1024x1024 : Shape := ⟨2, ![1024, 1024]⟩
abbrev S1024 : Shape := ⟨1, ![1024]⟩
abbrev S1024x256 : Shape := ⟨2, ![1024, 256]⟩
abbrev S256 : Shape := ⟨1, ![256]⟩
abbrev S1024x512 : Shape := ⟨2, ![1024, 512]⟩
abbrev S256x1024 : Shape := ⟨2, ![256, 1024]⟩
abbrev S32768x1024 : Shape := ⟨2, ![32768, 1024]⟩
abbrev S1024x2048 : Shape := ⟨2, ![1024, 2048]⟩
abbrev S32768x2048 : Shape := ⟨2, ![32768, 2048]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x256 : Shape := ⟨2, ![32768, 256]⟩

abbrev nBuf : Space → Nat
  | .hbm => 88
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S32768x512, .f32⟩
  | .hbm, ⟨2, _⟩ => ⟨S32768x512, .f32⟩
  | .hbm, ⟨3, _⟩ => ⟨S1024x3360, .f32⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S1024x256, .f32⟩
  | .hbm, ⟨10, _⟩ => ⟨S256, .f32⟩
  | .hbm, ⟨11, _⟩ => ⟨S1024x512, .f32⟩
  | .hbm, ⟨12, _⟩ => ⟨S256x1024, .f32⟩
  | .hbm, ⟨13, _⟩ => ⟨S32768x1024, .f32⟩
  | .hbm, ⟨14, _⟩ => ⟨S1024x2048, .f32⟩
  | .hbm, ⟨15, _⟩ => ⟨S32768x2048, .f32⟩
  | .hbm, ⟨16, _⟩ => ⟨S32768x1024, .f32⟩
  | .hbm, ⟨17, _⟩ => ⟨S32768x1024, .f32⟩
  | .hbm, ⟨18, _⟩ => ⟨S32768x1024, .f32⟩
  | .hbm, ⟨19, _⟩ => ⟨S_, .f32⟩
  | .hbm, ⟨20, _⟩ => ⟨S32768x1024, .f32⟩
  | .hbm, ⟨21, _⟩ => ⟨S32768x1024, .f32⟩
  | .hbm, ⟨22, _⟩ => ⟨S_, .f32⟩
  | .hbm, ⟨23, _⟩ => ⟨S32768x1024, .f32⟩
  | .hbm, ⟨24, _⟩ => ⟨S32768x1024, .f32⟩
  | .hbm, ⟨25, _⟩ => ⟨S32768x1024, .f32⟩
  | .hbm, ⟨26, _⟩ => ⟨S32768x1024, .f32⟩
  | .hbm, ⟨27, _⟩ => ⟨S32768x1024, .f32⟩
  | .hbm, ⟨28, _⟩ => ⟨S32768x1024, .f32⟩
  | .hbm, ⟨29, _⟩ => ⟨S32768x1024, .f32⟩
  | .hbm, ⟨30, _⟩ => ⟨S_, .f32⟩
  | .hbm, ⟨31, _⟩ => ⟨S32768x1024, .f32⟩
  | .hbm, ⟨32, _⟩ => ⟨S32768x1024, .f32⟩
  | .hbm, ⟨33, _⟩ => ⟨S_, .f32⟩
  | .hbm, ⟨34, _⟩ => ⟨S32768x1024, .f32⟩
  | .hbm, ⟨35, _⟩ => ⟨S32768x1024, .f32⟩
  | .hbm, ⟨36, _⟩ => ⟨S32768x1024, .f32⟩
  | .hbm, ⟨37, _⟩ => ⟨S32768x1024, .f32⟩
  | .hbm, ⟨38, _⟩ => ⟨S32768x1024, .f32⟩
  | .hbm, ⟨39, _⟩ => ⟨S_, .f32⟩
  | .hbm, ⟨40, _⟩ => ⟨S32768x1024, .f32⟩
  | .hbm, ⟨41, _⟩ => ⟨S32768x1024, .f32⟩
  | .hbm, ⟨42, _⟩ => ⟨S32768x1024, .f32⟩
  | .hbm, ⟨43, _⟩ => ⟨S32768x1024, .f32⟩
  | .hbm, ⟨44, _⟩ => ⟨S_, .f32⟩
  | .hbm, ⟨45, _⟩ => ⟨S32768, .f32⟩
  | .hbm, ⟨46, _⟩ => ⟨S32768x1, .f32⟩
  | .hbm, ⟨47, _⟩ => ⟨S_, .f32⟩
  | .hbm, ⟨48, _⟩ => ⟨S32768x1, .f32⟩
  | .hbm, ⟨49, _⟩ => ⟨S32768x1, .f32⟩
  | .hbm, ⟨50, _⟩ => ⟨S32768x1024, .f32⟩
  | .hbm, ⟨51, _⟩ => ⟨S32768x1024, .f32⟩
  | .hbm, ⟨52, _⟩ => ⟨S32768x1024, .f32⟩
  | .hbm, ⟨53, _⟩ => ⟨S_, .f32⟩
  | .hbm, ⟨54, _⟩ => ⟨S32768, .f32⟩
  | .hbm, ⟨55, _⟩ => ⟨S32768x1, .f32⟩
  | .hbm, ⟨56, _⟩ => ⟨S_, .f32⟩
  | .hbm, ⟨57, _⟩ => ⟨S32768x1, .f32⟩
  | .hbm, ⟨58, _⟩ => ⟨S32768x1, .f32⟩
  | .hbm, ⟨59, _⟩ => ⟨S32768x1024, .f32⟩
  | .hbm, ⟨60, _⟩ => ⟨S32768x1024, .f32⟩
  | .hbm, ⟨61, _⟩ => ⟨S_, .f32⟩
  | .hbm, ⟨62, _⟩ => ⟨S32768x1, .f32⟩
  | .hbm, ⟨63, _⟩ => ⟨S32768x1, .f32⟩
  | .hbm, ⟨64, _⟩ => ⟨S32768x1, .f32⟩
  | .hbm, ⟨65, _⟩ => ⟨S32768x1024, .f32⟩
  | .hbm, ⟨66, _⟩ => ⟨S32768x1024, .f32⟩
  | .hbm, ⟨67, _⟩ => ⟨S1x1024, .f32⟩
  | .hbm, ⟨68, _⟩ => ⟨S32768x1024, .f32⟩
  | .hbm, ⟨69, _⟩ => ⟨S32768x1024, .f32⟩
  | .hbm, ⟨70, _⟩ => ⟨S1x1024, .f32⟩
  | .hbm, ⟨71, _⟩ => ⟨S32768x1024, .f32⟩
  | .hbm, ⟨72, _⟩ => ⟨S32768x1024, .f32⟩
  | .hbm, ⟨73, _⟩ => ⟨S32768x512, .f32⟩
  | .hbm, ⟨74, _⟩ => ⟨S32768x256, .f32⟩
  | .hbm, ⟨75, _⟩ => ⟨S32768x256, .f32⟩
  | .hbm, ⟨76, _⟩ => ⟨S32768x256, .f32⟩
  | .hbm, ⟨77, _⟩ => ⟨S_, .f32⟩
  | .hbm, ⟨78, _⟩ => ⟨S32768x256, .f32⟩
  | .hbm, ⟨79, _⟩ => ⟨S32768x256, .f32⟩
  | .hbm, ⟨80, _⟩ => ⟨S_, .f32⟩
  | .hbm, ⟨81, _⟩ => ⟨S32768x256, .f32⟩
  | .hbm, ⟨82, _⟩ => ⟨S32768x256, .f32⟩
  | .hbm, ⟨83, _⟩ => ⟨S32768x256, .f32⟩
  | .hbm, ⟨84, _⟩ => ⟨S32768x256, .f32⟩
  | .hbm, ⟨85, _⟩ => ⟨S32768x256, .f32⟩
  | .hbm, ⟨86, _⟩ => ⟨S32768x1024, .f32⟩
  | .hbm, ⟨87, _⟩ => ⟨S32768x1024, .bf16⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst : Ref sig .tc := ⟨.hbm, 19, rfl⟩
abbrev main_v6 : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_1 : Ref sig .tc := ⟨.hbm, 30, rfl⟩
abbrev main_v15 : Ref sig .tc := ⟨.hbm, 31, rfl⟩
abbrev main_v16 : Ref sig .tc := ⟨.hbm, 32, rfl⟩
abbrev main_cst_2 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_3 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_4 : Ref sig .tc := ⟨.hbm, 44, rfl⟩
abbrev main_v26 : Ref sig .tc := ⟨.hbm, 45, rfl⟩
abbrev main_v27 : Ref sig .tc := ⟨.hbm, 46, rfl⟩
abbrev main_cst_5 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_6 : Ref sig .tc := ⟨.hbm, 53, rfl⟩
abbrev main_v33 : Ref sig .tc := ⟨.hbm, 54, rfl⟩
abbrev main_v34 : Ref sig .tc := ⟨.hbm, 55, rfl⟩
abbrev main_cst_7 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_8 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_call0_v0 : Ref sig .tc := ⟨.hbm, 75, rfl⟩
abbrev main_call0_v1 : Ref sig .tc := ⟨.hbm, 76, rfl⟩
abbrev main_call0_cst : Ref sig .tc := ⟨.hbm, 77, rfl⟩
abbrev main_call0_v2 : Ref sig .tc := ⟨.hbm, 78, rfl⟩
abbrev main_call0_v3 : Ref sig .tc := ⟨.hbm, 79, rfl⟩
abbrev main_call0_cst_0 : Ref sig .tc := ⟨.hbm, 80, rfl⟩
abbrev main_call0_v4 : Ref sig .tc := ⟨.hbm, 81, rfl⟩
abbrev main_call0_v5 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩

abbrev nD : Nat := 1
abbrev τ : Topo := Topo.v7x

variable {F : FTy → Type} [FloatOps F]
-- ==== Kernel3.lean ====
abbrev S16x2048x1024 : Shape := ⟨3, ![16, 2048, 1024]⟩
abbrev S1024x3360 : Shape := ⟨2, ![1024, 3360]⟩
abbrev S256 : Shape := ⟨1, ![256]⟩
abbrev S256x768 : Shape := ⟨2, ![256, 768]⟩
abbrev S256x1024 : Shape := ⟨2, ![256, 1024]⟩
abbrev S_ : Shape := ⟨0, ![]⟩
abbrev S1024x32 : Shape := ⟨2, ![1024, 32]⟩
abbrev S1024x512 : Shape := ⟨2, ![1024, 512]⟩
abbrev S1024x64 : Shape := ⟨2, ![1024, 64]⟩
abbrev S1024x16 : Shape := ⟨2, ![1024, 16]⟩
abbrev S1024x1536 : Shape := ⟨2, ![1024, 1536]⟩
abbrev S1024x128 : Shape := ⟨2, ![1024, 128]⟩
abbrev S128x1024 : Shape := ⟨2, ![128, 1024]⟩
abbrev S256x8x96 : Shape := ⟨3, ![256, 8, 96]⟩
abbrev S256x8x32 : Shape := ⟨3, ![256, 8, 32]⟩
abbrev S256x8x16 : Shape := ⟨3, ![256, 8, 16]⟩
abbrev S256x8x128 : Shape := ⟨3, ![256, 8, 128]⟩
abbrev S256x2048 : Shape := ⟨2, ![256, 2048]⟩
abbrev S256x8x64 : Shape := ⟨3, ![256, 8, 64]⟩
abbrev S256x512 : Shape := ⟨2, ![256, 512]⟩
abbrev S512x256 : Shape := ⟨2, ![512, 256]⟩
abbrev S16 : Shape := ⟨1, ![16]⟩
abbrev S2048 : Shape := ⟨1, ![2048]⟩
abbrev S2048x1 : Shape := ⟨2, ![2048, 1]⟩
abbrev S1x16 : Shape := ⟨2, ![1, 16]⟩
abbrev S2048x16 : Shape := ⟨2, ![2048, 16]⟩
abbrev S2048x64 : Shape := ⟨2, ![2048, 64]⟩
abbrev S2048x32 : Shape := ⟨2, ![2048, 32]⟩
abbrev S2048x128 : Shape := ⟨2, ![2048, 128]⟩
abbrev S32768x1024 : Shape := ⟨2, ![32768, 1024]⟩
abbrev S1x256 : Shape := ⟨2, ![1, 256]⟩
abbrev S640x32768 : Shape := ⟨2, ![640, 32768]⟩
abbrev S32768x512 : Shape := ⟨2, ![32768, 512]⟩
abbrev S160x32768 : Shape := ⟨2, ![160, 32768]⟩
abbrev S512x1024 : Shape := ⟨2, ![512, 1024]⟩
abbrev S512x128 : Shape := ⟨2, ![512, 128]⟩
abbrev S640x512 : Shape := ⟨2, ![640, 512]⟩
abbrev S512x512 : Shape := ⟨2, ![512, 512]⟩
abbrev S160x512 : Shape := ⟨2, ![160, 512]⟩
abbrev S512x1536 : Shape := ⟨2, ![512, 1536]⟩
abbrev S512 : Shape := ⟨1, ![512]⟩
abbrev S512x1 : Shape := ⟨2, ![512, 1]⟩
abbrev S16x512 : Shape := ⟨2, ![16, 512]⟩
abbrev S128x512 : Shape := ⟨2, ![128, 512]⟩
abbrev S64x512 : Shape := ⟨2, ![64, 512]⟩
abbrev S512x2048 : Shape := ⟨2, ![512, 2048]⟩

abbrev nBuf : Space → Nat
  | .hbm => 111
  | .vmem => 29
  | .smem => 0
  | _ => 0

abbrev bufTy : (tb : Table) → Fin (tcTables nBuf tb) → BufTy
  | .hbm, ⟨0, _⟩ => ⟨S16x2048x1024, .f32⟩
  | .hbm, ⟨1, _⟩ => ⟨S1024x3360, .f32⟩
  | .hbm, ⟨2, _⟩ => ⟨S256, .f32⟩
  | .hbm, ⟨3, _⟩ => ⟨S256, .f32⟩
  | .hbm, ⟨4, _⟩ => ⟨S256x768, .f32⟩
  | .hbm, ⟨5, _⟩ => ⟨S256x1024, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S1024x32, .f32⟩
  | .hbm, ⟨11, _⟩ => ⟨S1024x512, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S1024x512, .f32⟩
  | .hbm, ⟨16, _⟩ => ⟨S1024x512, .f32⟩
  | .hbm, ⟨17, _⟩ => ⟨S1024x64, .f32⟩
  | .hbm, ⟨18, _⟩ => ⟨S1024x64, .f32⟩
  | .hbm, ⟨19, _⟩ => ⟨S1024x512, .f32⟩
  | .hbm, ⟨20, _⟩ => ⟨S_, .f32⟩
  | .hbm, ⟨21, _⟩ => ⟨S1024x64, .f32⟩
  | .hbm, ⟨22, _⟩ => ⟨S_, .f32⟩
  | .hbm, ⟨23, _⟩ => ⟨S1024x32, .f32⟩
  | .hbm, ⟨24, _⟩ => ⟨S_, .f32⟩
  | .hbm, ⟨25, _⟩ => ⟨S1024x64, .f32⟩
  | .hbm, ⟨26, _⟩ => ⟨S1024x16, .f32⟩
  | .hbm, ⟨27, _⟩ => ⟨S1024x16, .f32⟩
  | .hbm, ⟨28, _⟩ => ⟨S1024x16, .f32⟩
  | .hbm, ⟨29, _⟩ => ⟨S_, .f32⟩
  | .hbm, ⟨30, _⟩ => ⟨S1024x32, .f32⟩
  | .hbm, ⟨31, _⟩ => ⟨S1024x1536, .f32⟩
  | .hbm, ⟨32, _⟩ => ⟨S1024x1536, .bf16⟩
  | .hbm, ⟨33, _⟩ => ⟨S1024x128, .f32⟩
  | .hbm, ⟨34, _⟩ => ⟨S128x1024, .f32⟩
  | .hbm, ⟨35, _⟩ => ⟨S128x1024, .bf16⟩
  | .hbm, ⟨36, _⟩ => ⟨S256x8x96, .f32⟩
  | .hbm, ⟨37, _⟩ => ⟨S256x8x32, .f32⟩
  | .hbm, ⟨38, _⟩ => ⟨S256x8x16, .f32⟩
  | .hbm, ⟨39, _⟩ => ⟨S256x8x16, .f32⟩
  | .hbm, ⟨40, _⟩ => ⟨S256x8x16, .f32⟩
  | .hbm, ⟨41, _⟩ => ⟨S256x8x32, .f32⟩
  | .hbm, ⟨42, _⟩ => ⟨S_, .i32⟩
  | .hbm, ⟨43, _⟩ => ⟨S_, .f32⟩
  | .hbm, ⟨44, _⟩ => ⟨S256x8x128, .f32⟩
  | .hbm, ⟨45, _⟩ => ⟨S256x1024, .f32⟩
  | .hbm, ⟨46, _⟩ => ⟨S_, .i32⟩
  | .hbm, ⟨47, _⟩ => ⟨S_, .f32⟩
  | .hbm, ⟨48, _⟩ => ⟨S256x8x128, .f32⟩
  | .hbm, ⟨49, _⟩ => ⟨S256x1024, .f32⟩
  | .hbm, ⟨50, _⟩ => ⟨S256x2048, .f32⟩
  | .hbm, ⟨51, _⟩ => ⟨S256x2048, .bf16⟩
  | .hbm, ⟨52, _⟩ => ⟨S256x8x128, .f32⟩
  | .hbm, ⟨53, _⟩ => ⟨S256x8x64, .f32⟩
  | .hbm, ⟨54, _⟩ => ⟨S_, .i32⟩
  | .hbm, ⟨55, _⟩ => ⟨S_, .f32⟩
  | .hbm, ⟨56, _⟩ => ⟨S256x8x128, .f32⟩
  | .hbm, ⟨57, _⟩ => ⟨S256x1024, .f32⟩
  | .hbm, ⟨58, _⟩ => ⟨S256x1024, .bf16⟩
  | .hbm, ⟨59, _⟩ => ⟨S256x8x64, .f32⟩
  | .hbm, ⟨60, _⟩ => ⟨S256x512, .f32⟩
  | .hbm, ⟨61, _⟩ => ⟨S512x256, .f32⟩
  | .hbm, ⟨62, _⟩ => ⟨S512x256, .bf16⟩
  | .hbm, ⟨63, _⟩ => ⟨S16, .f32⟩
  | .hbm, ⟨64, _⟩ => ⟨S_, .f32⟩
  | .hbm, ⟨65, _⟩ => ⟨S16, .f32⟩
  | .hbm, ⟨66, _⟩ => ⟨S16, .f32⟩
  | .hbm, ⟨67, _⟩ => ⟨S_, .f32⟩
  | .hbm, ⟨68, _⟩ => ⟨S16, .f32⟩
  | .hbm, ⟨69, _⟩ => ⟨S16, .f32⟩
  | .hbm, ⟨70, _⟩ => ⟨S16, .f32⟩
  | .hbm, ⟨71, _⟩ => ⟨S_, .f32⟩
  | .hbm, ⟨72, _⟩ => ⟨S16, .f32⟩
  | .hbm, ⟨73, _⟩ => ⟨S16, .f32⟩
  | .hbm, ⟨74, _⟩ => ⟨S_, .f32⟩
  | .hbm, ⟨75, _⟩ => ⟨S16, .f32⟩
  | .hbm, ⟨76, _⟩ => ⟨S16, .f32⟩
  | .hbm, ⟨77, _⟩ => ⟨S2048, .f32⟩
  | .hbm, ⟨78, _⟩ => ⟨S2048x1, .f32⟩
  | .hbm, ⟨79, _⟩ => ⟨S1x16, .f32⟩
  | .hbm, ⟨80, _⟩ => ⟨S2048x16, .f32⟩
  | .hbm, ⟨81, _⟩ => ⟨S2048x16, .f32⟩
  | .hbm, ⟨82, _⟩ => ⟨S2048x16, .f32⟩
  | .hbm, ⟨83, _⟩ => ⟨S2048x16, .f32⟩
  | .hbm, ⟨84, _⟩ => ⟨S2048x16, .f32⟩
  | .hbm, ⟨85, _⟩ => ⟨S_, .f32⟩
  | .hbm, ⟨86, _⟩ => ⟨S2048x64, .f32⟩
  | .hbm, ⟨87, _⟩ => ⟨S_, .f32⟩
  | .hbm, ⟨88, _⟩ => ⟨S2048x64, .f32⟩
  | .hbm, ⟨89, _⟩ => ⟨S_, .f32⟩
  | .hbm, ⟨90, _⟩ => ⟨S2048x32, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S2048x128, .f32⟩
  | .hbm, ⟨95, _⟩ => ⟨S2048x128, .f32⟩
  | .hbm, ⟨96, _⟩ => ⟨S2048x128, .f32⟩
  | .hbm, ⟨97, _⟩ => ⟨S2048x128, .f32⟩
  | .hbm, ⟨98, _⟩ => ⟨S2048x128, .f32⟩
  | .hbm, ⟨99, _⟩ => ⟨S2048x128, .f32⟩
  | .hbm, ⟨100, _⟩ => ⟨S2048x128, .f32⟩
  | .hbm, ⟨101, _⟩ => ⟨S2048x128, .f32⟩
  | .hbm, ⟨102, _⟩ => ⟨S32768x1024, .f32⟩
  | .hbm, ⟨103, _⟩ => ⟨S1x256, .f32⟩
  | .hbm, ⟨104, _⟩ => ⟨S1x256, .f32⟩
  | .hbm, ⟨105, _⟩ => ⟨S32768x1024, .bf16⟩
  | .hbm, ⟨106, _⟩ => ⟨S32768x1024, .bf16⟩
  | .hbm, ⟨107, _⟩ => ⟨S640x32768, .bf16⟩
  | .hbm, ⟨108, _⟩ => ⟨S32768x512, .bf16⟩
  | .hbm, ⟨109, _⟩ => ⟨S32768x512, .bf16⟩
  | .hbm, ⟨110, _⟩ => ⟨S160x32768, .bf16⟩
  | .local _ .vmem, ⟨0, _⟩ => ⟨S512x1024, .f32⟩
  | .local _ .vmem, ⟨1, _⟩ => ⟨S512x1024, .f32⟩
  | .local _ .vmem, ⟨2, _⟩ => ⟨S1024x1536, .bf16⟩
  | .local _ .vmem, ⟨3, _⟩ => ⟨S128x1024, .bf16⟩
  | .local _ .vmem, ⟨4, _⟩ => ⟨S256x2048, .bf16⟩
  | .local _ .vmem, ⟨5, _⟩ => ⟨S256x1024, .bf16⟩
  | .local _ .vmem, ⟨6, _⟩ => ⟨S512x256, .bf16⟩
  | .local _ .vmem, ⟨7, _⟩ => ⟨S1x256, .f32⟩
  | .local _ .vmem, ⟨8, _⟩ => ⟨S1x256, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S640x512, .bf16⟩
  | .local _ .vmem, ⟨22, _⟩ => ⟨S640x512, .bf16⟩
  | .local _ .vmem, ⟨23, _⟩ => ⟨S512x512, .bf16⟩
  | .local _ .vmem, ⟨24, _⟩ => ⟨S512x512, .bf16⟩
  | .local _ .vmem, ⟨25, _⟩ => ⟨S512x512, .bf16⟩
  | .local _ .vmem, ⟨26, _⟩ => ⟨S512x512, .bf16⟩
  | .local _ .vmem, ⟨27, _⟩ => ⟨S160x512, .bf16⟩
  | .local _ .vmem, ⟨28, _⟩ => ⟨S160x512, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_cst_4 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_5 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_c : Ref sig .tc := ⟨.hbm, 42, rfl⟩
abbrev main_call0_v0 : Ref sig .tc := ⟨.hbm, 43, rfl⟩
abbrev main_v29 : Ref sig .tc := ⟨.hbm, 44, rfl⟩
abbrev main_v30 : Ref sig .tc := ⟨.hbm, 45, rfl⟩
abbrev main_c_6 : Ref sig .tc := ⟨.hbm, 46, rfl⟩
abbrev main_call1_v0 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_c_7 : Ref sig .tc := ⟨.hbm, 54, rfl⟩
abbrev main_call2_v0 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_8 : Ref sig .tc := ⟨.hbm, 64, rfl⟩
abbrev main_v45 : Ref sig .tc := ⟨.hbm, 65, rfl⟩
abbrev main_v46 : Ref sig .tc := ⟨.hbm, 66, rfl⟩
abbrev main_cst_9 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_10 : Ref sig .tc := ⟨.hbm, 71, rfl⟩
abbrev main_v50 : Ref sig .tc := ⟨.hbm, 72, rfl⟩
abbrev main_v51 : Ref sig .tc := ⟨.hbm, 73, rfl⟩
abbrev main_cst_11 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_12 : Ref sig .tc := ⟨.hbm, 85, rfl⟩
abbrev main_v62 : Ref sig .tc := ⟨.hbm, 86, rfl⟩
abbrev main_cst_13 : Ref sig .tc := ⟨.hbm, 87, rfl⟩
abbrev main_v63 : Ref sig .tc := ⟨.hbm, 88, rfl⟩
abbrev main_cst_14 : Ref sig .tc := ⟨.hbm, 89, rfl⟩
abbrev main_v64 : Ref sig .tc := ⟨.hbm, 90, rfl⟩
abbrev main_cst_15 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78_0 : Ref sig .tc := ⟨.hbm, 105, rfl⟩
abbrev main_v78_1 : Ref sig .tc := ⟨.hbm, 106, rfl⟩
abbrev main_v78_2 : Ref sig .tc := ⟨.hbm, 107, rfl⟩
abbrev main_v78_3 : Ref sig .tc := ⟨.hbm, 108, rfl⟩
abbrev main_v78_4 : Ref sig .tc := ⟨.hbm, 109, rfl⟩
abbrev main_v78_5 : Ref sig .tc := ⟨.hbm, 110, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_10 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_11 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S640x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S160x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== Reference3Ideal.lean ====
abbrev S16x2048x1024 : Shape := ⟨3, ![16, 2048, 1024]⟩
abbrev S1024x3360 : Shape := ⟨2, ![1024, 3360]⟩
abbrev S256 : Shape := ⟨1, ![256]⟩
abbrev S256x768 : Shape := ⟨2, ![256, 768]⟩
abbrev S256x1024 : Shape := ⟨2, ![256, 1024]⟩
abbrev S32768x1024 : Shape := ⟨2, ![32768, 1024]⟩
abbrev S1024x1312 : Shape := ⟨2, ![1024, 1312]⟩
abbrev S32768x1312 : Shape := ⟨2, ![32768, 1312]⟩
abbrev S32768x256 : Shape := ⟨2, ![32768, 256]⟩
abbrev S32768x32 : Shape := ⟨2, ![32768, 32]⟩
abbrev S32768x512 : Shape := ⟨2, ![32768, 512]⟩
abbrev S32768x128 : Shape := ⟨2, ![32768, 128]⟩
abbrev S_ : Shape := ⟨0, ![]⟩
abbrev S32768 : Shape := ⟨1, ![32768]⟩
abbrev S32768x1 : Shape := ⟨2, ![32768, 1]⟩
abbrev S1x256 : Shape := ⟨2, ![1, 256]⟩
abbrev S32768x768 : Shape := ⟨2, ![32768, 768]⟩
abbrev S16x2048x8x96 : Shape := ⟨4, ![16, 2048, 8, 96]⟩
abbrev S16x2048x8x128 : Shape := ⟨4, ![16, 2048, 8, 128]⟩
abbrev S16 : Shape := ⟨1, ![16]⟩
abbrev S2048 : Shape := ⟨1, ![2048]⟩
abbrev S2048x1 : Shape := ⟨2, ![2048, 1]⟩
abbrev S1x16 : Shape := ⟨2, ![1, 16]⟩
abbrev S2048x16 : Shape := ⟨2, ![2048, 16]⟩
abbrev S16x2048x8x32 : Shape := ⟨4, ![16, 2048, 8, 32]⟩
abbrev S2048x1x16 : Shape := ⟨3, ![2048, 1, 16]⟩
abbrev S16x2048x8x16 : Shape := ⟨4, ![16, 2048, 8, 16]⟩
abbrev S1x2048x1x16 : Shape := ⟨4, ![1, 2048, 1, 16]⟩
abbrev S16x2048x32 : Shape := ⟨3, ![16, 2048, 32]⟩
abbrev S16x2048x16 : Shape := ⟨3, ![16, 2048, 16]⟩
abbrev S1x2048x16 : Shape := ⟨3, ![1, 2048, 16]⟩
abbrev S16x2048x8x64 : Shape := ⟨4, ![16, 2048, 8, 64]⟩
abbrev S16x2048x1x32 : Shape := ⟨4, ![16, 2048, 1, 32]⟩
abbrev S32768x8x64 : Shape := ⟨3, ![32768, 8, 64]⟩
abbrev S8x64x32768 : Shape := ⟨3, ![8, 64, 32768]⟩
abbrev S8x16x32768 : Shape := ⟨3, ![8, 16, 32768]⟩
abbrev S8x80x32768 : Shape := ⟨3, ![8, 80, 32768]⟩
abbrev S32768x2x1x64 : Shape := ⟨4, ![32768, 2, 1, 64]⟩
abbrev S32768x2x4x64 : Shape := ⟨4, ![32768, 2, 4, 64]⟩
abbrev S32768x2x64 : Shape := ⟨3, ![32768, 2, 64]⟩
abbrev S2x64x32768 : Shape := ⟨3, ![2, 64, 32768]⟩
abbrev S2x16x32768 : Shape := ⟨3, ![2, 16, 32768]⟩
abbrev S2x80x32768 : Shape := ⟨3, ![2, 80, 32768]⟩
abbrev S640x32768 : Shape := ⟨2, ![640, 32768]⟩
abbrev S160x32768 : Shape := ⟨2, ![160, 32768]⟩

abbrev nBuf : Space → Nat
  | .hbm => 163
  | .vmem => 0
  | .smem => 0
  | _ => 0

abbrev hbmTy0_0 (i : Nat) : BufTy := match i % 128 with
  | 0 => ⟨S16x2048x1024, .f32⟩
  | 1 => ⟨S1024x3360, .f32⟩
  | 2 => ⟨S256, .f32⟩
  | 3 => ⟨S256, .f32⟩
  | 4 => ⟨S256x768, .f32⟩
  | 5 => ⟨S256x1024, .f32⟩
  | 6 => ⟨S32768x1024, .f32⟩
  | 7 => ⟨S1024x1312, .f32⟩
  | 8 => ⟨S32768x1312, .f32⟩
  | 9 => ⟨S32768x256, .f32⟩
  | 10 => ⟨S32768x256, .f32⟩
  | 11 => ⟨S32768x32, .f32⟩
  | 12 => ⟨S32768x512, .f32⟩
  | 13 => ⟨S32768x128, .f32⟩
  | 14 => ⟨S32768x128, .f32⟩
  | 15 => ⟨S32768x256, .f32⟩
  | 16 => ⟨S_, .f32⟩
  | 17 => ⟨S32768, .f32⟩
  | 18 => ⟨S32768x1, .f32⟩
  | 19 => ⟨S_, .f32⟩
  | 20 => ⟨S32768x1, .f32⟩
  | 21 => ⟨S32768x1, .f32⟩
  | 22 => ⟨S_, .f32⟩
  | 23 => ⟨S32768x1, .f32⟩
  | 24 => ⟨S32768x1, .f32⟩
  | 25 => ⟨S32768x1, .f32⟩
  | 26 => ⟨S32768x256, .f32⟩
  | 27 => ⟨S32768x256, .f32⟩
  | 28 => ⟨S1x256, .f32⟩
  | 29 => ⟨S32768x256, .f32⟩
  | 30 => ⟨S32768x256, .f32⟩
  | 31 => ⟨S32768x768, .f32⟩
  | 32 => ⟨S16x2048x8x96, .f32⟩
  | 33 => ⟨S32768x256, .f32⟩
  | 34 => ⟨S_, .f32⟩
  | 35 => ⟨S32768, .f32⟩
  | 36 => ⟨S32768x1, .f32⟩
  | 37 => ⟨S_, .f32⟩
  | 38 => ⟨S32768x1, .f32⟩
  | 39 => ⟨S32768x1, .f32⟩
  | 40 => ⟨S_, .f32⟩
  | 41 => ⟨S32768x1, .f32⟩
  | 42 => ⟨S32768x1, .f32⟩
  | 43 => ⟨S32768x1, .f32⟩
  | 44 => ⟨S32768x256, .f32⟩
  | 45 => ⟨S32768x256, .f32⟩
  | 46 => ⟨S1x256, .f32⟩
  | 47 => ⟨S32768x256, .f32⟩
  | 48 => ⟨S32768x256, .f32⟩
  | 49 => ⟨S32768x1024, .f32⟩
  | 50 => ⟨S16x2048x8x128, .f32⟩
  | 51 => ⟨S16, .f32⟩
  | 52 => ⟨S_, .f32⟩
  | 53 => ⟨S16, .f32⟩
  | 54 => ⟨S16, .f32⟩
  | 55 => ⟨S_, .f32⟩
  | 56 => ⟨S16, .f32⟩
  | 57 => ⟨S16, .f32⟩
  | 58 => ⟨S16, .f32⟩
  | 59 => ⟨S_, .f32⟩
  | 60 => ⟨S16, .f32⟩
  | 61 => ⟨S16, .f32⟩
  | 62 => ⟨S_, .f32⟩
  | 63 => ⟨S16, .f32⟩
  | 64 => ⟨S16, .f32⟩
  | 65 => ⟨S2048, .f32⟩
  | 66 => ⟨S2048x1, .f32⟩
  | 67 => ⟨S1x16, .f32⟩
  | 68 => ⟨S2048x16, .f32⟩
  | 69 => ⟨S2048x16, .f32⟩
  | 70 => ⟨S2048x16, .f32⟩
  | 71 => ⟨S2048x16, .f32⟩
  | 72 => ⟨S2048x16, .f32⟩
  | 73 => ⟨S16x2048x8x32, .f32⟩
  | 74 => ⟨S2048x1x16, .f32⟩
  | 75 => ⟨S2048x1x16, .f32⟩
  | 76 => ⟨S16x2048x8x16, .f32⟩
  | 77 => ⟨S16x2048x8x16, .f32⟩
  | 78 => ⟨S1x2048x1x16, .f32⟩
  | 79 => ⟨S16x2048x8x16, .f32⟩
  | 80 => ⟨S16x2048x8x16, .f32⟩
  | 81 => ⟨S1x2048x1x16, .f32⟩
  | 82 => ⟨S16x2048x8x16, .f32⟩
  | 83 => ⟨S16x2048x8x16, .f32⟩
  | 84 => ⟨S16x2048x8x16, .f32⟩
  | 85 => ⟨S1x2048x1x16, .f32⟩
  | 86 => ⟨S16x2048x8x16, .f32⟩
  | 87 => ⟨S16x2048x8x16, .f32⟩
  | 88 => ⟨S1x2048x1x16, .f32⟩
  | 89 => ⟨S16x2048x8x16, .f32⟩
  | 90 => ⟨S16x2048x8x16, .f32⟩
  | 91 => ⟨S16x2048x8x16, .f32⟩
  | 92 => ⟨S16x2048x8x32, .f32⟩
  | 93 => ⟨S16x2048x32, .f32⟩
  | 94 => ⟨S16x2048x16, .f32⟩
  | 95 => ⟨S16x2048x16, .f32⟩
  | 96 => ⟨S1x2048x16, .f32⟩
  | 97 => ⟨S16x2048x16, .f32⟩
  | 98 => ⟨S16x2048x16, .f32⟩
  | 99 => ⟨S1x2048x16, .f32⟩
  | 100 => ⟨S16x2048x16, .f32⟩
  | 101 => ⟨S16x2048x16, .f32⟩
  | 102 => ⟨S16x2048x16, .f32⟩
  | 103 => ⟨S1x2048x16, .f32⟩
  | 104 => ⟨S16x2048x16, .f32⟩
  | 105 => ⟨S16x2048x16, .f32⟩
  | 106 => ⟨S1x2048x16, .f32⟩
  | 107 => ⟨S16x2048x16, .f32⟩
  | 108 => ⟨S16x2048x16, .f32⟩
  | 109 => ⟨S16x2048x16, .f32⟩
  | 110 => ⟨S16x2048x32, .f32⟩
  | 111 => ⟨S_, .f32⟩
  | 112 => ⟨S_, .f32⟩
  | 113 => ⟨S_, .f32⟩
  | 114 => ⟨S_, .f32⟩
  | 115 => ⟨S_, .f32⟩
  | 116 => ⟨S_, .f32⟩
  | 117 => ⟨S_, .f32⟩
  | 118 => ⟨S_, .f32⟩
  | 119 => ⟨S16x2048x8x32, .f32⟩
  | 120 => ⟨S16x2048x8x64, .f32⟩
  | 121 => ⟨S16x2048x8x128, .f32⟩
  | 122 => ⟨S16x2048x8x128, .f32⟩
  | 123 => ⟨S16x2048x8x128, .f32⟩
  | 124 => ⟨S16x2048x1x32, .f32⟩
  | 125 => ⟨S16x2048x8x32, .f32⟩
  | 126 => ⟨S16x2048x8x64, .f32⟩
  | 127 => ⟨S16x2048x8x128, .f32⟩
  | _ => ⟨S16x2048x1024, .f32⟩

abbrev hbmTy0_1 (i : Nat) : BufTy := match i % 128 with
  | 0 => ⟨S16x2048x8x64, .f32⟩
  | 1 => ⟨S32768x8x64, .f32⟩
  | 2 => ⟨S8x64x32768, .f32⟩
  | 3 => ⟨S_, .f32⟩
  | 4 => ⟨S8x16x32768, .f32⟩
  | 5 => ⟨S8x80x32768, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S32768x512, .f32⟩
  | 14 => ⟨S32768x512, .f32⟩
  | 15 => ⟨S32768x2x1x64, .f32⟩
  | 16 => ⟨S_, .f32⟩
  | 17 => ⟨S32768x2x1x64, .f32⟩
  | 18 => ⟨S32768x2x4x64, .f32⟩
  | 19 => ⟨S32768x2x64, .f32⟩
  | 20 => ⟨S2x64x32768, .f32⟩
  | 21 => ⟨S_, .f32⟩
  | 22 => ⟨S2x16x32768, .f32⟩
  | 23 => ⟨S2x80x32768, .f32⟩
  | 24 => ⟨S32768x1024, .f32⟩
  | 25 => ⟨S32768x1024, .bf16⟩
  | 26 => ⟨S32768x1024, .f32⟩
  | 27 => ⟨S32768x1024, .bf16⟩
  | 28 => ⟨S640x32768, .f32⟩
  | 29 => ⟨S640x32768, .bf16⟩
  | 30 => ⟨S32768x512, .bf16⟩
  | 31 => ⟨S32768x512, .f32⟩
  | 32 => ⟨S32768x512, .bf16⟩
  | 33 => ⟨S160x32768, .f32⟩
  | 34 => ⟨S160x32768, .bf16⟩
  | _ => ⟨S16x2048x1024, .f32⟩

abbrev hbmTy (i : Nat) : BufTy := match i / 128 with
  | 0 => hbmTy0_0 i
  | 1 => hbmTy0_1 i
  | _ => ⟨S16x2048x1024, .f32⟩

abbrev bufTy : (tb : Table) → Fin (tcTables nBuf tb) → BufTy
  | .hbm, ⟨i, _⟩ => hbmTy i
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_2 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_v27 : Ref sig .tc := ⟨.hbm, 38, rfl⟩
abbrev main_v28 : Ref sig .tc := ⟨.hbm, 39, rfl⟩
abbrev main_cst_4 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_5 : Ref sig .tc := ⟨.hbm, 52, rfl⟩
abbrev main_v40 : Ref sig .tc := ⟨.hbm, 53, rfl⟩
abbrev main_v41 : Ref sig .tc := ⟨.hbm, 54, rfl⟩
abbrev main_cst_6 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_7 : Ref sig .tc := ⟨.hbm, 59, rfl⟩
abbrev main_v45 : Ref sig .tc := ⟨.hbm, 60, rfl⟩
abbrev main_v46 : Ref sig .tc := ⟨.hbm, 61, rfl⟩
abbrev main_cst_8 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_cst_9 : Ref sig .tc := ⟨.hbm, 111, rfl⟩
abbrev main_v95 : Ref sig .tc := ⟨.hbm, 112, rfl⟩
abbrev main_cst_10 : Ref sig .tc := ⟨.hbm, 113, rfl⟩
abbrev main_v96 : Ref sig .tc := ⟨.hbm, 114, rfl⟩
abbrev main_cst_11 : Ref sig .tc := ⟨.hbm, 115, rfl⟩
abbrev main_v97 : Ref sig .tc := ⟨.hbm, 116, rfl⟩
abbrev main_v98 : Ref sig .tc := ⟨.hbm, 117, rfl⟩
abbrev main_cst_12 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_cst_13 : Ref sig .tc := ⟨.hbm, 131, rfl⟩
abbrev main_v111 : Ref sig .tc := ⟨.hbm, 132, rfl⟩
abbrev main_v112 : Ref sig .tc := ⟨.hbm, 133, rfl⟩
abbrev main_cst_14 : Ref sig .tc := ⟨.hbm, 134, rfl⟩
abbrev main_v113 : Ref sig .tc := ⟨.hbm, 135, rfl⟩
abbrev main_cst_15 : Ref sig .tc := ⟨.hbm, 136, rfl⟩
abbrev main_v114 : Ref sig .tc := ⟨.hbm, 137, rfl⟩
abbrev main_cst_16 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_cst_17 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩
abbrev main_v123 : Ref sig .tc := ⟨.hbm, 148, rfl⟩
abbrev main_cst_18 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_v127 : Ref sig .tc := ⟨.hbm, 153, rfl⟩
abbrev main_v128 : Ref sig .tc := ⟨.hbm, 154, rfl⟩
abbrev main_v129 : Ref sig .tc := ⟨.hbm, 155, rfl⟩
abbrev main_v130 : Ref sig .tc := ⟨.hbm, 156, rfl⟩
abbrev main_v131 : Ref sig .tc := ⟨.hbm, 157, rfl⟩
abbrev main_v132 : Ref sig .tc := ⟨.hbm, 158, rfl⟩
abbrev main_v133 : Ref sig .tc := ⟨.hbm, 159, rfl⟩
abbrev main_v134 : Ref sig .tc := ⟨.hbm, 160, rfl⟩
abbrev main_v135 : Ref sig .tc := ⟨.hbm, 161, rfl⟩
abbrev main_v136 : Ref sig .tc := ⟨.hbm, 162, rfl⟩

abbrev nD : Nat := 1
abbrev τ : Topo := Topo.v7x

variable {F : FTy → Type} [FloatOps F]
-- ==== Proof.Step.lean ====
module

public import proofs.«01_k».proof.Proof.Gen.KernelIdeal.Skeleton
public import proofs.«01_k».proof.Proof.Gen.KernelIdeal.Points
public import proofs.«01_k».proof.Proof.Gen.KernelIdeal.Loops
public import proofs.«01_k».proof.Proof.Gen.KernelIdeal.Frame
public import Idealize.ShloMosaic.Lib.WholeRead
public import Idealize.ShloMosaic.Lib.Pipeline.Value

/-! # One step of the online softmax, head by head, as functions of the staged blocks -/

@[expose] public section

noncomputable section

namespace Cert.KernelIdeal.Mla

open Idealize.ShloMosaic Idealize.ShloMosaic.TcCoe
open Idealize.SL Idealize.SL.Sem
open Cert.KernelIdeal.Gen

variable {F : FTy → Type} [FloatOps F]

/-- The rows `n … n + L` of head `h`'s 128 lanes in a block of keys. -/
theorem rowsInb {n L : ℕ} (hn : n + L ≤ 2048) (h : Fin 8) :
    ∀ a, (![n, 128 * h.val] : Fin 2 → ℕ) a + (![L, 128] : Fin 2 → ℕ) a ≤ S2048x1024.size a := by
  have := h.isLt; intro a; fin_cases a
  · show n + L ≤ 2048; omega
  · show 128 * h.val + 128 ≤ 1024; omega
/-- The columns `n … n + L` of head `h`'s 80 rows in a block of values. -/
theorem colsInb {n L : ℕ} (hn : n + L ≤ 2048) (h : Fin 8) :
    ∀ a, (![80 * h.val, n] : Fin 2 → ℕ) a + (![80, L] : Fin 2 → ℕ) a ≤ S640x2048.size a := by
  have := h.isLt; intro a; fin_cases a
  · show 80 * h.val + 80 ≤ 640; omega
  · show n + L ≤ 2048; omega
/-- Head `h`'s 128 lanes in the block of queries. -/
theorem headInb (h : Fin 8) : ∀ a, (![0, 128 * h.val] : Fin 2 → ℕ) a + S256x128.size a ≤ S256x1024.size a := by
  have := h.isLt; intro a; fin_cases a
  · show 0 + 256 ≤ 256; omega
  · show 128 * h.val + 128 ≤ 1024; omega

theorem start512 (k : ℕ) : 512 * (k % 4) + 512 ≤ 2048 := by omega
theorem start256 (k : ℕ) : 256 * (k % 8) + 256 ≤ 2048 := by omega

/-- Head `h` of the queries. -/
def qB (h : Fin 8) (X : Vec F S256x1024 .bf16) : Vec F S256x128 .bf16 :=
  View.ld X (Rect.unit (s := S256x1024) ![0, 128 * h.val] S256x128.size (headInb h))
/-- Head `h` of the `k`-th 512 keys. -/
def kB (k : ℕ) (h : Fin 8) (X : Vec F S2048x1024 .bf16) : Vec F S512x128 .bf16 :=
  View.ld X (Rect.unit (s := S2048x1024) ![512 * (k % 4), 128 * h.val] S512x128.size (rowsInb (start512 k) h))
/-- Head `h` of the values of the `k`-th 512 keys. -/
def vB (k : ℕ) (h : Fin 8) (X : Vec F S640x2048 .bf16) : Vec F S80x512 .bf16 :=
  View.ld X (Rect.unit (s := S640x2048) ![80 * h.val, 512 * (k % 4)] S80x512.size (colsInb (start512 k) h))
/-- Head `h` of the `k`-th 256 keys. -/
def kB' (k : ℕ) (h : Fin 8) (X : Vec F S2048x1024 .bf16) : Vec F S256x128 .bf16 :=
  View.ld X (Rect.unit (s := S2048x1024) ![256 * (k % 8), 128 * h.val] S256x128.size (rowsInb (start256 k) h))
/-- Head `h` of the values of the `k`-th 256 keys. -/
def vB' (k : ℕ) (h : Fin 8) (X : Vec F S640x2048 .bf16) : Vec F S80x256 .bf16 :=
  View.ld X (Rect.unit (s := S640x2048) ![80 * h.val, 256 * (k % 8)] S80x256.size (colsInb (start256 k) h))

/-- Each head's running maximum and accumulator. -/
abbrev St (F : FTy → Type) : Type := (Fin 8 → FVec F S1x256 .f32) × (Fin 8 → FVec F S80x256 .f32)

/-- The running maximum after 512 scores. -/
def maxUp (m : FVec F S1x256 .f32) (s : FVec F S512x256 .f32) : FVec F S1x256 .f32 := k0_pay12 m s
/-- The accumulator after 512 scores and their values. -/
def accUp (m : FVec F S1x256 .f32) (s : FVec F S512x256 .f32) (v : Vec F S80x512 .bf16) (a : FVec F S80x256 .f32) : FVec F S80x256 .f32 :=
  k0_pay37 (k0_pay36 (k0_pay13 m s) (k0_pay14 m s) v a)

/-- The state after the `k`-th 512 keys. -/
def step (Xq : Vec F S256x1024 .bf16) (Xk : Vec F S2048x1024 .bf16) (Xv : Vec F S640x2048 .bf16) (k : ℕ) (s : St F) : St F :=
  (fun h => maxUp (s.1 h) (k0_pay3 (kB k h Xk) (qB h Xq)),
   fun h => accUp (s.1 h) (k0_pay3 (kB k h Xk) (qB h Xq)) (vB k h Xv) (s.2 h))

/-- The state before the first key. -/
def st0 : St F := (fun _ => k0_pay195, fun _ => k0_pay187)

/-- The state before the `k`-th 512 keys, from an entry state. -/
def stAt (Xq : Vec F S256x1024 .bf16) (Xk : Vec F S2048x1024 .bf16) (Xv : Vec F S640x2048 .bf16) (s : St F) : ℕ → St F
  | 0 => s
  | k + 1 => step Xq Xk Xv k (stAt Xq Xk Xv s k)

/-- The eight running maxima as the loop carries them. -/
def tup (m : Fin 8 → FVec F S1x256 .f32) :
    FVec F S1x256 .f32 × FVec F S1x256 .f32 × FVec F S1x256 .f32 × FVec F S1x256 .f32 × FVec F S1x256 .f32 × FVec F S1x256 .f32 × FVec F S1x256 .f32 × FVec F S1x256 .f32 :=
  (m 0, m 1, m 2, m 3, m 4, m 5, m 6, m 7)

theorem zz : (![0, 0] : Fin 2 → ℕ) = fun _ => 0 := funext fun a => by fin_cases a <;> rfl

/-- A whole memref stored whole holds exactly what was stored. -/
theorem writes_whole {sp : Space} {m : Memref sig .tc sp S80x256 .f32} (h : m.IsWhole)
    (f : m.view.ty.Contents (Elt F)) (hi) (v : Vec F S80x256 .f32) :
    m.view.writes (Elt F) f [⟨Rect.unit (s := S80x256) ![0, 0] S80x256.size hi, v⟩] = h.unread v := by
  refine h.eq_unread ?_
  rw [View.read_writes_eq_canon _ _ _ (View.cover_of_tiled [⟨Rect.unit (s := S80x256) ![0, 0] S80x256.size hi, v⟩] S80x256.size (by rfl))]
  exact View.canon_unit_zero zz ..

end Cert.KernelIdeal.Mla
-- ==== Proof.Loop.lean ====
module

public import proofs.«01_k».proof.Proof.Step

/-! # The loop over unmasked keys: one trip, and its invariant -/

@[expose] public section

noncomputable section

namespace Cert.KernelIdeal.Mla

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]
local notation "𝕄" => MT nD τ sig Unit (Elt F) ℕ (UR sig nD τ) ℕ

abbrev 𝒱₀ : Variants := Variants.none

theorem trips_le (i : grid0.Coords) (k : Fin (k0_t1_loop i).trips) : k.val < 3 := Nat.lt_of_lt_of_le k.isLt (k0_t1_abs i).2.1

/-- The loop's `k`-th key, as the kernel computes it. -/
theorem iv_toNat (i : grid0.Coords) (k : Fin (k0_t1_loop i).trips) :
    (Scalar.indexCast (Scalar.muli (Scf.iv 0#32 1#32 k.val) 512#32) : Index).toNat = 512 * (k.val % 4) := by
  have h := trips_le i k
  generalize k.val = j at h
  obtain rfl | rfl | rfl : j = 0 ∨ j = 1 ∨ j = 2 := by omega
  all_goals decide

theorem off_k (i : grid0.Coords) (k : Fin (k0_t1_loop i).trips) :
    k0_off1 i k = ![512 * (k.val % 4), 128 * ((0 : Fin 8)).val] ∧ k0_off2 i k = ![512 * (k.val % 4), 128 * ((1 : Fin 8)).val]
    ∧ k0_off3 i k = ![512 * (k.val % 4), 128 * ((2 : Fin 8)).val] ∧ k0_off4 i k = ![512 * (k.val % 4), 128 * ((3 : Fin 8)).val]
    ∧ k0_off5 i k = ![512 * (k.val % 4), 128 * ((4 : Fin 8)).val] ∧ k0_off6 i k = ![512 * (k.val % 4), 128 * ((5 : Fin 8)).val]
    ∧ k0_off7 i k = ![512 * (k.val % 4), 128 * ((6 : Fin 8)).val] ∧ k0_off8 i k = ![512 * (k.val % 4), 128 * ((7 : Fin 8)).val]
    ∧ k0_off9 i k = ![80 * ((0 : Fin 8)).val, 512 * (k.val % 4)] ∧ k0_off10 i k = ![80 * ((1 : Fin 8)).val, 512 * (k.val % 4)]
    ∧ k0_off11 i k = ![80 * ((2 : Fin 8)).val, 512 * (k.val % 4)] ∧ k0_off12 i k = ![80 * ((3 : Fin 8)).val, 512 * (k.val % 4)]
    ∧ k0_off13 i k = ![80 * ((4 : Fin 8)).val, 512 * (k.val % 4)] ∧ k0_off14 i k = ![80 * ((5 : Fin 8)).val, 512 * (k.val % 4)]
    ∧ k0_off15 i k = ![80 * ((6 : Fin 8)).val, 512 * (k.val % 4)] ∧ k0_off16 i k = ![80 * ((7 : Fin 8)).val, 512 * (k.val % 4)] := by
  have e := iv_toNat i k
  refine ⟨?_, ?_, ?_, ?_, ?_, ?_, ?_, ?_, ?_, ?_, ?_, ?_, ?_, ?_, ?_, ?_⟩ <;>
    first
    | exact congrArg (fun n => (![n, _] : Fin 2 → ℕ)) e
    | exact congrArg (fun n => (![_, n] : Fin 2 → ℕ)) e

/-- A whole memref just stored whole, at the contents that read what was stored. -/
theorem whole_out (c : Dev nD) {a : Memref sig .tc .vmem S80x256 .f32} (h : a.IsWhole) (f : Buf (Elt F) (a.view.loc (c : Thread nD τ)))
    (hi) (v w : Vec F S80x256 .f32) (e : v = w) :
    (a.view.loc (c : Thread nD τ) ↦[a.view.set]{fullShare} a.view.writes (Elt F) f [⟨Rect.unit (s := S80x256) ![0, 0] S80x256.size hi, v⟩] : sProp 𝕄)
      ⊢ (a.view.loc (c : Thread nD τ) ↦[a.view.set]{fullShare} h.unread w) := by
  subst e; rw [writes_whole h]

section Reads

variable (c : Dev nD) {k : ℕ} {h : Fin 8}
  {aq : Memref sig .tc .vmem S256x1024 .bf16} {ak : Memref sig .tc .vmem S2048x1024 .bf16} {av : Memref sig .tc .vmem S640x2048 .bf16}
  {aa : Memref sig .tc .vmem S80x256 .f32}
  {fq : aq.view.ty.Contents (Elt F)} {fk : ak.view.ty.Contents (Elt F)} {fv : av.view.ty.Contents (Elt F)} {fa : aa.view.ty.Contents (Elt F)}

/-- A load of a head of the queries. -/
theorem qB_ld (h : Fin 8) (aq : Memref sig .tc .vmem S256x1024 .bf16) (fq : aq.view.ty.Contents (Elt F)) (hi) :
    aq.view.readAt (Elt F) (Rect.unit (s := S256x1024) ![0, 128 * h.val] S256x128.size hi).toLoadRect fq = qB h (aq.view.read (Elt F) fq) := rfl

/-- The scores from the loaded blocks. -/
theorem score_eq {off : Fin 2 → ℕ} (o : off = ![512 * (k % 4), 128 * h.val]) (hi) {q : Vec F S256x128 .bf16}
    (hq : q = qB h (aq.view.read (Elt F) fq)) (fk : ak.view.ty.Contents (Elt F)) :
    k0_pay3 (ak.view.readAt (Elt F) (Rect.unit (s := S2048x1024) off S512x128.size hi).toLoadRect fk) q
      = k0_pay3 (kB k h (ak.view.read (Elt F) fk)) (qB h (aq.view.read (Elt F) fq)) := by
  subst o hq; rfl

/-- The accumulator from the loaded blocks. -/
theorem acc_eq {off off' : Fin 2 → ℕ} (o : off = ![512 * (k % 4), 128 * h.val]) (hi) (o' : off' = ![80 * h.val, 512 * (k % 4)]) (hi')
    {q : Vec F S256x128 .bf16} (hq : q = qB h (aq.view.read (Elt F) fq)) (fk : ak.view.ty.Contents (Elt F)) (fv : av.view.ty.Contents (Elt F))
    (m : FVec F S1x256 .f32) {fa : aa.view.ty.Contents (Elt F)} {hz} :
    accUp m (k0_pay3 (ak.view.readAt (Elt F) (Rect.unit (s := S2048x1024) off S512x128.size hi).toLoadRect fk) q)
        (av.view.readAt (Elt F) (Rect.unit (s := S640x2048) off' S80x512.size hi').toLoadRect fv)
        (aa.view.readAt (Elt F) (Rect.unit (s := S80x256) ![0, 0] S80x256.size hz).toLoadRect fa)
      = accUp m (k0_pay3 (kB k h (ak.view.read (Elt F) fk)) (qB h (aq.view.read (Elt F) fq))) (vB k h (av.view.read (Elt F) fv)) (aa.view.read (Elt F) fa) := by
  subst o o' hq
  rw [View.readAt_eq_ld (v := aa.view), View.ld_unit_zero zz]
  rfl

end Reads

section Trip

variable (c : Dev nD) (i : grid0.Coords)
  (arg3 : Memref sig .tc .vmem S256x1024 .bf16) (harg3 : arg3.IsWhole)
  (arg4 : Memref sig .tc .vmem S2048x1024 .bf16) (harg4 : arg4.IsWhole)
  (arg5 : Memref sig .tc .vmem S640x2048 .bf16) (harg5 : arg5.IsWhole)
  (arg6 : Memref sig .tc .vmem S256x512 .bf16) (harg6 : arg6.IsWhole)
  (arg7 : Memref sig .tc .vmem S80x256 .f32) (harg7 : arg7.IsWhole)
  (arg8 : Memref sig .tc .vmem S80x256 .f32) (harg8 : arg8.IsWhole)
  (arg9 : Memref sig .tc .vmem S80x256 .f32) (harg9 : arg9.IsWhole)
  (arg10 : Memref sig .tc .vmem S80x256 .f32) (harg10 : arg10.IsWhole)
  (arg11 : Memref sig .tc .vmem S80x256 .f32) (harg11 : arg11.IsWhole)
  (arg12 : Memref sig .tc .vmem S80x256 .f32) (harg12 : arg12.IsWhole)
  (arg13 : Memref sig .tc .vmem S80x256 .f32) (harg13 : arg13.IsWhole)
  (arg14 : Memref sig .tc .vmem S80x256 .f32) (harg14 : arg14.IsWhole)
  (arg2 : BitVec 32) (cst_19 : F .f32)
  (f3 : Buf (Elt F) (arg3.view.loc (c : Thread nD τ))) (f4 : Buf (Elt F) (arg4.view.loc (c : Thread nD τ)))
  (f5 : Buf (Elt F) (arg5.view.loc (c : Thread nD τ)))

/-- The buffers one trip touches: the three staged blocks and the eight accumulators. -/
abbrev bufs (g7 : Buf (Elt F) (arg7.view.loc (c : Thread nD τ))) (g8 : Buf (Elt F) (arg8.view.loc (c : Thread nD τ)))
    (g9 : Buf (Elt F) (arg9.view.loc (c : Thread nD τ))) (g10 : Buf (Elt F) (arg10.view.loc (c : Thread nD τ)))
    (g11 : Buf (Elt F) (arg11.view.loc (c : Thread nD τ))) (g12 : Buf (Elt F) (arg12.view.loc (c : Thread nD τ)))
    (g13 : Buf (Elt F) (arg13.view.loc (c : Thread nD τ))) (g14 : Buf (Elt F) (arg14.view.loc (c : Thread nD τ))) : sProp 𝕄 :=
  iprop((arg3.view.loc (c : Thread nD τ) ↦[arg3.view.set]{fullShare} f3)
    ∗ (arg4.view.loc (c : Thread nD τ) ↦[arg4.view.set]{fullShare} f4)
    ∗ (arg5.view.loc (c : Thread nD τ) ↦[arg5.view.set]{fullShare} f5)
    ∗ (arg7.view.loc (c : Thread nD τ) ↦[arg7.view.set]{fullShare} g7)
    ∗ (arg8.view.loc (c : Thread nD τ) ↦[arg8.view.set]{fullShare} g8)
    ∗ (arg9.view.loc (c : Thread nD τ) ↦[arg9.view.set]{fullShare} g9)
    ∗ (arg10.view.loc (c : Thread nD τ) ↦[arg10.view.set]{fullShare} g10)
    ∗ (arg11.view.loc (c : Thread nD τ) ↦[arg11.view.set]{fullShare} g11)
    ∗ (arg12.view.loc (c : Thread nD τ) ↦[arg12.view.set]{fullShare} g12)
    ∗ (arg13.view.loc (c : Thread nD τ) ↦[arg13.view.set]{fullShare} g13)
    ∗ (arg14.view.loc (c : Thread nD τ) ↦[arg14.view.set]{fullShare} g14))

set_option maxHeartbeats 4000000 in
/-- One trip at a symbolic `k`: each head's maximum and accumulator go one step on. -/
theorem trip (k : Fin (k0_t1_loop i).trips) (m : Fin 8 → FVec F S1x256 .f32)
    (g7 : Buf (Elt F) (arg7.view.loc (c : Thread nD τ))) (g8 : Buf (Elt F) (arg8.view.loc (c : Thread nD τ)))
    (g9 : Buf (Elt F) (arg9.view.loc (c : Thread nD τ))) (g10 : Buf (Elt F) (arg10.view.loc (c : Thread nD τ)))
    (g11 : Buf (Elt F) (arg11.view.loc (c : Thread nD τ))) (g12 : Buf (Elt F) (arg12.view.loc (c : Thread nD τ)))
    (g13 : Buf (Elt F) (arg13.view.loc (c : Thread nD τ))) (g14 : Buf (Elt F) (arg14.view.loc (c : Thread nD τ)))
    (s : St F) (hs : step (arg3.view.read (Elt F) f3) (arg4.view.read (Elt F) f4) (arg5.view.read (Elt F) f5) k.val
      (m, ![arg7.view.read (Elt F) g7, arg8.view.read (Elt F) g8, arg9.view.read (Elt F) g9, arg10.view.read (Elt F) g10,
        arg11.view.read (Elt F) g11, arg12.view.read (Elt F) g12, arg13.view.read (Elt F) g13, arg14.view.read (Elt F) g14]) = s) :
    bufs (F := F) c arg3 arg4 arg5 arg7 arg8 arg9 arg10 arg11 arg12 arg13 arg14 f3 f4 f5 g7 g8 g9 g10 g11 g12 g13 g14
      ⊢ wp frame (wpE (defs₀ (F := F)) 𝒱₀ (c : Thread nD τ) none) Set.univ
          (k0_t1_body (F := F) i arg3 harg3 arg4 harg4 arg5 harg5 arg6 harg6 arg7 harg7 arg8 harg8 arg9 harg9 arg10 harg10 arg11 harg11 arg12 harg12 arg13 harg13 arg14 harg14 arg2 cst_19 k (tup m))
          (fun acc => iprop(⌜acc = tup s.1⌝ ∗
            bufs (F := F) c arg3 arg4 arg5 arg7 arg8 arg9 arg10 arg11 arg12 arg13 arg14 f3 f4 f5
              (harg7.unread (s.2 0)) (harg8.unread (s.2 1)) (harg9.unread (s.2 2)) (harg10.unread (s.2 3))
              (harg11.unread (s.2 4)) (harg12.unread (s.2 5)) (harg13.unread (s.2 6)) (harg14.unread (s.2 7)))) := by
  obtain ⟨o1, o2, o3, o4, o5, o6, o7, o8, o9, o10, o11, o12, o13, o14, o15, o16⟩ := off_k i k
  subst hs
  unfold bufs tup
  iintro ⟨H3, H4, H5, H7, H8, H9, H10, H11, H12, H13, H14⟩
  sl_unfold [k0_t1_body]
  sl_exec
  sl_step
  isplitr
  · ipureintro
    refine Prod.ext ?_ (Prod.ext ?_ (Prod.ext ?_ (Prod.ext ?_ (Prod.ext ?_ (Prod.ext ?_ (Prod.ext ?_ ?_))))))
    · exact congrArg (maxUp (m 0)) (score_eq o1 _ (qB_ld 0 _ _ _) _)
    · exact congrArg (maxUp (m 1)) (score_eq o2 _ (qB_ld 1 _ _ _) _)
    · exact congrArg (maxUp (m 2)) (score_eq o3 _ (qB_ld 2 _ _ _) _)
    · exact congrArg (maxUp (m 3)) (score_eq o4 _ (qB_ld 3 _ _ _) _)
    · exact congrArg (maxUp (m 4)) (score_eq o5 _ (qB_ld 4 _ _ _) _)
    · exact congrArg (maxUp (m 5)) (score_eq o6 _ (qB_ld 5 _ _ _) _)
    · exact congrArg (maxUp (m 6)) (score_eq o7 _ (qB_ld 6 _ _ _) _)
    · exact congrArg (maxUp (m 7)) (score_eq o8 _ (qB_ld 7 _ _ _) _)
  isplitl [H3]; · iexact H3
  isplitl [H4]; · iexact H4
  isplitl [H5]; · iexact H5
  isplitl [H7]
  · iapply (whole_out c harg7 _ _ _ _ (acc_eq o1 _ o9 _ (qB_ld 0 _ _ _) _ _ _)); iexact H7
  isplitl [H8]
  · iapply (whole_out c harg8 _ _ _ _ (acc_eq o2 _ o10 _ (qB_ld 1 _ _ _) _ _ _)); iexact H8
  isplitl [H9]
  · iapply (whole_out c harg9 _ _ _ _ (acc_eq o3 _ o11 _ (qB_ld 2 _ _ _) _ _ _)); iexact H9
  isplitl [H10]
  · iapply (whole_out c harg10 _ _ _ _ (acc_eq o4 _ o12 _ (qB_ld 3 _ _ _) _ _ _)); iexact H10
  isplitl [H11]
  · iapply (whole_out c harg11 _ _ _ _ (acc_eq o5 _ o13 _ (qB_ld 4 _ _ _) _ _ _)); iexact H11
  isplitl [H12]
  · iapply (whole_out c harg12 _ _ _ _ (acc_eq o6 _ o14 _ (qB_ld 5 _ _ _) _ _ _)); iexact H12
  isplitl [H13]
  · iapply (whole_out c harg13 _ _ _ _ (acc_eq o7 _ o15 _ (qB_ld 6 _ _ _) _ _ _)); iexact H13
  · iapply (whole_out c harg14 _ _ _ _ (acc_eq o8 _ o16 _ (qB_ld 7 _ _ _) _ _ _)); iexact H14

/-- An accumulator's contents before trip `k`: what the loop found, then each trip's. -/
def accAt {a : Memref sig .tc .vmem S80x256 .f32} (ha : a.IsWhole) (g : a.view.ty.Contents (Elt F)) (h : Fin 8) (s : ℕ → St F) : ℕ → a.view.ty.Contents (Elt F)
  | 0 => g
  | k + 1 => ha.unread ((s (k + 1)).2 h)

theorem read_accAt {a : Memref sig .tc .vmem S80x256 .f32} (ha : a.IsWhole) (g : a.view.ty.Contents (Elt F)) (h : Fin 8) (s : ℕ → St F)
    (h0 : (s 0).2 h = a.view.read (Elt F) g) (k : ℕ) : a.view.read (Elt F) (accAt ha g h s k) = (s k).2 h := by
  cases k with
  | zero => exact h0.symm
  | succ k => exact ha.read_unread _

section Inv

variable (g7 : Buf (Elt F) (arg7.view.loc (c : Thread nD τ))) (g8 : Buf (Elt F) (arg8.view.loc (c : Thread nD τ)))
    (g9 : Buf (Elt F) (arg9.view.loc (c : Thread nD τ))) (g10 : Buf (Elt F) (arg10.view.loc (c : Thread nD τ)))
    (g11 : Buf (Elt F) (arg11.view.loc (c : Thread nD τ))) (g12 : Buf (Elt F) (arg12.view.loc (c : Thread nD τ)))
    (g13 : Buf (Elt F) (arg13.view.loc (c : Thread nD τ))) (g14 : Buf (Elt F) (arg14.view.loc (c : Thread nD τ)))

/-- The state before trip `k`, from what the loop found. -/
def sAt : ℕ → St F :=
  stAt (arg3.view.read (Elt F) f3) (arg4.view.read (Elt F) f4) (arg5.view.read (Elt F) f5)
    (![k0_pay195, k0_pay196, k0_pay197, k0_pay198, k0_pay199, k0_pay200, k0_pay201, k0_pay202],
      ![arg7.view.read (Elt F) g7, arg8.view.read (Elt F) g8, arg9.view.read (Elt F) g9, arg10.view.read (Elt F) g10,
        arg11.view.read (Elt F) g11, arg12.view.read (Elt F) g12, arg13.view.read (Elt F) g13, arg14.view.read (Elt F) g14])

local notation "SS" => sAt (F := F) c arg3 arg4 arg5 arg7 arg8 arg9 arg10 arg11 arg12 arg13 arg14 f3 f4 f5 g7 g8 g9 g10 g11 g12 g13 g14

/-- The buffers before trip `k`. -/
def invB (k : ℕ) : sProp 𝕄 :=
  bufs (F := F) c arg3 arg4 arg5 arg7 arg8 arg9 arg10 arg11 arg12 arg13 arg14 f3 f4 f5
    (accAt harg7 g7 0 SS k) (accAt harg8 g8 1 SS k) (accAt harg9 g9 2 SS k) (accAt harg10 g10 3 SS k)
    (accAt harg11 g11 4 SS k) (accAt harg12 g12 5 SS k) (accAt harg13 g13 6 SS k) (accAt harg14 g14 7 SS k)

set_option warn.classDefReducibility false in
/-- The unmasked loop's invariant. -/
@[sl_loop] def loopInv :
    LoopInvTy_k0_t1 (F := F) Unit ℕ (UR sig nD τ) ℕ 𝒱₀ c none Set.univ i arg3 harg3 arg4 harg4 arg5 harg5 arg6 harg6 arg7 harg7 arg8 harg8 arg9 harg9 arg10 harg10 arg11 harg11 arg12 harg12 arg13 harg13 arg14 harg14 arg2 cst_19
      (k0_pay195, k0_pay196, k0_pay197, k0_pay198, k0_pay199, k0_pay200, k0_pay201, k0_pay202) where
  inv k acc := iprop(⌜acc = tup (SS k).1⌝ ∗ invB c arg3 arg4 arg5 arg7 harg7 arg8 harg8 arg9 harg9 arg10 harg10 arg11 harg11 arg12 harg12 arg13 harg13 arg14 harg14 f3 f4 f5 g7 g8 g9 g10 g11 g12 g13 g14 k)
  step k acc := by
    have hS : step (arg3.view.read (Elt F) f3) (arg4.view.read (Elt F) f4) (arg5.view.read (Elt F) f5) k.val
        ((SS k.val).1, ![arg7.view.read (Elt F) (accAt harg7 g7 0 SS k.val), arg8.view.read (Elt F) (accAt harg8 g8 1 SS k.val),
          arg9.view.read (Elt F) (accAt harg9 g9 2 SS k.val), arg10.view.read (Elt F) (accAt harg10 g10 3 SS k.val),
          arg11.view.read (Elt F) (accAt harg11 g11 4 SS k.val), arg12.view.read (Elt F) (accAt harg12 g12 5 SS k.val),
          arg13.view.read (Elt F) (accAt harg13 g13 6 SS k.val), arg14.view.read (Elt F) (accAt harg14 g14 7 SS k.val)]) = SS (k.val + 1) := by
      show _ = step _ _ _ k.val (SS k.val)
      congr 1
      refine Prod.ext rfl (funext fun h => ?_)
      fin_cases h <;> exact read_accAt _ _ _ _ rfl _
    have hT := trip c i arg3 harg3 arg4 harg4 arg5 harg5 arg6 harg6 arg7 harg7 arg8 harg8 arg9 harg9 arg10 harg10 arg11 harg11 arg12 harg12 arg13 harg13 arg14 harg14 arg2 cst_19
      f3 f4 f5 k (SS k.val).1 (accAt harg7 g7 0 SS k.val) (accAt harg8 g8 1 SS k.val) (accAt harg9 g9 2 SS k.val) (accAt harg10 g10 3 SS k.val) (accAt harg11 g11 4 SS k.val) (accAt harg12 g12 5 SS k.val) (accAt harg13 g13 6 SS k.val) (accAt harg14 g14 7 SS k.val) (SS (k.val + 1)) hS
    iintro ⟨%hacc, H⟩
    subst hacc
    unfold invB
    iapply hT
    iexact H

end Inv

end Trip

end Cert.KernelIdeal.Mla
-- ==== Proof.Body.lean ====
module

public import proofs.«01_k».proof.Proof.Loop
public import Idealize.ShloMosaic.Lib.LoopRemainder

/-! # The kernel's body: the zeroed accumulators, the loop, the masked last block, the division -/

@[expose] public section

noncomputable section

namespace Cert.KernelIdeal.Mla

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]
local notation "𝕄" => MT nD τ sig Unit (Elt F) ℕ (UR sig nD τ) ℕ

/-- The block of queries, as a word. -/
abbrev w2 (i : grid0.Coords) : BitVec 32 := BitVec.ofNat 32 (i 2).val
/-- The first masked key, as the kernel computes it. -/
def w66 (i : grid0.Coords) : BitVec 32 :=
  let arg2 : BitVec 32 := BitVec.ofNat 32 (i 2).val
  let c256_i32 : BitVec 32 := 256#32
  let v40 : BitVec 32 := Scalar.muli arg2 c256_i32
  let c0_i32 : BitVec 32 := 0#32
  let v42 : BitVec 1 := Scalar.cmpi .sgt v40 c0_i32
  let v43 : BitVec 32 := Scalar.extui v42
  let c0_i32_30 : BitVec 32 := 0#32
  let v44 : BitVec 1 := Scalar.cmpi .slt v40 c0_i32_30
  let v45 : BitVec 32 := Scalar.extui v44
  let v46 : BitVec 32 := Scalar.subi v43 v45
  let c512_i32 : BitVec 32 := 512#32
  let c0_i32_31 : BitVec 32 := 0#32
  let v47 : BitVec 1 := Scalar.cmpi .sgt c512_i32 c0_i32_31
  let v48 : BitVec 32 := Scalar.extui v47
  let c0_i32_32 : BitVec 32 := 0#32
  let v49 : BitVec 1 := Scalar.cmpi .slt c512_i32 c0_i32_32
  let v50 : BitVec 32 := Scalar.extui v49
  let v51 : BitVec 32 := Scalar.subi v48 v50
  let v52 : BitVec 1 := Scalar.cmpi .ne v46 v51
  let v53 : BitVec 32 := Scalar.remsi v40 c512_i32
  let c0_i32_33 : BitVec 32 := 0#32
  let v54 : BitVec 1 := Scalar.cmpi .ne v53 c0_i32_33
  let v55 : BitVec 1 := Scalar.andi v52 v54
  let v41 : BitVec 32 := Scalar.divsi v40 c512_i32
  let c1_i32 : BitVec 32 := 1#32
  let v56 : BitVec 32 := Scalar.subi v41 c1_i32
  let v57 : BitVec 32 := Scalar.select v55 v56 v41
  let c512_i32_38 : BitVec 32 := 512#32
  let v65 : BitVec 32 := Scalar.muli v57 c512_i32_38
  let v66 : BitVec 32 := v65
  v66

/-- The accumulator after a masked last block of 512 keys. -/
def lastAcc (i : grid0.Coords) (m : FVec F S1x256 .f32) (s : FVec F S512x256 .f32) (v : Vec F S80x512 .bf16) (a : FVec F S80x256 .f32) : FVec F S80x256 .f32 :=
  k0_pay132 (k0_pay101 (w2 i) m (w66 i) s) (k0_pay102 (w2 i) m (w66 i) s) v a
/-- The accumulator after a masked last block of 256 keys. -/
def lastAcc' (i : grid0.Coords) (m : FVec F S1x256 .f32) (s : FVec F S256x256 .f32) (v : Vec F S80x256 .bf16) (a : FVec F S80x256 .f32) : FVec F S80x256 .f32 :=
  k0_pay180 (k0_pay149 (w2 i) m (w66 i) s) (k0_pay150 (w2 i) m (w66 i) s) v a

/-- Each head's accumulator after the masked last block. -/
def last (i : grid0.Coords) (Xq : Vec F S256x1024 .bf16) (Xk : Vec F S2048x1024 .bf16) (Xv : Vec F S640x2048 .bf16) (s : St F) (h : Fin 8) :
    FVec F S80x256 .f32 :=
  if k0_cond1 i = 1#1 then lastAcc i (s.1 h) (k0_pay3 (kB ((i 2).val / 2) h Xk) (qB h Xq)) (vB ((i 2).val / 2) h Xv) (s.2 h)
  else lastAcc' i (s.1 h) (k0_pay139 (kB' (i 2).val h Xk) (qB h Xq)) (vB' (i 2).val h Xv) (s.2 h)

/-- Two heads' outputs, divided by their denominators. -/
def outPc (a b : FVec F S80x256 .f32) : FVec F S256x128 .bf16 :=
  k0_pay211 (View.ld a (Rect.unit (s := S80x256) ![0, 0] S64x256.size inb_S80x256_S64x256_0_0))
    (View.ld a (Rect.unit (s := S80x256) ![64, 0] S1x256.size inb_S80x256_S1x256_64_0))
    (View.ld b (Rect.unit (s := S80x256) ![0, 0] S64x256.size inb_S80x256_S64x256_0_0))
    (View.ld b (Rect.unit (s := S80x256) ![64, 0] S1x256.size inb_S80x256_S1x256_64_0))

/-- Two heads' outputs from the contents of their accumulators. -/
theorem outPc_of {a b : Memref sig .tc .vmem S80x256 .f32} {fa : a.view.ty.Contents (Elt F)} {fb : b.view.ty.Contents (Elt F)}
    {A B : FVec F S80x256 .f32} (hA : a.view.read (Elt F) fa = A) (hB : b.view.read (Elt F) fb = B) :
    k0_pay211 (a.view.readAt (Elt F) (Rect.unit (s := S80x256) ![0, 0] S64x256.size inb_S80x256_S64x256_0_0).toLoadRect fa)
      (a.view.readAt (Elt F) (Rect.unit (s := S80x256) ![64, 0] S1x256.size inb_S80x256_S1x256_64_0).toLoadRect fa)
      (b.view.readAt (Elt F) (Rect.unit (s := S80x256) ![0, 0] S64x256.size inb_S80x256_S64x256_0_0).toLoadRect fb)
      (b.view.readAt (Elt F) (Rect.unit (s := S80x256) ![64, 0] S1x256.size inb_S80x256_S1x256_64_0).toLoadRect fb) = outPc A B := by
  subst hA hB; rfl

/-- An accumulator just stored whole reads as what was stored. -/
theorem read_whole {a : Memref sig .tc .vmem S80x256 .f32} (h : a.IsWhole) (f : a.view.ty.Contents (Elt F)) (hi)
    (v w : Vec F S80x256 .f32) (e : v = w) :
    a.view.read (Elt F) (a.view.writes (Elt F) f [⟨Rect.unit (s := S80x256) ![0, 0] S80x256.size hi, v⟩]) = w := by
  subst e; rw [writes_whole h, h.read_unread]

section Last

variable {i : grid0.Coords} {h : Fin 8}
  {aq : Memref sig .tc .vmem S256x1024 .bf16} {ak : Memref sig .tc .vmem S2048x1024 .bf16} {av : Memref sig .tc .vmem S640x2048 .bf16}
  {aa : Memref sig .tc .vmem S80x256 .f32}
  {fq : aq.view.ty.Contents (Elt F)}

/-- The masked last block of 512 keys, from the loaded blocks. -/
theorem last_eq (hC : k0_cond1 i = 1#1) {off off' : Fin 2 → ℕ} (o : off = ![512 * ((i 2).val / 2 % 4), 128 * h.val]) (hi)
    (o' : off' = ![80 * h.val, 512 * ((i 2).val / 2 % 4)]) (hi')
    {q : Vec F S256x128 .bf16} (hq : q = qB h (aq.view.read (Elt F) fq)) (fk : ak.view.ty.Contents (Elt F)) (fv : av.view.ty.Contents (Elt F))
    {m : FVec F S1x256 .f32} {S : St F} (hm : m = S.1 h) {fa : aa.view.ty.Contents (Elt F)} {hz} (ha : aa.view.read (Elt F) fa = S.2 h) :
    lastAcc i m (k0_pay3 (ak.view.readAt (Elt F) (Rect.unit (s := S2048x1024) off S512x128.size hi).toLoadRect fk) q)
        (av.view.readAt (Elt F) (Rect.unit (s := S640x2048) off' S80x512.size hi').toLoadRect fv)
        (aa.view.readAt (Elt F) (Rect.unit (s := S80x256) ![0, 0] S80x256.size hz).toLoadRect fa)
      = last i (aq.view.read (Elt F) fq) (ak.view.read (Elt F) fk) (av.view.read (Elt F) fv) S h := by
  subst o o' hq hm
  rw [View.readAt_eq_ld (v := aa.view), View.ld_unit_zero zz, ha, last, if_pos hC]
  rfl

/-- The masked last block of 256 keys, from the loaded blocks. -/
theorem last_eq' (hC : ¬ k0_cond1 i = 1#1) {off off' : Fin 2 → ℕ} (o : off = ![256 * ((i 2).val % 8), 128 * h.val]) (hi)
    (o' : off' = ![80 * h.val, 256 * ((i 2).val % 8)]) (hi')
    {q : Vec F S256x128 .bf16} (hq : q = qB h (aq.view.read (Elt F) fq)) (fk : ak.view.ty.Contents (Elt F)) (fv : av.view.ty.Contents (Elt F))
    {m : FVec F S1x256 .f32} {S : St F} (hm : m = S.1 h) {fa : aa.view.ty.Contents (Elt F)} {hz} (ha : aa.view.read (Elt F) fa = S.2 h) :
    lastAcc' i m (k0_pay139 (ak.view.readAt (Elt F) (Rect.unit (s := S2048x1024) off S256x128.size hi).toLoadRect fk) q)
        (av.view.readAt (Elt F) (Rect.unit (s := S640x2048) off' S80x256.size hi').toLoadRect fv)
        (aa.view.readAt (Elt F) (Rect.unit (s := S80x256) ![0, 0] S80x256.size hz).toLoadRect fa)
      = last i (aq.view.read (Elt F) fq) (ak.view.read (Elt F) fk) (av.view.read (Elt F) fv) S h := by
  subst o o' hq hm
  rw [View.readAt_eq_ld (v := aa.view), View.ld_unit_zero zz, ha, last, if_neg hC]
  rfl

end Last

/-- The block of outputs from the eight accumulators: four stores, the last first. -/
def outB (a : Fin 8 → FVec F S80x256 .f32) : Vec F S256x512 .bf16 :=
  View.canon [⟨Rect.unit (s := S256x512) ![0, 384] S256x128.size inb_S256x512_S256x128_0_384, outPc (a 6) (a 7)⟩,
    ⟨Rect.unit (s := S256x512) ![0, 256] S256x128.size inb_S256x512_S256x128_0_256, outPc (a 4) (a 5)⟩,
    ⟨Rect.unit (s := S256x512) ![0, 128] S256x128.size inb_S256x512_S256x128_0_128, outPc (a 2) (a 3)⟩,
    ⟨Rect.unit (s := S256x512) ![0, 0] S256x128.size inb_S256x512_S256x128_0_0, outPc (a 0) (a 1)⟩]

/-- The body's output block, from its three input blocks. -/
def outBlk (i : grid0.Coords) (Xq : Vec F S256x1024 .bf16) (Xk : Vec F S2048x1024 .bf16) (Xv : Vec F S640x2048 .bf16) : Vec F S256x512 .bf16 :=
  outB (last i Xq Xk Xv (stAt Xq Xk Xv st0 (k0_t1_loop i).trips))

/-- Four stores side by side, value by value. -/
theorem canon4 {a1 b1 a2 b2 a3 b3 a4 b4 : FVec F S256x128 .bf16} (h1 : a1 = b1) (h2 : a2 = b2) (h3 : a3 = b3) (h4 : a4 = b4) :
    (View.canon (Val := Elt F) (e := .bf16) [⟨Rect.unit (s := S256x512) ![0, 384] S256x128.size inb_S256x512_S256x128_0_384, a1⟩,
      ⟨Rect.unit (s := S256x512) ![0, 256] S256x128.size inb_S256x512_S256x128_0_256, a2⟩,
      ⟨Rect.unit (s := S256x512) ![0, 128] S256x128.size inb_S256x512_S256x128_0_128, a3⟩,
      ⟨Rect.unit (s := S256x512) ![0, 0] S256x128.size inb_S256x512_S256x128_0_0, a4⟩] : Vec F S256x512 .bf16)
    = View.canon (Val := Elt F) (e := .bf16) [⟨Rect.unit (s := S256x512) ![0, 384] S256x128.size inb_S256x512_S256x128_0_384, b1⟩,
      ⟨Rect.unit (s := S256x512) ![0, 256] S256x128.size inb_S256x512_S256x128_0_256, b2⟩,
      ⟨Rect.unit (s := S256x512) ![0, 128] S256x128.size inb_S256x512_S256x128_0_128, b3⟩,
      ⟨Rect.unit (s := S256x512) ![0, 0] S256x128.size inb_S256x512_S256x128_0_0, b4⟩] := by
  subst h1 h2 h3 h4; rfl

section Body

variable (c : Dev nD) (i : grid0.Coords)
  (arg3 : Memref sig .tc .vmem S256x1024 .bf16) (harg3 : arg3.IsWhole)
  (arg4 : Memref sig .tc .vmem S2048x1024 .bf16) (harg4 : arg4.IsWhole)
  (arg5 : Memref sig .tc .vmem S640x2048 .bf16) (harg5 : arg5.IsWhole)
  (arg6 : Memref sig .tc .vmem S256x512 .bf16) (harg6 : arg6.IsWhole)
  (arg7 : Memref sig .tc .vmem S80x256 .f32) (harg7 : arg7.IsWhole)
  (arg8 : Memref sig .tc .vmem S80x256 .f32) (harg8 : arg8.IsWhole)
  (arg9 : Memref sig .tc .vmem S80x256 .f32) (harg9 : arg9.IsWhole)
  (arg10 : Memref sig .tc .vmem S80x256 .f32) (harg10 : arg10.IsWhole)
  (arg11 : Memref sig .tc .vmem S80x256 .f32) (harg11 : arg11.IsWhole)
  (arg12 : Memref sig .tc .vmem S80x256 .f32) (harg12 : arg12.IsWhole)
  (arg13 : Memref sig .tc .vmem S80x256 .f32) (harg13 : arg13.IsWhole)
  (arg14 : Memref sig .tc .vmem S80x256 .f32) (harg14 : arg14.IsWhole)

  (f3 : Buf (Elt F) (arg3.view.loc (c : Thread nD τ))) (f4 : Buf (Elt F) (arg4.view.loc (c : Thread nD τ)))
  (f5 : Buf (Elt F) (arg5.view.loc (c : Thread nD τ))) (f6 : Buf (Elt F) (arg6.view.loc (c : Thread nD τ)))
    (g7 : Buf (Elt F) (arg7.view.loc (c : Thread nD τ)))
    (g8 : Buf (Elt F) (arg8.view.loc (c : Thread nD τ)))
    (g9 : Buf (Elt F) (arg9.view.loc (c : Thread nD τ)))
    (g10 : Buf (Elt F) (arg10.view.loc (c : Thread nD τ)))
    (g11 : Buf (Elt F) (arg11.view.loc (c : Thread nD τ)))
    (g12 : Buf (Elt F) (arg12.view.loc (c : Thread nD τ)))
    (g13 : Buf (Elt F) (arg13.view.loc (c : Thread nD τ)))
    (g14 : Buf (Elt F) (arg14.view.loc (c : Thread nD τ)))

/-- A zeroed accumulator's contents. -/
abbrev wr (a : Memref sig .tc .vmem S80x256 .f32) : a.view.ty.Contents (Elt F) :=
  a.view.writes (Elt F) a.view.junk [⟨Rect.unit (s := S80x256) ![0, 0] S80x256.size inb_S80x256_S80x256_0_0, k0_pay187⟩]

include harg7 harg8 harg9 harg10 harg11 harg12 harg13 harg14 in
/-- The loop starts from the state before the first key. -/
theorem sAt_eq (n : ℕ) : sAt (F := F) c arg3 arg4 arg5 arg7 arg8 arg9 arg10 arg11 arg12 arg13 arg14 f3 f4 f5 (wr arg7) (wr arg8) (wr arg9) (wr arg10) (wr arg11) (wr arg12) (wr arg13) (wr arg14) n
    = stAt (arg3.view.read (Elt F) f3) (arg4.view.read (Elt F) f4) (arg5.view.read (Elt F) f5) st0 n := by
  unfold sAt
  congr 1
  refine Prod.ext (funext fun h => ?_) (funext fun h => ?_)
  · fin_cases h <;> rfl
  · fin_cases h <;> exact read_whole ‹_› _ _ _ _ rfl

/-- The offsets of the masked blocks. -/
theorem off_m (i : grid0.Coords) : (k0_cond1 i = 1#1 → (w66 i).toNat = 512 * ((i 2).val / 2 % 4)) ∧ (¬ k0_cond1 i = 1#1 → (w66 i).toNat = 256 * ((i 2).val % 8)) := by
  have h : ∀ i : grid0.Coords, (k0_cond1 i = 1#1 → (w66 i).toNat = 512 * ((i 2).val / 2 % 4)) ∧ (¬ k0_cond1 i = 1#1 → (w66 i).toNat = 256 * ((i 2).val % 8)) := by
    decide +kernel
  exact h i

set_option maxHeartbeats 4000000 in
theorem body (K : PUnit → sProp 𝕄) :
    iprop((arg6.view.loc (c : Thread nD τ) ↦[arg6.view.set]{fullShare} f6)
      ∗ bufs (F := F) c arg3 arg4 arg5 arg7 arg8 arg9 arg10 arg11 arg12 arg13 arg14 f3 f4 f5 g7 g8 g9 g10 g11 g12 g13 g14
      ∗ (∀ o7 o8 o9 o10 o11 o12 o13 o14, iprop(owns (c : Thread nD τ) arg6 fullShare (outBlk i (arg3.view.read (Elt F) f3) (arg4.view.read (Elt F) f4) (arg5.view.read (Elt F) f5))
      ∗ bufs (F := F) c arg3 arg4 arg5 arg7 arg8 arg9 arg10 arg11 arg12 arg13 arg14 f3 f4 f5 o7 o8 o9 o10 o11 o12 o13 o14) -∗ K ⟨⟩))
      ⊢ wp frame (wpE (defs₀ (F := F)) 𝒱₀ (c : Thread nD τ) none) Set.univ
          (cc0_mla (F := F) i arg3 harg3 arg4 harg4 arg5 harg5 arg6 harg6 arg7 harg7 arg8 harg8 arg9 harg9 arg10 harg10 arg11 harg11 arg12 harg12 arg13 harg13 arg14 harg14) K := by
  by_cases hC : k0_cond1 i = 1#1
  · have hS := sAt_eq c arg3 arg4 arg5 arg7 harg7 arg8 harg8 arg9 harg9 arg10 harg10 arg11 harg11 arg12 harg12 arg13 harg13 arg14 harg14 f3 f4 f5 (k0_t1_loop i).trips
    have e := (off_m i).1 hC
    unfold bufs
    iintro ⟨H6, ⟨H3, H4, H5, H7, H8, H9, H10, H11, H12, H13, H14⟩, HK⟩
    sl_exec
    sl_step
    ispecialize HK $$ %_ %_ %_ %_ %_ %_ %_ %_
    iapply HK
    isplitl [H6]
    · unfold owns
      iexists _
      isplitr
      swap
      · iexact H6
      · ipureintro
        unfold outBlk outB
        refine (View.read_writes_eq_canon _ _ _ ?_).trans (canon4 ?_ ?_ ?_ ?_)
        · exact View.cover_of_tiled _ S256x128.size (by rfl)
        · refine outPc_of ?_ ?_
          · exact read_whole harg13 _ _ _ _ (last_eq (h := 6) hC (congrArg (fun n => (![n, _] : Fin 2 → ℕ)) e) _ (congrArg (fun n => (![_, n] : Fin 2 → ℕ)) e) _ (qB_ld 6 _ _ _) _ _
              (congrFun (congrArg Prod.fst hS) 6) ((read_accAt harg13 _ 6 _ rfl _).trans (congrFun (congrArg Prod.snd hS) 6)))
          · exact read_whole harg14 _ _ _ _ (last_eq (h := 7) hC (congrArg (fun n => (![n, _] : Fin 2 → ℕ)) e) _ (congrArg (fun n => (![_, n] : Fin 2 → ℕ)) e) _ (qB_ld 7 _ _ _) _ _
              (congrFun (congrArg Prod.fst hS) 7) ((read_accAt harg14 _ 7 _ rfl _).trans (congrFun (congrArg Prod.snd hS) 7)))
        · refine outPc_of ?_ ?_
          · exact read_whole harg11 _ _ _ _ (last_eq (h := 4) hC (congrArg (fun n => (![n, _] : Fin 2 → ℕ)) e) _ (congrArg (fun n => (![_, n] : Fin 2 → ℕ)) e) _ (qB_ld 4 _ _ _) _ _
              (congrFun (congrArg Prod.fst hS) 4) ((read_accAt harg11 _ 4 _ rfl _).trans (congrFun (congrArg Prod.snd hS) 4)))
          · exact read_whole harg12 _ _ _ _ (last_eq (h := 5) hC (congrArg (fun n => (![n, _] : Fin 2 → ℕ)) e) _ (congrArg (fun n => (![_, n] : Fin 2 → ℕ)) e) _ (qB_ld 5 _ _ _) _ _
              (congrFun (congrArg Prod.fst hS) 5) ((read_accAt harg12 _ 5 _ rfl _).trans (congrFun (congrArg Prod.snd hS) 5)))
        · refine outPc_of ?_ ?_
          · exact read_whole harg9 _ _ _ _ (last_eq (h := 2) hC (congrArg (fun n => (![n, _] : Fin 2 → ℕ)) e) _ (congrArg (fun n => (![_, n] : Fin 2 → ℕ)) e) _ (qB_ld 2 _ _ _) _ _
              (congrFun (congrArg Prod.fst hS) 2) ((read_accAt harg9 _ 2 _ rfl _).trans (congrFun (congrArg Prod.snd hS) 2)))
          · exact read_whole harg10 _ _ _ _ (last_eq (h := 3) hC (congrArg (fun n => (![n, _] : Fin 2 → ℕ)) e) _ (congrArg (fun n => (![_, n] : Fin 2 → ℕ)) e) _ (qB_ld 3 _ _ _) _ _
              (congrFun (congrArg Prod.fst hS) 3) ((read_accAt harg10 _ 3 _ rfl _).trans (congrFun (congrArg Prod.snd hS) 3)))
        · refine outPc_of ?_ ?_
          · exact read_whole harg7 _ _ _ _ (last_eq (h := 0) hC (congrArg (fun n => (![n, _] : Fin 2 → ℕ)) e) _ (congrArg (fun n => (![_, n] : Fin 2 → ℕ)) e) _ (qB_ld 0 _ _ _) _ _
              (congrFun (congrArg Prod.fst hS) 0) ((read_accAt harg7 _ 0 _ rfl _).trans (congrFun (congrArg Prod.snd hS) 0)))
          · exact read_whole harg8 _ _ _ _ (last_eq (h := 1) hC (congrArg (fun n => (![n, _] : Fin 2 → ℕ)) e) _ (congrArg (fun n => (![_, n] : Fin 2 → ℕ)) e) _ (qB_ld 1 _ _ _) _ _
              (congrFun (congrArg Prod.fst hS) 1) ((read_accAt harg8 _ 1 _ rfl _).trans (congrFun (congrArg Prod.snd hS) 1)))
    · isplitl [H3]; · iexact H3
      isplitl [H4]; · iexact H4
      isplitl [H5]; · iexact H5
      isplitl [H7]; · iexact H7
      isplitl [H8]; · iexact H8
      isplitl [H9]; · iexact H9
      isplitl [H10]; · iexact H10
      isplitl [H11]; · iexact H11
      isplitl [H12]; · iexact H12
      isplitl [H13]; · iexact H13
      iexact H14
  · have hS := sAt_eq c arg3 arg4 arg5 arg7 harg7 arg8 harg8 arg9 harg9 arg10 harg10 arg11 harg11 arg12 harg12 arg13 harg13 arg14 harg14 f3 f4 f5 (k0_t1_loop i).trips
    have e := (off_m i).2 hC
    unfold bufs
    iintro ⟨H6, ⟨H3, H4, H5, H7, H8, H9, H10, H11, H12, H13, H14⟩, HK⟩
    sl_exec
    sl_step
    ispecialize HK $$ %_ %_ %_ %_ %_ %_ %_ %_
    iapply HK
    isplitl [H6]
    · unfold owns
      iexists _
      isplitr
      swap
      · iexact H6
      · ipureintro
        unfold outBlk outB
        refine (View.read_writes_eq_canon _ _ _ ?_).trans (canon4 ?_ ?_ ?_ ?_)
        · exact View.cover_of_tiled _ S256x128.size (by rfl)
        · refine outPc_of ?_ ?_
          · exact read_whole harg13 _ _ _ _ (last_eq' (h := 6) hC (congrArg (fun n => (![n, _] : Fin 2 → ℕ)) e) _ (congrArg (fun n => (![_, n] : Fin 2 → ℕ)) e) _ (qB_ld 6 _ _ _) _ _
              (congrFun (congrArg Prod.fst hS) 6) ((read_accAt harg13 _ 6 _ rfl _).trans (congrFun (congrArg Prod.snd hS) 6)))
          · exact read_whole harg14 _ _ _ _ (last_eq' (h := 7) hC (congrArg (fun n => (![n, _] : Fin 2 → ℕ)) e) _ (congrArg (fun n => (![_, n] : Fin 2 → ℕ)) e) _ (qB_ld 7 _ _ _) _ _
              (congrFun (congrArg Prod.fst hS) 7) ((read_accAt harg14 _ 7 _ rfl _).trans (congrFun (congrArg Prod.snd hS) 7)))
        · refine outPc_of ?_ ?_
          · exact read_whole harg11 _ _ _ _ (last_eq' (h := 4) hC (congrArg (fun n => (![n, _] : Fin 2 → ℕ)) e) _ (congrArg (fun n => (![_, n] : Fin 2 → ℕ)) e) _ (qB_ld 4 _ _ _) _ _
              (congrFun (congrArg Prod.fst hS) 4) ((read_accAt harg11 _ 4 _ rfl _).trans (congrFun (congrArg Prod.snd hS) 4)))
          · exact read_whole harg12 _ _ _ _ (last_eq' (h := 5) hC (congrArg (fun n => (![n, _] : Fin 2 → ℕ)) e) _ (congrArg (fun n => (![_, n] : Fin 2 → ℕ)) e) _ (qB_ld 5 _ _ _) _ _
              (congrFun (congrArg Prod.fst hS) 5) ((read_accAt harg12 _ 5 _ rfl _).trans (congrFun (congrArg Prod.snd hS) 5)))
        · refine outPc_of ?_ ?_
          · exact read_whole harg9 _ _ _ _ (last_eq' (h := 2) hC (congrArg (fun n => (![n, _] : Fin 2 → ℕ)) e) _ (congrArg (fun n => (![_, n] : Fin 2 → ℕ)) e) _ (qB_ld 2 _ _ _) _ _
              (congrFun (congrArg Prod.fst hS) 2) ((read_accAt harg9 _ 2 _ rfl _).trans (congrFun (congrArg Prod.snd hS) 2)))
          · exact read_whole harg10 _ _ _ _ (last_eq' (h := 3) hC (congrArg (fun n => (![n, _] : Fin 2 → ℕ)) e) _ (congrArg (fun n => (![_, n] : Fin 2 → ℕ)) e) _ (qB_ld 3 _ _ _) _ _
              (congrFun (congrArg Prod.fst hS) 3) ((read_accAt harg10 _ 3 _ rfl _).trans (congrFun (congrArg Prod.snd hS) 3)))
        · refine outPc_of ?_ ?_
          · exact read_whole harg7 _ _ _ _ (last_eq' (h := 0) hC (congrArg (fun n => (![n, _] : Fin 2 → ℕ)) e) _ (congrArg (fun n => (![_, n] : Fin 2 → ℕ)) e) _ (qB_ld 0 _ _ _) _ _
              (congrFun (congrArg Prod.fst hS) 0) ((read_accAt harg7 _ 0 _ rfl _).trans (congrFun (congrArg Prod.snd hS) 0)))
          · exact read_whole harg8 _ _ _ _ (last_eq' (h := 1) hC (congrArg (fun n => (![n, _] : Fin 2 → ℕ)) e) _ (congrArg (fun n => (![_, n] : Fin 2 → ℕ)) e) _ (qB_ld 1 _ _ _) _ _
              (congrFun (congrArg Prod.fst hS) 1) ((read_accAt harg8 _ 1 _ rfl _).trans (congrFun (congrArg Prod.snd hS) 1)))
    · isplitl [H3]; · iexact H3
      isplitl [H4]; · iexact H4
      isplitl [H5]; · iexact H5
      isplitl [H7]; · iexact H7
      isplitl [H8]; · iexact H8
      isplitl [H9]; · iexact H9
      isplitl [H10]; · iexact H10
      isplitl [H11]; · iexact H11
      isplitl [H12]; · iexact H12
      isplitl [H13]; · iexact H13
      iexact H14

end Body

end Cert.KernelIdeal.Mla
-- ==== Proof.Run.lean ====
module

public import proofs.«01_k».proof.Proof.Body

/-! # The launch: the body at every point, the run of the program, and what it leaves -/

@[expose] public section

noncomputable section

namespace Cert.KernelIdeal.Mla

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]
local notation "𝕄" => MT nD τ sig Unit (Elt F) ℕ (UR sig nD τ) ℕ

variable (m : (ℓ : Loc nD τ sig) → Buf (Elt F) ℓ) (ρ : Dev nD → PrngReg)

/-- The launch's data: the arrays as the region finds them; the inputs' buffers at their blocks, the output's at `outBlk` of them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlk (grid0.coords t) (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = outBlk (grid0.coords t) (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- A scratch's whole memref and its buffer. -/
theorem whole_pts (c : Dev nD) (b : Ref sig .tc) (f : Buf (Elt F) ((c : Thread nD τ).loc b)) :
    (((Memref.whole b).view.loc (c : Thread nD τ) ↦[(Memref.whole b).view.set]{fullShare} f) : sProp 𝕄)
      = (((c : Thread nD τ).loc b) ↦{fullShare} f) := by
  show (_ ↦[(View.whole b).set]{fullShare} f : sProp 𝕄) = _
  rw [View.set_whole]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

set_option maxHeartbeats 400000 in
theorem sound_body (c : Dev nD) (t : Fin cfg0.N) :
    bodyPre m c t ⊢ wp frame (wpE (defs₀ (F := F)) Variants.none (c : Thread nD τ) none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl, after0_0, after0_1, after0_2, after0_3,
    show (dats m 0 c).Φ t.castSucc = Pipeline.ΦA spec0 c from rfl]
  unfold Pipeline.ΦA owns
  rw [scopedRest0_eq]
  generalize iblk m c 0 t = X0
  generalize iblk m c 1 t = X1
  generalize iblk m c 2 t = X2
  iintro ⟨⟨⟨⟨%g7, H7⟩, ⟨%g8, H8⟩, ⟨%g9, H9⟩, ⟨%g10, H10⟩, ⟨%g11, H11⟩, ⟨%g12, H12⟩, ⟨%g13, H13⟩, ⟨%g14, H14⟩⟩, Hr⟩, Ho,
    ⟨%d0, %f3, %e3, H3⟩, ⟨%d1, %f4, %e4, H4⟩, ⟨%d2, %f5, %e5, H5⟩, ⟨%d3, %f6, -, H6⟩⟩
  subst e3 e4 e5
  have hb := body (F := F) c (grid0.coords t)
    (win0_0.stage (cfg0.slots t 0)) (hstage0_0 ((cfg0.slots t 0).cast nbuf0_0)) (win0_1.stage (cfg0.slots t 1)) (hstage0_1 ((cfg0.slots t 1).cast nbuf0_1))
    (win0_2.stage (cfg0.slots t 2)) (hstage0_2 ((cfg0.slots t 2).cast nbuf0_2)) (win0_3.stage (cfg0.slots t 3)) (hstage0_3 ((cfg0.slots t 3).cast nbuf0_3))
    (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _)
    f3 f4 f5 f6 g7 g8 g9 g10 g11 g12 g13 g14
  unfold bufs owns at hb
  iapply hb
  isplitl [H6]; · iexact H6
  isplitl [H3 H4 H5 H7 H8 H9 H10 H11 H12 H13 H14]
  · isplitl [H3]; · iexact H3
    isplitl [H4]; · iexact H4
    isplitl [H5]; · iexact H5
    isplitl [H7]; · iapply (Entails.of_eq (whole_pts c cc0_scratch0 g7).symm); iexact H7
    isplitl [H8]; · iapply (Entails.of_eq (whole_pts c cc0_scratch1 g8).symm); iexact H8
    isplitl [H9]; · iapply (Entails.of_eq (whole_pts c cc0_scratch2 g9).symm); iexact H9
    isplitl [H10]; · iapply (Entails.of_eq (whole_pts c cc0_scratch3 g10).symm); iexact H10
    isplitl [H11]; · iapply (Entails.of_eq (whole_pts c cc0_scratch4 g11).symm); iexact H11
    isplitl [H12]; · iapply (Entails.of_eq (whole_pts c cc0_scratch5 g12).symm); iexact H12
    isplitl [H13]; · iapply (Entails.of_eq (whole_pts c cc0_scratch6 g13).symm); iexact H13
    iapply (Entails.of_eq (whole_pts c cc0_scratch7 g14).symm); iexact H14
  iintro %o7 %o8 %o9 %o10 %o11 %o12 %o13 %o14 ⟨G6, G3, G4, G5, G7, G8, G9, G10, G11, G12, G13, G14⟩
  isplitl [Hr G7 G8 G9 G10 G11 G12 G13 G14]
  · isplitr [Hr]; swap; · iexact Hr
    isplitl [G7]; · iexists o7; iapply (Entails.of_eq (whole_pts c cc0_scratch0 o7)); iexact G7
    isplitl [G8]; · iexists o8; iapply (Entails.of_eq (whole_pts c cc0_scratch1 o8)); iexact G8
    isplitl [G9]; · iexists o9; iapply (Entails.of_eq (whole_pts c cc0_scratch2 o9)); iexact G9
    isplitl [G10]; · iexists o10; iapply (Entails.of_eq (whole_pts c cc0_scratch3 o10)); iexact G10
    isplitl [G11]; · iexists o11; iapply (Entails.of_eq (whole_pts c cc0_scratch4 o11)); iexact G11
    isplitl [G12]; · iexists o12; iapply (Entails.of_eq (whole_pts c cc0_scratch5 o12)); iexact G12
    isplitl [G13]; · iexists o13; iapply (Entails.of_eq (whole_pts c cc0_scratch6 o13)); iexact G13
    iexists o14; iapply (Entails.of_eq (whole_pts c cc0_scratch7 o14)); iexact G14
  isplitl [Ho]; · iexact Ho
  isplitl [G3]; · iexists _; isplitr; swap; · iexact G3
                  ipureintro; rfl
  isplitl [G4]; · iexists _; isplitr; swap; · iexact G4
                  ipureintro; rfl
  isplitl [G5]; · iexists _; isplitr; swap; · iexact G5
                  ipureintro; rfl
  iexact G6

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 4000000 in
/-- Every array of the launch ends at what the library computes from the data, every other buffer as the region found it, every counter at zero. -/
theorem run_q : θ_run defs (onTc (τ := τ) (main (F := F))) (s₀ m ρ)
    (fun r => Pipeline.FramePost cfgs (dats m) 0 (V m) r ∧ r.2.sem = fun _ => 0) :=
  Pipeline.θ_run_frame cfgs (dats m) 0 launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)
    (Q' := _) (hQ' := fun _ h => h)

end Cert.KernelIdeal.Mla
-- ==== Proof.Frames.lean ====
module

public import proofs.«01_k».proof.Defs
public import proofs.«01_k».proof.Proof.Run
public import proofs.«01_k».proof.Proof.Gen.Kernel
public import proofs.«01_k».proof.Proof.Gen.ReferenceIdeal.Run
public import proofs.«01_k».proof.Proof.Gen.Pre_finite_scores

/-! # The frames: every program runs, leaves its arguments as they were and every counter at zero -/

@[expose] public section

noncomputable section

namespace Cert.KernelIdeal.Mla

open Idealize.ShloMosaic Idealize.ShloMosaic.TcCoe Idealize.SL.Sem
open Cert.KernelIdeal.Gen

variable {F : FTy → Type} [FloatOps F]

/-- The run, read at the argument arrays and the counters. -/
theorem quiet (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨fun c =>
     ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩, h.2⟩) (run_q m ρ)

theorem frame_ideal : Cert.quiescent_KernelIdeal := fun m ρ _ => quiet m ρ
theorem frame_ideal_pre : Cert.quiescent_KernelIdeal_pre_finite_scores := fun m ρ _ => quiet m ρ

/-- The two printed bodies are one text. -/
theorem defs₀_bits : Cert.Kernel.defs₀ (F := Bits) = Cert.KernelIdeal.defs₀ (F := Bits) := by
  refine congrArg Defs.onTc (funext fun ℓ => funext fun a => ?_)
  obtain ⟨n, h⟩ := ℓ
  match n, h with
  | 0, _ => obtain ⟨t, s⟩ := a; rfl

theorem defs_bits : Cert.Kernel.defs (F := Bits) = Cert.KernelIdeal.defs (F := Bits) := congrArg (Pipeline.defs _) defs₀_bits

theorem frame_bits : Cert.quiescent_Kernel := fun m ρ _ => by
  have h := quiet (F := Bits) m ρ
  rw [← defs_bits] at h
  exact h

end Cert.KernelIdeal.Mla

namespace Cert.ReferenceIdeal.Mla

open Idealize.ShloMosaic Idealize.ShloMosaic.TcCoe Idealize.SL.Sem
open Cert.ReferenceIdeal.Gen

/-- The reference's run, read at its arguments; it declares no semaphore. -/
theorem quiet (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun r h => ⟨fun c => (h c).2, sem_eq_zero_of_no_sems (by decide) r.2⟩) (Cert.ReferenceIdeal.Value.run m ρ)

theorem frame : Cert.quiescent_ReferenceIdeal := fun m ρ _ => quiet m ρ
theorem frame_pre : Cert.quiescent_ReferenceIdeal_pre_finite_scores := fun m ρ _ => quiet m ρ

end Cert.ReferenceIdeal.Mla
-- ==== Proof.Online.lean ====
module

public import Idealize.ShloMosaic.PureOps.Ideal
public import Mathlib.Analysis.SpecialFunctions.Pow.Real

/-! # Online softmax over the extended reals

`e j` is the weight of key `j` before any rescaling: `2 ^ score`, or 0 where the key is masked. The running maximum
enters only as the exponent of a common factor, so no bound on it is ever needed beyond its being a real number. -/

@[expose] public section

noncomputable section

namespace Mla

open Idealize.ShloMosaic

/-- `σ` is a masked score, of weight 0, or a real score of weight `2 ^ σ`. -/
def Sc (σ : EReal) (e : ℝ) : Prop := (σ = ⊥ ∧ e = 0) ∨ ∃ r : ℝ, σ = (r : EReal) ∧ e = Real.rpow 2 r
/-- The same with base e. -/
def ScE (σ : EReal) (e : ℝ) : Prop := (σ = ⊥ ∧ e = 0) ∨ ∃ r : ℝ, σ = (r : EReal) ∧ e = Real.exp r

/-- `A` is the weighted sum `S` at the scale of the running maximum `m`. -/
def Inv (S m A : EReal) : Prop :=
  (m = ⊥ ∧ S = 0 ∧ A = 0) ∨ ∃ r : ℝ, m = (r : EReal) ∧ A = S * ((Real.rpow 2 (-r) : ℝ) : EReal)

theorem sum_mul_coe {ι : Type*} (s : Finset ι) (f : ι → EReal) {c : ℝ} (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, EReal.right_distrib_of_nonneg_of_ne_top (EReal.coe_nonneg.2 hc) (EReal.coe_ne_top _), ih]

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem two_add (a b : ℝ) : Real.rpow 2 (a + b) = Real.rpow 2 a * Real.rpow 2 b := Real.rpow_add (by norm_num) a b
theorem two_pos (a : ℝ) : 0 < Real.rpow 2 a := Real.rpow_pos_of_pos (by norm_num) a

theorem Sc.weight {σ : EReal} {e : ℝ} (h : Sc σ e) (r : ℝ) :
    Ideal.exp2 (σ - (r : EReal)) = ((e * Real.rpow 2 (-r) : ℝ) : EReal) := by
  rcases h with ⟨rfl, rfl⟩ | ⟨x, rfl, rfl⟩
  · rw [EReal.bot_sub, Ideal.exp2_bot, zero_mul]; rfl
  · rw [← EReal.coe_sub, Ideal.exp2_coe, sub_eq_add_neg, two_add]

theorem ScE.weight {σ : EReal} {e : ℝ} (h : ScE σ e) (r : ℝ) :
    Ideal.exp (σ - (r : EReal)) = ((e * Real.exp (-r) : ℝ) : EReal) := by
  rcases h with ⟨rfl, rfl⟩ | ⟨x, rfl, rfl⟩
  · rw [EReal.bot_sub, Ideal.exp_bot, zero_mul]; rfl
  · rw [← EReal.coe_sub, Ideal.exp_coe, sub_eq_add_neg, Real.exp_add]

theorem ScE.nonneg {σ : EReal} {e : ℝ} (h : ScE σ e) : 0 ≤ e := by
  rcases h with ⟨-, rfl⟩ | ⟨x, -, rfl⟩
  · exact le_rfl
  · exact (Real.exp_pos x).le

theorem real_of {x : EReal} (h1 : x ≠ ⊤) (h2 : x ≠ ⊥) : ∃ r : ℝ, x = (r : EReal) := ⟨x.toReal, (EReal.coe_toReal h1 h2).symm⟩

/-- The largest of scores none of which is infinite, one of them unmasked, is a real number. -/
theorem max_real {ι : Type*} [Fintype ι] (f : ι → EReal) (h : ∀ j, f j ≠ ⊤) (hex : ∃ j, f j ≠ ⊥) :
    ∃ r : ℝ, Finset.univ.fold max ⊥ f = (r : EReal) := by
  classical
  have hs : Finset.univ.fold max ⊥ f = Finset.univ.sup f := rfl
  refine real_of ?_ ?_
  · rw [hs]; exact ((Finset.sup_lt_iff bot_lt_top).2 fun j _ => lt_top_iff_ne_top.2 (h j)).ne
  · obtain ⟨j, hj⟩ := hex
    rw [hs]; intro hb
    exact hj (le_bot_iff.1 (hb ▸ Finset.le_sup (f := f) (Finset.mem_univ j)))

theorem Sc.ne_top {σ : EReal} {e : ℝ} (h : Sc σ e) : σ ≠ ⊤ := by
  rcases h with ⟨rfl, -⟩ | ⟨x, rfl, -⟩
  · exact bot_ne_top
  · exact EReal.coe_ne_top x
theorem ScE.ne_top {σ : EReal} {e : ℝ} (h : ScE σ e) : σ ≠ ⊤ := by
  rcases h with ⟨rfl, -⟩ | ⟨x, rfl, -⟩
  · exact bot_ne_top
  · exact EReal.coe_ne_top x

theorem inv0 : Inv 0 ⊥ 0 := .inl ⟨rfl, rfl, rfl⟩

/-- One block of keys. -/
theorem Inv.step {ι : Type*} [Fintype ι] {S m A : EReal} (hI : Inv S m A) (σ v : ι → EReal) (e : ι → ℝ) (hσ : ∀ j, Sc (σ j) (e j))
    (hex : ∃ j, σ j ≠ ⊥) :
    Inv (S + ∑ j, v j * (e j : EReal)) (max m (Finset.univ.fold max ⊥ σ))
      (A * Ideal.exp2 (m - max m (Finset.univ.fold max ⊥ σ)) + ∑ j, v j * Ideal.exp2 (σ j - max m (Finset.univ.fold max ⊥ σ))) := by
  obtain ⟨M, hM⟩ := max_real σ (fun j => (hσ j).ne_top) hex
  obtain ⟨r', hr'⟩ : ∃ r : ℝ, max m (Finset.univ.fold max ⊥ σ) = (r : EReal) := by
    rw [hM]
    rcases hI with ⟨rfl, -, -⟩ | ⟨r, rfl, -⟩
    · exact ⟨M, max_eq_right bot_le⟩
    · exact ⟨max r M, (EReal.coe_strictMono.monotone.map_max).symm⟩
  rw [hr']
  refine .inr ⟨r', rfl, ?_⟩
  rw [EReal.right_distrib_of_nonneg_of_ne_top (EReal.coe_nonneg.2 (two_pos _).le) (EReal.coe_ne_top _), sum_mul_coe _ _ (two_pos _).le]
  congr 1
  · rcases hI with ⟨rfl, rfl, rfl⟩ | ⟨r, rfl, rfl⟩
    · rw [zero_mul, zero_mul]
    · rw [← EReal.coe_sub, Ideal.exp2_coe, mul_assoc, ← EReal.coe_mul, ← two_add]; congr 4; ring
  · refine Finset.sum_congr rfl fun j _ => ?_
    rw [(hσ j).weight, EReal.coe_mul, mul_assoc]

/-- The quotient of two sums at one scale does not see the scale. -/
theorem Inv.quot {S m A D : EReal} {E : ℝ} (hA : Inv S m A) (hD : Inv (E : EReal) m D) (hE : 0 < E) :
    Ideal.div A D = S * ((1 / E : ℝ) : EReal) := by
  rcases hD with ⟨-, h0, -⟩ | ⟨r, rfl, rfl⟩
  · exact absurd (EReal.coe_eq_zero.1 h0) hE.ne'
  rcases hA with ⟨h, -, -⟩ | ⟨r', h, rfl⟩
  · exact absurd h (EReal.coe_ne_bot r)
  obtain rfl := EReal.coe_injective h
  have hk := two_pos (-r)
  rw [← EReal.coe_mul, Ideal.div_coe (mul_pos hE hk).ne', mul_assoc, ← EReal.coe_mul]
  congr 2; field_simp

/-- The plain softmax average is the weighted sum over the total weight. -/
theorem soft {ι : Type*} [Fintype ι] (σ v : ι → EReal) (e : ι → ℝ) (hσ : ∀ j, ScE (σ j) (e j)) (hex : ∃ j, σ j ≠ ⊥) :
    ∑ j, v j * Ideal.div (Ideal.exp (σ j - Finset.univ.fold max ⊥ σ)) (∑ k, Ideal.exp (σ k - Finset.univ.fold max ⊥ σ))
      = (∑ j, v j * (e j : EReal)) * ((1 / ∑ j, e j : ℝ) : EReal) ∧ 0 < ∑ j, e j := by
  obtain ⟨M, hM⟩ := max_real σ (fun j => (hσ j).ne_top) hex
  have hpos : 0 < ∑ j, e j := by
    obtain ⟨j, hj⟩ := hex
    refine Finset.sum_pos' (fun j _ => (hσ j).nonneg) ⟨j, Finset.mem_univ j, ?_⟩
    rcases hσ j with ⟨h, -⟩ | ⟨x, -, h⟩
    · exact absurd h hj
    · rw [h]; exact Real.exp_pos x
  refine ⟨?_, hpos⟩
  have hk := Real.exp_pos (-M)
  rw [hM, sum_mul_coe _ _ (one_div_pos.2 hpos).le]
  have hs : ∑ k, Ideal.exp (σ k - (M : EReal)) = (((∑ k, e k) * Real.exp (-M) : ℝ) : EReal) := by
    rw [Finset.sum_mul, coe_sum]; exact Finset.sum_congr rfl fun j _ => (hσ j).weight M
  rw [hs]
  refine Finset.sum_congr rfl fun j _ => ?_
  rw [(hσ j).weight, Ideal.div_coe (mul_pos hpos hk).ne', mul_assoc, ← EReal.coe_mul, ← EReal.coe_mul]
  congr 2; field_simp

end Mla
-- ==== Proof.Pays.lean ====
module

public import proofs.«01_k».proof.Proof.Body
public import proofs.«01_k».proof.Proof.Online
public import Idealize.ShloMosaic.Lib.Pointwise

/-! # The body's vector operations read at an index, over the extended reals -/

@[expose] public section

set_option maxRecDepth 16384

noncomputable section

namespace Cert.KernelIdeal.Mla

open Idealize.ShloMosaic Idealize.ShloMosaic.TcCoe
open Cert.KernelIdeal.Gen

theorem ninf : Ideal.ofBits .f32 0xFF800000#32 = ⊥ := by
  simp [Ideal.ofBits, Ideal.ieee]

/-- The mask's words compare as the positions they hold. -/
theorem mask_word {α : Type} (i2 n r c : ℕ) (w : BitVec 32) (hw : w.toNat = n) (hi : i2 < 8) (hr : n + r < 4096) (hc : c < 256) (x y : α) :
    Scalar.select (IntOp.cmpi CmpIPredicate.sle (IntOp.addi w (BitVec.ofNat 32 r))
        (IntOp.addi (Scalar.muli (BitVec.ofNat 32 i2) 256#32) (BitVec.ofNat 32 c))) x y = if n + r ≤ 256 * i2 + c then x else y := by
  have e1 : (IntOp.addi w (BitVec.ofNat 32 r)).toNat = n + r := by
    show (w + BitVec.ofNat 32 r).toNat = _
    rw [BitVec.toNat_add, BitVec.toNat_ofNat, hw]; omega
  have e2 : (IntOp.addi (Scalar.muli (BitVec.ofNat 32 i2) 256#32) (BitVec.ofNat 32 c)).toNat = 256 * i2 + c := by
    show (BitVec.ofNat 32 i2 * 256#32 + BitVec.ofNat 32 c).toNat = _
    rw [BitVec.toNat_add, BitVec.toNat_mul, BitVec.toNat_ofNat, BitVec.toNat_ofNat, BitVec.toNat_ofNat]; omega
  generalize IntOp.addi w (BitVec.ofNat 32 r) = a at e1 ⊢
  generalize IntOp.addi (Scalar.muli (BitVec.ofNat 32 i2) 256#32) (BitVec.ofNat 32 c) = b at e2 ⊢
  have hs : a.sle b = decide (n + r ≤ 256 * i2 + c) := by
    rw [BitVec.sle, BitVec.toInt_eq_toNat_of_lt (by omega), BitVec.toInt_eq_toNat_of_lt (by omega), e1, e2]
    exact decide_eq_decide.2 (by omega)
  show (if BitVec.ofBool (a.sle b) = 1#1 then x else y) = _
  rw [hs]
  by_cases h : n + r ≤ 256 * i2 + c <;> simp [h]

theorem score_apply (k : FVec Ideal S512x128 .bf16) (q : FVec Ideal S256x128 .bf16) (r : Fin 512) (c : Fin 256) :
    k0_pay3 (F := Ideal) k q (ix2 r c : S512x256.Idx) = ∑ l : Fin 128, k (ix2 r l) * q (ix2 c l) := by
  pointwise [k0_pay3]

theorem score'_apply (k : FVec Ideal S256x128 .bf16) (q : FVec Ideal S256x128 .bf16) (r : Fin 256) (c : Fin 256) :
    k0_pay139 (F := Ideal) k q (ix2 r c : S256x256.Idx) = ∑ l : Fin 128, k (ix2 r l) * q (ix2 c l) := by
  pointwise [k0_pay139]

theorem maxUp_apply (m : FVec Ideal S1x256 .f32) (s : FVec Ideal S512x256 .f32) (c : Fin 256) :
    maxUp m s (ix2 0 c) = max (m (ix2 0 c)) (Finset.univ.fold max ⊥ fun r : Fin 512 => s (ix2 r c)) := by
  pointwise [maxUp, k0_pay12]; rw [ninf]

theorem accUp_apply (m : FVec Ideal S1x256 .f32) (s : FVec Ideal S512x256 .f32) (v : FVec Ideal S80x512 .bf16) (a : FVec Ideal S80x256 .f32)
    (d : Fin 80) (c : Fin 256) :
    accUp m s v a (ix2 d c) = a (ix2 d c) * Ideal.exp2 (m (ix2 0 c) - maxUp m s (ix2 0 c))
      + ∑ r : Fin 512, v (ix2 d r) * Ideal.exp2 (s (ix2 r c) - maxUp m s (ix2 0 c)) := by
  pointwise [accUp, k0_pay37, k0_pay36, k0_pay13, k0_pay14, maxUp, k0_pay12]; rfl

theorem st0_max (h : Fin 8) (c : Fin 256) : (st0 (F := Ideal)).1 h (ix2 0 c) = ⊥ := by
  pointwise [st0, k0_pay195]; exact ninf
theorem st0_acc (h : Fin 8) (d : Fin 80) (c : Fin 256) : (st0 (F := Ideal)).2 h (ix2 d c) = 0 := by
  pointwise [st0, k0_pay187]

/-- A score of the masked last block: kept where its key is not after its query. -/
theorem masked_apply (i : grid0.Coords) (w : BitVec 32) (n : ℕ) (hw : w.toNat = n) (hn : n + 512 ≤ 2048) (s : FVec Ideal S512x256 .f32)
    (r : Fin 512) (c : Fin 256) :
    k0_pay99 (F := Ideal) (w2 i) w s (ix2 r c) = if n + r.val ≤ 256 * (i 2).val + c.val then s (ix2 r c) else ⊥ := by
  pointwise [k0_pay99]
  rw [ninf]; exact mask_word _ _ _ _ w hw (i 2).isLt (by have := r.isLt; omega) c.isLt _ _
theorem masked'_apply (i : grid0.Coords) (w : BitVec 32) (n : ℕ) (hw : w.toNat = n) (hn : n + 256 ≤ 2048) (s : FVec Ideal S256x256 .f32)
    (r : Fin 256) (c : Fin 256) :
    k0_pay147 (F := Ideal) (w2 i) w s (ix2 r c) = if n + r.val ≤ 256 * (i 2).val + c.val then s (ix2 r c) else ⊥ := by
  pointwise [k0_pay147]
  rw [ninf]; exact mask_word _ _ _ _ w hw (i 2).isLt (by have := r.isLt; omega) c.isLt _ _
theorem lastAcc_apply (i : grid0.Coords) (m : FVec Ideal S1x256 .f32) (s : FVec Ideal S512x256 .f32) (v : FVec Ideal S80x512 .bf16) (a : FVec Ideal S80x256 .f32)
    (d : Fin 80) (c : Fin 256) (M : EReal) (hM : M = max (m (ix2 0 c)) (Finset.univ.fold max ⊥ fun r : Fin 512 => k0_pay99 (F := Ideal) (w2 i) (w66 i) s (ix2 r c))) :
    lastAcc i m s v a (ix2 d c) = a (ix2 d c) * Ideal.exp2 (m (ix2 0 c) - M)
      + ∑ r : Fin 512, v (ix2 d r) * Ideal.exp2 (k0_pay99 (F := Ideal) (w2 i) (w66 i) s (ix2 r c) - M) := by
  subst hM
  pointwise [lastAcc, k0_pay132, k0_pay101, k0_pay102, k0_pay100]; rw [ninf]; rfl
theorem lastAcc'_apply (i : grid0.Coords) (m : FVec Ideal S1x256 .f32) (s : FVec Ideal S256x256 .f32) (v : FVec Ideal S80x256 .bf16) (a : FVec Ideal S80x256 .f32)
    (d : Fin 80) (c : Fin 256) (M : EReal) (hM : M = max (m (ix2 0 c)) (Finset.univ.fold max ⊥ fun r : Fin 256 => k0_pay147 (F := Ideal) (w2 i) (w66 i) s (ix2 r c))) :
    lastAcc' i m s v a (ix2 d c) = a (ix2 d c) * Ideal.exp2 (m (ix2 0 c) - M)
      + ∑ r : Fin 256, v (ix2 d r) * Ideal.exp2 (k0_pay147 (F := Ideal) (w2 i) (w66 i) s (ix2 r c) - M) := by
  subst hM
  pointwise [lastAcc', k0_pay180, k0_pay149, k0_pay150, k0_pay148]; rw [ninf]; rfl

/-- One half of a stored pair of heads: the accumulator's row over its denominator. -/
theorem outPc_apply (a b : FVec Ideal S80x256 .f32) (c : Fin 256) (x : Fin 128) :
    outPc a b (ix2 c x) = if h : x.val < 64 then Ideal.div (a (ix2 ⟨x.val, by omega⟩ c)) (a (ix2 64 c))
      else Ideal.div (b (ix2 ⟨x.val - 64, by omega⟩ c)) (b (ix2 64 c)) := by
  pointwise [outPc, k0_pay211]

end Cert.KernelIdeal.Mla
-- ==== Proof.Block.lean ====
module

public import proofs.«01_k».proof.Proof.Pays
public import Idealize.ShloMosaic.Lib.Pipeline.ValueKit

/-! # The block that the body writes, read at an index -/

@[expose] public section

set_option maxRecDepth 16384

noncomputable section

namespace Cert.KernelIdeal.Mla

open Idealize.ShloMosaic Idealize.ShloMosaic.TcCoe
open Cert.KernelIdeal.Gen

/-- Lane `l` of head `h`. -/
abbrev lane (h : Fin 8) (l : Fin 128) : Fin 1024 := ⟨128 * h.val + l.val, by omega⟩
/-- Row `d` of head `h`'s values. -/
abbrev vrow (h : Fin 8) (d : Fin 80) : Fin 640 := ⟨80 * h.val + d.val, by omega⟩

theorem qB_apply (h : Fin 8) (X : FVec Ideal S256x1024 .bf16) (c : Fin 256) (l : Fin 128) : qB (F := Ideal) h X (ix2 c l) = X (ix2 c (lane h l)) := by
  unfold qB
  refine View.ld_unit_apply_of _ _ _ _ _ _ fun a => ?_
  match a with
  | ⟨0, _⟩ => show c.val = 0 + c.val; omega
  | ⟨1, _⟩ => show 128 * h.val + l.val = _; rfl
theorem kB_apply (k : ℕ) (hk : k < 4) (h : Fin 8) (X : FVec Ideal S2048x1024 .bf16) (r : Fin 512) (l : Fin 128) :
    kB (F := Ideal) k h X (ix2 r l) = X (ix2 ⟨512 * k + r.val, by omega⟩ (lane h l)) := by
  unfold kB
  have hm := Nat.mod_eq_of_lt hk
  refine View.ld_unit_apply_of _ _ _ _ _ _ fun a => ?_
  match a with
  | ⟨0, _⟩ => show 512 * k + r.val = 512 * (k % 4) + r.val; rw [hm]
  | ⟨1, _⟩ => rfl
theorem kB'_apply (k : ℕ) (hk : k < 8) (h : Fin 8) (X : FVec Ideal S2048x1024 .bf16) (r : Fin 256) (l : Fin 128) :
    kB' (F := Ideal) k h X (ix2 r l) = X (ix2 ⟨256 * k + r.val, by omega⟩ (lane h l)) := by
  unfold kB'
  have hm := Nat.mod_eq_of_lt hk
  refine View.ld_unit_apply_of _ _ _ _ _ _ fun a => ?_
  match a with
  | ⟨0, _⟩ => show 256 * k + r.val = 256 * (k % 8) + r.val; rw [hm]
  | ⟨1, _⟩ => rfl
theorem vB_apply (k : ℕ) (hk : k < 4) (h : Fin 8) (X : FVec Ideal S640x2048 .bf16) (d : Fin 80) (r : Fin 512) :
    vB (F := Ideal) k h X (ix2 d r) = X (ix2 (vrow h d) ⟨512 * k + r.val, by omega⟩) := by
  unfold vB
  have hm := Nat.mod_eq_of_lt hk
  refine View.ld_unit_apply_of _ _ _ _ _ _ fun a => ?_
  match a with
  | ⟨0, _⟩ => rfl
  | ⟨1, _⟩ => show 512 * k + r.val = 512 * (k % 4) + r.val; rw [hm]
theorem vB'_apply (k : ℕ) (hk : k < 8) (h : Fin 8) (X : FVec Ideal S640x2048 .bf16) (d : Fin 80) (r : Fin 256) :
    vB' (F := Ideal) k h X (ix2 d r) = X (ix2 (vrow h d) ⟨256 * k + r.val, by omega⟩) := by
  unfold vB'
  have hm := Nat.mod_eq_of_lt hk
  refine View.ld_unit_apply_of _ _ _ _ _ _ fun a => ?_
  match a with
  | ⟨0, _⟩ => rfl
  | ⟨1, _⟩ => show 256 * k + r.val = 256 * (k % 8) + r.val; rw [hm]

/-- Within a stored pair of heads. -/
theorem pair_apply (a : Fin 8 → FVec Ideal S80x256 .f32) (c : Fin 256) (h : Fin 8) (d : Fin 64) (u w : Fin 8) (hw : w.val = u.val + 1)
    (x : S256x128.Idx) (h0 : c.val = (x 0).val) (h1 : 64 * h.val + d.val = 64 * u.val + (x 1).val) :
    outPc (F := Ideal) (a u) (a w) x = Ideal.div (a h (ix2 ⟨d.val, by omega⟩ c)) (a h (ix2 64 c)) := by
  have hx1 : (x 1).val < 128 := (x 1).isLt
  have hd := d.isLt
  obtain ⟨y, hy⟩ : ∃ y : Fin 128, y.val = (x 1).val := ⟨⟨(x 1).val, hx1⟩, rfl⟩
  rw [← hy] at h1
  have hx : x = ix2 c y := funext fun k => match k with
    | ⟨0, _⟩ => Fin.ext h0.symm
    | ⟨1, _⟩ => Fin.ext hy.symm
  refine (congrArg (outPc (F := Ideal) (a u) (a w)) hx).trans ?_
  rw [outPc_apply]
  by_cases hlt : y.val < 64
  · rw [dif_pos hlt]
    obtain rfl : h = u := Fin.ext (by omega)
    have e : d.val = y.val := by omega
    simp only [e]
  · rw [dif_neg hlt]
    obtain rfl : h = w := Fin.ext (by omega)
    have e : d.val = y.val - 64 := by omega
    simp only [e]

/-- Column `y` of the block of outputs is row `y % 64` of head `y / 64`, over that head's denominator. -/
theorem outB_apply (a : Fin 8 → FVec Ideal S80x256 .f32) (c : Fin 256) (h : Fin 8) (d : Fin 64) :
    outB (F := Ideal) a (ix2 c ⟨64 * h.val + d.val, by omega⟩) = Ideal.div (a h (ix2 ⟨d.val, by omega⟩ c)) (a h (ix2 64 c)) := by
  unfold outB
  canon_tiles x hx
  all_goals exact pair_apply a c h d _ _ rfl x hx0 (hx1.trans (by simp))

theorem trips_eq : ∀ i : grid0.Coords, (k0_t1_loop i).trips = (i 2).val / 2 := by decide +kernel
theorem cond_eq : ∀ i : grid0.Coords, k0_cond1 i = 1#1 ↔ (i 2).val % 2 = 1 := by decide +kernel

theorem add_block (n L : ℕ) (f : ℕ → EReal) : ∑ j ∈ Finset.range (n + L), f j = ∑ j ∈ Finset.range n, f j + ∑ r : Fin L, f (n + r.val) := by
  rw [Finset.sum_range_add, Finset.sum_range fun x => f (n + x)]

section Row
variable (i : grid0.Coords) (Xq : FVec Ideal S256x1024 .bf16) (Xk : FVec Ideal S2048x1024 .bf16) (Xv : FVec Ideal S640x2048 .bf16)
variable (h : Fin 8) (c : Fin 256) (sc : ℕ → ℝ)

/-- Key `j`'s weight in the row of query `c`: 0 after the diagonal. -/
def wt (j : ℕ) : ℝ := if j ≤ 256 * (i 2).val + c.val then Real.rpow 2 (sc j) else 0
/-- Entry `j` of row `d` of head `h`'s values. -/
def vv (d : Fin 80) (j : ℕ) : EReal := if hj : j < 2048 then Xv (ix2 (vrow h d) ⟨j, hj⟩) else 0

variable (hsc : ∀ j (hj : j < 2048), ∑ l : Fin 128, Xk (ix2 ⟨j, hj⟩ (lane h l)) * Xq (ix2 c (lane h l)) = (sc j : EReal))
include hsc

/-- The unmasked blocks. -/
theorem stAt_inv (k : ℕ) (hk : k ≤ (i 2).val / 2) (d : Fin 80) :
    Mla.Inv (∑ j ∈ Finset.range (512 * k), vv Xv h d j * (wt i c sc j : EReal))
      ((stAt (F := Ideal) Xq Xk Xv st0 k).1 h (ix2 0 c)) ((stAt (F := Ideal) Xq Xk Xv st0 k).2 h (ix2 d c)) := by
  have hi : (i 2).val < 8 := (i 2).isLt
  induction k with
  | zero =>
    show Mla.Inv _ ((st0 (F := Ideal)).1 h (ix2 0 c)) ((st0 (F := Ideal)).2 h (ix2 d c))
    rw [st0_max, st0_acc, Nat.mul_zero, Finset.range_zero, Finset.sum_empty]
    exact Mla.inv0
  | succ k ih =>
    have hk4 : k < 4 := by omega
    show Mla.Inv _ (maxUp (F := Ideal) ((stAt Xq Xk Xv st0 k).1 h) (k0_pay3 (kB k h Xk) (qB h Xq)) (ix2 0 c))
      (accUp (F := Ideal) ((stAt Xq Xk Xv st0 k).1 h) (k0_pay3 (kB k h Xk) (qB h Xq)) (vB k h Xv) ((stAt Xq Xk Xv st0 k).2 h) (ix2 d c))
    rw [accUp_apply, maxUp_apply, Nat.mul_succ, add_block]
    have hs : ∀ r : Fin 512, k0_pay3 (F := Ideal) (kB k h Xk) (qB h Xq) (ix2 r c) = (sc (512 * k + r.val) : EReal) := fun r => by
      rw [score_apply, ← hsc _ (by omega)]
      exact Finset.sum_congr rfl fun l _ => by rw [kB_apply k hk4, qB_apply]
    have hv : ∀ r : Fin 512, vB (F := Ideal) k h Xv (ix2 d r) = vv Xv h d (512 * k + r.val) := fun r => by
      rw [vB_apply k hk4, vv, dif_pos]
    simp only [hs, hv]
    refine (ih (by omega)).step (fun r : Fin 512 => (sc (512 * k + r.val) : EReal)) _ (fun r => wt i c sc (512 * k + r.val)) (fun r => ?_) ⟨0, EReal.coe_ne_bot _⟩
    refine .inr ⟨_, rfl, ?_⟩
    rw [wt, if_pos (by omega)]

/-- The whole row: the masked last block too. -/
theorem last_inv : ∃ M : EReal, ∀ d : Fin 80,
    Mla.Inv (∑ j : Fin 2048, vv Xv h d j.val * (wt i c sc j.val : EReal)) M
      (last (F := Ideal) i Xq Xk Xv (stAt Xq Xk Xv st0 (k0_t1_loop i).trips) h (ix2 d c)) := by
  have hi : (i 2).val < 8 := (i 2).isLt
  have hc := c.isLt
  have cut : ∀ (n : ℕ) (d : Fin 80), n ≤ 2048 → 256 * (i 2).val + 256 ≤ n →
      ∑ j : Fin 2048, vv Xv h d j.val * (wt i c sc j.val : EReal) = ∑ j ∈ Finset.range n, vv Xv h d j * (wt i c sc j : EReal) := fun n d hn hn' => by
    rw [← Finset.sum_range fun j => vv Xv h d j * (wt i c sc j : EReal)]
    refine (Finset.sum_subset (Finset.range_mono hn) fun j _ hj => ?_).symm
    rw [Finset.mem_range] at hj
    rw [wt, if_neg (by omega), EReal.coe_zero, mul_zero]
  rw [trips_eq i]
  have ih := stAt_inv i Xq Xk Xv h c sc hsc ((i 2).val / 2) le_rfl
  generalize stAt (F := Ideal) Xq Xk Xv st0 ((i 2).val / 2) = s at ih ⊢
  unfold last
  by_cases hb : k0_cond1 i = 1#1
  · have h2 := (cond_eq i).1 hb
    have hw := (off_m i).1 hb
    have hk4 : (i 2).val / 2 < 4 := by omega
    rw [Nat.mod_eq_of_lt hk4] at hw
    rw [if_pos hb]
    refine ⟨max (s.1 h (ix2 0 c)) (Finset.univ.fold max ⊥ fun r : Fin 512 => k0_pay99 (F := Ideal) (w2 i) (w66 i) (k0_pay3 (kB ((i 2).val / 2) h Xk) (qB h Xq)) (ix2 r c)), fun d => ?_⟩
    rw [lastAcc_apply _ _ _ _ _ _ _ _ rfl, cut (512 * ((i 2).val / 2) + 512) d (by omega) (by omega), add_block]
    have hs : ∀ r : Fin 512, k0_pay99 (F := Ideal) (w2 i) (w66 i) (k0_pay3 (kB ((i 2).val / 2) h Xk) (qB h Xq)) (ix2 r c)
        = if 512 * ((i 2).val / 2) + r.val ≤ 256 * (i 2).val + c.val then (sc (512 * ((i 2).val / 2) + r.val) : EReal) else ⊥ := fun r => by
      rw [masked_apply _ _ _ hw (by omega), score_apply, ← hsc _ (by omega)]
      congr 1
      exact Finset.sum_congr rfl fun l _ => by rw [kB_apply _ hk4, qB_apply]
    have hv : ∀ r : Fin 512, vB (F := Ideal) ((i 2).val / 2) h Xv (ix2 d r) = vv Xv h d (512 * ((i 2).val / 2) + r.val) := fun r => by
      rw [vB_apply _ hk4, vv, dif_pos]
    simp only [hs, hv]
    refine (ih d).step (fun r : Fin 512 => if 512 * ((i 2).val / 2) + r.val ≤ 256 * (i 2).val + c.val then (sc (512 * ((i 2).val / 2) + r.val) : EReal) else ⊥) _
      (fun r => wt i c sc (512 * ((i 2).val / 2) + r.val)) (fun r => ?_) ⟨0, ?_⟩
    · by_cases hr : 512 * ((i 2).val / 2) + r.val ≤ 256 * (i 2).val + c.val
      · exact .inr ⟨_, if_pos hr, if_pos hr⟩
      · exact .inl ⟨if_neg hr, if_neg hr⟩
    · rw [if_pos (by show 512 * ((i 2).val / 2) + 0 ≤ _; omega)]; exact EReal.coe_ne_bot _
  · have h2 : ¬ (i 2).val % 2 = 1 := fun h => hb ((cond_eq i).2 h)
    have hw := (off_m i).2 hb
    rw [Nat.mod_eq_of_lt hi] at hw
    rw [if_neg hb]
    refine ⟨max (s.1 h (ix2 0 c)) (Finset.univ.fold max ⊥ fun r : Fin 256 => k0_pay147 (F := Ideal) (w2 i) (w66 i) (k0_pay139 (kB' (i 2).val h Xk) (qB h Xq)) (ix2 r c)), fun d => ?_⟩
    rw [lastAcc'_apply _ _ _ _ _ _ _ _ rfl, cut (256 * (i 2).val + 256) d (by omega) (by omega), add_block]
    have hs : ∀ r : Fin 256, k0_pay147 (F := Ideal) (w2 i) (w66 i) (k0_pay139 (kB' (i 2).val h Xk) (qB h Xq)) (ix2 r c)
        = if 256 * (i 2).val + r.val ≤ 256 * (i 2).val + c.val then (sc (256 * (i 2).val + r.val) : EReal) else ⊥ := fun r => by
      rw [masked'_apply _ _ _ hw (by omega), score'_apply, ← hsc _ (by omega)]
      congr 1
      exact Finset.sum_congr rfl fun l _ => by rw [kB'_apply _ hi, qB_apply]
    have hv : ∀ r : Fin 256, vB' (F := Ideal) (i 2).val h Xv (ix2 d r) = vv Xv h d (256 * (i 2).val + r.val) := fun r => by
      rw [vB'_apply _ hi, vv, dif_pos]
    simp only [hs, hv]
    have e : 512 * ((i 2).val / 2) = 256 * (i 2).val := by omega
    rw [e] at ih
    refine (ih d).step (fun r : Fin 256 => if 256 * (i 2).val + r.val ≤ 256 * (i 2).val + c.val then (sc (256 * (i 2).val + r.val) : EReal) else ⊥) _
      (fun r => wt i c sc (256 * (i 2).val + r.val)) (fun r => ?_) ⟨0, ?_⟩
    · by_cases hr : 256 * (i 2).val + r.val ≤ 256 * (i 2).val + c.val
      · exact .inr ⟨_, if_pos hr, if_pos hr⟩
      · exact .inl ⟨if_neg hr, if_neg hr⟩
    · rw [if_pos (by show 256 * (i 2).val + 0 ≤ _; omega)]; exact EReal.coe_ne_bot _

end Row

end Cert.KernelIdeal.Mla
-- ==== Proof.Inputs.lean ====
module

public import proofs.«01_k».proof.Proof.Block
public import Idealize.ShloMosaic.Lib.StableHlo.ReadAt

/-! # The staged blocks, read at an index of the arguments -/

@[expose] public section

set_option maxRecDepth 16384

noncomputable section

namespace Cert.KernelIdeal.Mla

open Idealize.ShloMosaic Idealize.ShloMosaic.TcCoe
open Cert.KernelIdeal.Gen

variable (m : (ℓ : Loc nD τ sig) → Buf (Elt Ideal) ℓ) (c : Dev nD)

/-- The scale that the host puts into the queries. -/
def scl : EReal := Ideal.div (Ideal.ofBits .f32 0x3F800000#32) (Ideal.log (Ideal.ofBits .f32 0x40000000#32) * Ideal.sqrt (Ideal.ofBits .f32 0x42C00000#32))

abbrev A0 : FVec Ideal S16x2048x8x64 .f32 := m ((c : Thread nD τ).loc main_arg0)
abbrev A1 : FVec Ideal S16x2048x8x32 .f32 := m ((c : Thread nD τ).loc main_arg1)
abbrev A2 : FVec Ideal S16x2048x8x64 .f32 := m ((c : Thread nD τ).loc main_arg2)
abbrev A3 : FVec Ideal S16x2048x32 .f32 := m ((c : Thread nD τ).loc main_arg3)
abbrev A4 : FVec Ideal S16x2048x8x64 .f32 := m ((c : Thread nD τ).loc main_arg4)

theorem V20 (R : Fin 32768) (L : Fin 1024) : V m c main_v20 (ix2 R L : S32768x1024.Idx) =
    if h : L.val % 128 < 64 then A0 m c (ix4 ⟨R.val / 2048, by omega⟩ ⟨R.val % 2048, by omega⟩ ⟨L.val / 128, by omega⟩ ⟨L.val % 128, h⟩) * scl
    else if h : L.val % 128 - 64 < 32 then A1 m c (ix4 ⟨R.val / 2048, by omega⟩ ⟨R.val % 2048, by omega⟩ ⟨L.val / 128, by omega⟩ ⟨L.val % 128 - 64, h⟩) * scl
    else (0 : EReal) := by
  unfold V
  after_reads_at
  simp only [StableHlo.upto]
  after_reads_at
  simp only [scl, Ideal.ofBits_one_f32]
theorem V21 (R : Fin 32768) (L : Fin 1024) : V m c main_v21 (ix2 R L : S32768x1024.Idx) =
    if h : L.val % 128 < 64 then A2 m c (ix4 ⟨R.val / 2048, by omega⟩ ⟨R.val % 2048, by omega⟩ ⟨L.val / 128, by omega⟩ ⟨L.val % 128, h⟩)
    else if h : L.val % 128 - 64 < 32 then A3 m c (ix3 ⟨R.val / 2048, by omega⟩ ⟨R.val % 2048, by omega⟩ ⟨L.val % 128 - 64, h⟩)
    else (0 : EReal) := by
  unfold V
  after_reads_at
  simp only [StableHlo.upto]
  after_reads_at
theorem V22 (R : Fin 640) (L : Fin 32768) : V m c main_v22 (ix2 R L : S640x32768.Idx) =
    if h : R.val % 80 < 64 then A4 m c (ix4 ⟨L.val / 2048, by omega⟩ ⟨L.val % 2048, by omega⟩ ⟨R.val / 80, by omega⟩ ⟨R.val % 80, h⟩)
    else (1 : EReal) := by
  unfold V
  after_reads_at
  simp only [StableHlo.upto]
  after_reads_at

theorem idx0 : ∀ t : Fin cfg0.N, win0_0.index t = ![(grid0.coords t 0).val * 8 + (grid0.coords t 2).val, 0] := (by decide +kernel : ∀ t : Fin grid0.N, _)
theorem idx1 : ∀ t : Fin cfg0.N, win0_1.index t = ![(grid0.coords t 0).val, 0] := (by decide +kernel : ∀ t : Fin grid0.N, _)
theorem idx2 : ∀ t : Fin cfg0.N, win0_2.index t = ![0, (grid0.coords t 0).val] := (by decide +kernel : ∀ t : Fin grid0.N, _)
theorem idx3 : ∀ t : Fin cfg0.N, win0_3.index t = ![(grid0.coords t 0).val * 8 + (grid0.coords t 2).val, 0] := (by decide +kernel : ∀ t : Fin grid0.N, _)

theorem lt0 (t : Fin cfg0.N) : (grid0.coords t 0).val < 16 := (grid0.coords t 0).isLt
theorem lt2 (t : Fin cfg0.N) : (grid0.coords t 2).val < 8 := (grid0.coords t 2).isLt

theorem iq (t : Fin cfg0.N) (r : Fin 256) (L : Fin 1024) : iblk m c 0 t (ix2 r L : S256x1024.Idx)
    = V m c main_v20 (ix2 ⟨2048 * (grid0.coords t 0).val + (256 * (grid0.coords t 2).val + r.val), by have := lt0 t; have := lt2 t; omega⟩ L : S32768x1024.Idx) := by
  blk_ext [iblk, idx0 t]
theorem ik (t : Fin cfg0.N) (r : Fin 2048) (L : Fin 1024) : iblk m c 1 t (ix2 r L : S2048x1024.Idx)
    = V m c main_v21 (ix2 ⟨2048 * (grid0.coords t 0).val + r.val, by have := lt0 t; omega⟩ L : S32768x1024.Idx) := by
  blk_ext [iblk, idx1 t]
theorem iv (t : Fin cfg0.N) (R : Fin 640) (r : Fin 2048) : iblk m c 2 t (ix2 R r : S640x2048.Idx)
    = V m c main_v22 (ix2 R ⟨2048 * (grid0.coords t 0).val + r.val, by have := lt0 t; omega⟩ : S640x32768.Idx) := by
  blk_ext [iblk, idx2 t]

end Cert.KernelIdeal.Mla
-- ==== Proof.RefAt.lean ====
module

public import proofs.«01_k».proof.Proof.Gen.ReferenceIdeal.Run
public import proofs.«01_k».proof.Proof.Pays
public import Idealize.ShloMosaic.Lib.Pointwise
public import Idealize.ShloMosaic.PureOps.Reduce

/-! # The reference's result, read at an index of the arguments -/

@[expose] public section

set_option maxRecDepth 16384

noncomputable section

namespace Cert.ReferenceIdeal.Mla

open Idealize.ShloMosaic Idealize.ShloMosaic.TcCoe
open Cert.ReferenceIdeal.Gen Cert.ReferenceIdeal.Value

section
variable (a0 : FVec Ideal S16x2048x8x64 .f32) (a1 : FVec Ideal S16x2048x8x32 .f32) (a2 : FVec Ideal S16x2048x8x64 .f32)
  (a3 : FVec Ideal S16x2048x32 .f32) (a4 : FVec Ideal S16x2048x8x64 .f32)

/-- Every score, −∞ where the key lies after the query. -/
def sel : FVec Ideal S16x8x2048x2048 .f32 :=
  select
    (broadcastInDim S16x8x2048x2048 ![2, 3] bcast_S2048x2048_S16x8x2048x2048_2_3
      (cmpi .sle
        (broadcastInDim S2048x2048 ![0, 1] bcast_S1x2048_S2048x2048_0_1
          (broadcastInDim S1x2048 ![1] bcast_S2048_S1x2048_1 (iotaInDim S2048 32 0)))
        (broadcastInDim S2048x2048 ![0, 1] bcast_S2048x1_S2048x2048_0_1
          (broadcastInDim S2048x1 ![0] bcast_S2048_S2048x1_0 (iotaInDim S2048 32 0)))))
    (Host.divf
      (addf
        (Host.dotGeneral dot_S16x2048x8x64_S16x2048x8x64_S16x8x2048x2048_3_3_1_1_02_02 none a0 a2)
        (transpose S16x8x2048x2048 [0, 3, 2, 1]
          (Host.dotGeneral dot_S16x2048x32_S16x2048x8x32_S16x2048x2048x8_2_3_1_12_0_0 none a3 a1)
          transposes_S16x2048x2048x8_S16x8x2048x2048_0_3_2_1))
      (broadcastInDim S16x8x2048x2048 ![] bcast_S_S16x8x2048x2048 (Host.sqrt (constant S_ .f32 0x42C00000#32))))
    (broadcastInDim S16x8x2048x2048 ![] bcast_S_S16x8x2048x2048 (id (constant S_ .f32 0xFF800000#32)))

/-- The greatest score of every query. -/
def top (s : FVec Ideal S16x8x2048x2048 .f32) : FVec Ideal S16x8x2048 .f32 :=
  maximumf (broadcastInDim S16x8x2048 ![] bcast_S_S16x8x2048 (constant S_ .f32 0xFF800000#32))
    (Host.reduce FloatOps.maximumf s (constant S_ .f32 0xFF800000#32) reducesTo_S16x8x2048x2048_S16x8x2048_d3 h_S_)

/-- The exponentials of the scores less a value for each query. -/
def ex (s : FVec Ideal S16x8x2048x2048 .f32) (u : FVec Ideal S16x8x2048 .f32) : FVec Ideal S16x8x2048x2048 .f32 :=
  Host.exp (subf s (broadcastInDim S16x8x2048x2048 ![0, 1, 2, 3] bcast_S16x8x2048x1_S16x8x2048x2048_0_1_2_3
    (broadcastInDim S16x8x2048x1 ![0, 1, 2] bcast_S16x8x2048_S16x8x2048x1_0_1_2 u)))

/-- The sum of the weights of every query. -/
def tot (e : FVec Ideal S16x8x2048x2048 .f32) : FVec Ideal S16x8x2048 .f32 :=
  Host.reduceAdd e (constant S_ .f32 0#32) reducesTo_S16x8x2048x2048_S16x8x2048_d3 h_S_

/-- The values averaged with the weights over their sums. -/
def avg (e : FVec Ideal S16x8x2048x2048 .f32) (z : FVec Ideal S16x8x2048 .f32) : FVec Ideal S32768x512 .bf16 :=
  truncf .bf16 (shapeCast _ (transpose S16x2048x8x64 [0, 3, 1, 2]
    (Host.dotGeneral dot_S16x2048x8x64_S16x8x2048x2048_S16x8x64x2048_1_3_3_2_02_01 none a4
      (Host.divf e (broadcastInDim S16x8x2048x2048 ![0, 1, 2, 3] bcast_S16x8x2048x1_S16x8x2048x2048_0_1_2_3
        (broadcastInDim S16x8x2048x1 ![0, 1, 2] bcast_S16x8x2048_S16x8x2048x1_0_1_2 z))))
    transposes_S16x8x64x2048_S16x2048x8x64_0_3_1_2) shapeCasts_S16x2048x8x64_S32768x512) bitsLt_bf16_f32

theorem sel_apply (b : Fin 16) (h : Fin 8) (t j : Fin 2048) : sel a0 a1 a2 a3 (ix4 b h t j) =
    if j.val ≤ t.val then Ideal.div ((∑ l : Fin 64, a0 (ix4 b t h l) * a2 (ix4 b j h l)) + ∑ l : Fin 32, a3 (ix3 b j l) * a1 (ix4 b t h l))
      (Ideal.sqrt (Ideal.ofBits .f32 0x42C00000#32)) else ⊥ := by
  pointwise [sel]
  have hj := j.isLt
  have ht := t.isLt
  have e := KernelIdeal.Mla.mask_word (t.val / 256) j.val 0 (t.val % 256) (BitVec.ofNat 32 j.val) (by rw [BitVec.toNat_ofNat]; omega)
    (by omega) (by omega) (by omega) (Ideal.div ((∑ l : Fin 64, a0 (ix4 b t h l) * a2 (ix4 b j h l)) + ∑ l : Fin 32, a3 (ix3 b j l) * a1 (ix4 b t h l))
      (Ideal.sqrt (Ideal.ofBits .f32 0x42C00000#32))) ⊥
  have w : IntOp.addi (Scalar.muli (BitVec.ofNat 32 (t.val / 256)) 256#32) (BitVec.ofNat 32 (t.val % 256)) = BitVec.ofNat 32 t.val := by
    apply BitVec.eq_of_toNat_eq
    show (BitVec.ofNat 32 (t.val / 256) * 256#32 + BitVec.ofNat 32 (t.val % 256)).toNat = _
    rw [BitVec.toNat_add, BitVec.toNat_mul, BitVec.toNat_ofNat, BitVec.toNat_ofNat, BitVec.toNat_ofNat, BitVec.toNat_ofNat]; omega
  have w' : IntOp.addi (BitVec.ofNat 32 j.val) (BitVec.ofNat 32 0) = BitVec.ofNat 32 j.val := by
    show BitVec.ofNat 32 j.val + 0#32 = _
    simp
  rw [w, w', show j.val + 0 = j.val by omega, show 256 * (t.val / 256) + t.val % 256 = t.val by omega] at e
  refine Eq.trans ?_ e
  rw [← KernelIdeal.Mla.ninf]; rfl

theorem red_apply (s : FVec Ideal S16x8x2048x2048 .f32) (b : Fin 16) (h : Fin 8) (t : Fin 2048) (u : FVec Ideal S_ .f32) :
    Host.reduce FloatOps.maximumf s u reducesTo_S16x8x2048x2048_S16x8x2048_d3 h_S_ (ix3 b h t)
      = Finset.univ.fold FloatOps.maximumf (u (Shape.Idx.first h_S_)) (fun j : Fin 2048 => s (ix4 b h t j)) := by
  refine (Host.reduce_eq_fold_single FloatOps.maximumf s u reducesTo_S16x8x2048x2048_S16x8x2048_d3 ⟨rfl, by decide, by decide⟩ h_S_ (ix3 b h t)).trans ?_
  refine congrArg (fun f => Finset.fold _ _ f _) (funext fun j => congrArg s (funext fun a => Fin.ext ?_))
  match a with
  | ⟨0, _⟩ => rfl
  | ⟨1, _⟩ => rfl
  | ⟨2, _⟩ => rfl
  | ⟨3, _⟩ => rfl

theorem fold_max {n : ℕ} (x : EReal) (f : Fin n → EReal) :
    Finset.univ.fold (FloatOps.maximumf (F := Ideal) (φ := .f32)) x f = Finset.univ.fold max x f := rfl

theorem max_apply (u : FVec Ideal S16x8x2048 .f32) (j : S16x8x2048.Idx) :
    maximumf (broadcastInDim S16x8x2048 ![] bcast_S_S16x8x2048 (constant (F := Ideal) S_ .f32 0xFF800000#32)) u j = u j := by
  refine (?_ : _ = max (Ideal.ofBits .f32 0xFF800000#32) (u j)).trans ?_
  · rfl
  · rw [KernelIdeal.Mla.ninf]; exact max_eq_right bot_le

theorem first_apply : (constant (F := Ideal) S_ .f32 0xFF800000#32) (Shape.Idx.first h_S_) = (⊥ : EReal) :=
  KernelIdeal.Mla.ninf

theorem top_apply (s : FVec Ideal S16x8x2048x2048 .f32) (b : Fin 16) (h : Fin 8) (t : Fin 2048) :
    top s (ix3 b h t) = Finset.univ.fold max ⊥ (fun j : Fin 2048 => s (ix4 b h t j)) := by
  unfold top
  rw [max_apply, red_apply, fold_max, first_apply]

theorem ex_apply (s : FVec Ideal S16x8x2048x2048 .f32) (u : FVec Ideal S16x8x2048 .f32) (b : Fin 16) (h : Fin 8) (t j : Fin 2048) :
    ex s u (ix4 b h t j) = Ideal.exp (s (ix4 b h t j) - u (ix3 b h t)) := by
  pointwise [ex]

theorem tot_apply (e : FVec Ideal S16x8x2048x2048 .f32) (b : Fin 16) (h : Fin 8) (t : Fin 2048) :
    tot e (ix3 b h t) = ∑ j : Fin 2048, e (ix4 b h t j) := by
  unfold tot
  pointwise

theorem avg_apply (e : FVec Ideal S16x8x2048x2048 .f32) (z : FVec Ideal S16x8x2048 .f32) (R : Fin 32768) (y : Fin 512) :
    avg a4 e z (ix2 R y) = ∑ j : Fin 2048, a4 (ix4 ⟨R.val / 2048, by omega⟩ j ⟨y.val / 64, by omega⟩ ⟨y.val % 64, by omega⟩) *
      Ideal.div (e (ix4 ⟨R.val / 2048, by omega⟩ ⟨y.val / 64, by omega⟩ ⟨R.val % 2048, by omega⟩ j))
        (z (ix3 ⟨R.val / 2048, by omega⟩ ⟨y.val / 64, by omega⟩ ⟨R.val % 2048, by omega⟩)) := by
  pointwise [avg]
end

theorem res_eq (m : (ℓ : Loc nD τ sig) → Buf (Elt Ideal) ℓ) (c : Dev nD) :
    (res_main_v28 m c : FVec Ideal S32768x512 .bf16) =
      let s := sel (m (c.tc.loc main_arg0)) (m (c.tc.loc main_arg1)) (m (c.tc.loc main_arg2)) (m (c.tc.loc main_arg3))
      avg (m (c.tc.loc main_arg4)) (ex s (top s)) (tot (ex s (top s))) := rfl

end Cert.ReferenceIdeal.Mla
-- ==== Proof.Scores.lean ====
module

public import proofs.«01_k».proof.Proof.Inputs
public import proofs.«01_k».proof.Proof.RefAt

/-! # The scores of a query block, over real queries and keys -/

@[expose] public section

set_option maxRecDepth 16384

noncomputable section

namespace Cert.KernelIdeal.Mla

open Idealize.ShloMosaic Idealize.ShloMosaic.TcCoe
open Cert.KernelIdeal.Gen

variable (m : (ℓ : Loc nD τ sig) → Buf (Elt Ideal) ℓ) (c : Dev nD)

/-- The staged queries. -/
abbrev Qs : FVec Ideal S32768x1024 .bf16 := V m c main_v20
/-- The staged keys. -/
abbrev Ks : FVec Ideal S32768x1024 .bf16 := V m c main_v21

/-- A head's 128 lanes are 64 unrotated, 32 rotated and 32 of padding. -/
theorem lanes (f : Fin 128 → EReal) : ∑ l, f l = (∑ l : Fin 64, f ⟨l.val, by omega⟩)
    + ((∑ l : Fin 32, f ⟨64 + l.val, by omega⟩) + ∑ l : Fin 32, f ⟨96 + l.val, by omega⟩) := by
  refine (Fin.sum_univ_add (a := 64) (b := 64) f).trans (congrArg₂ (· + ·) rfl ?_)
  refine (Fin.sum_univ_add (a := 32) (b := 32) fun l : Fin 64 => f (Fin.natAdd 64 l)).trans (congrArg₂ (· + ·) rfl ?_)
  exact Finset.sum_congr rfl fun l _ => congrArg f (Fin.ext (by show 64 + (32 + l.val) = 96 + l.val; omega))

section
variable (b : Fin 16) (t : Fin 2048) (h : Fin 8) (R : Fin 32768) (hR : R.val = 2048 * b.val + t.val)
include hR

theorem q_nope (l : Fin 64) : V m c main_v20 (ix2 R (lane h ⟨l.val, by omega⟩) : S32768x1024.Idx) = A0 m c (ix4 b t h l) * scl := by
  rw [V20, dif_pos (by show (128 * h.val + l.val) % 128 < 64; omega)]
  congr 3 <;> apply Fin.ext <;> simp only [hR] <;> omega
theorem q_rope (l : Fin 32) : V m c main_v20 (ix2 R (lane h ⟨64 + l.val, by omega⟩) : S32768x1024.Idx) = A1 m c (ix4 b t h l) * scl := by
  rw [V20, dif_neg (by show ¬ (128 * h.val + (64 + l.val)) % 128 < 64; omega), dif_pos (by show (128 * h.val + (64 + l.val)) % 128 - 64 < 32; omega)]
  congr 3 <;> apply Fin.ext <;> simp only [hR] <;> omega
theorem q_pad (l : Fin 32) : V m c main_v20 (ix2 R (lane h ⟨96 + l.val, by omega⟩) : S32768x1024.Idx) = (0 : EReal) := by
  rw [V20, dif_neg (by show ¬ (128 * h.val + (96 + l.val)) % 128 < 64; omega), dif_neg (by show ¬ (128 * h.val + (96 + l.val)) % 128 - 64 < 32; omega)]
theorem k_nope (l : Fin 64) : V m c main_v21 (ix2 R (lane h ⟨l.val, by omega⟩) : S32768x1024.Idx) = A2 m c (ix4 b t h l) := by
  rw [V21, dif_pos (by show (128 * h.val + l.val) % 128 < 64; omega)]
  congr 2 <;> apply Fin.ext <;> simp only [hR] <;> omega
theorem k_rope (l : Fin 32) : V m c main_v21 (ix2 R (lane h ⟨64 + l.val, by omega⟩) : S32768x1024.Idx) = A3 m c (ix3 b t l) := by
  rw [V21, dif_neg (by show ¬ (128 * h.val + (64 + l.val)) % 128 < 64; omega), dif_pos (by show (128 * h.val + (64 + l.val)) % 128 - 64 < 32; omega)]
  congr 2 <;> apply Fin.ext <;> simp only [hR] <;> omega
theorem v_val (d : Fin 64) : V m c main_v22 (ix2 (vrow h ⟨d.val, by omega⟩) R : S640x32768.Idx) = A4 m c (ix4 b t h d) := by
  rw [V22, dif_pos (by show (80 * h.val + d.val) % 80 < 64; omega)]
  congr 2 <;> apply Fin.ext <;> simp only [hR] <;> omega
theorem v_one : V m c main_v22 (ix2 (vrow h 64) R : S640x32768.Idx) = (1 : EReal) := by
  rw [V22, dif_neg (by show ¬ (80 * h.val + 64) % 80 < 64; omega)]
end

theorem two_word : Ideal.ofBits .f32 0x40000000#32 = ((2 : ℝ) : EReal) := by
  simp [Ideal.ofBits, Ideal.ieee, -EReal.coe_mul]; norm_num
theorem dim_word : Ideal.ofBits .f32 0x42C00000#32 = ((96 : ℝ) : EReal) := by
  simp [Ideal.ofBits, Ideal.ieee, -EReal.coe_mul]; norm_num

theorem sqrt_dim : Ideal.sqrt (Ideal.ofBits .f32 0x42C00000#32) = ((Real.sqrt 96 : ℝ) : EReal) := by
  rw [dim_word]; simp
theorem log_two : Ideal.log (Ideal.ofBits .f32 0x40000000#32) = ((Real.log 2 : ℝ) : EReal) := by
  rw [two_word]
  show (if (2 : ℝ) ≤ 0 then (⊥ : EReal) else ((Real.log 2 : ℝ) : EReal)) = _
  rw [if_neg (by norm_num)]
theorem scl_real : scl = ((1 / (Real.log 2 * Real.sqrt 96) : ℝ) : EReal) := by
  unfold scl
  rw [sqrt_dim, log_two, ← EReal.coe_mul, Ideal.div_coe (mul_ne_zero (Real.log_pos (by norm_num)).ne' (Real.sqrt_pos.2 (by norm_num)).ne'), Ideal.ofBits_one_f32, one_mul]

section
variable (a0 : S16x2048x8x64.Idx → ℝ) (a1 : S16x2048x8x32.Idx → ℝ) (a2 : S16x2048x8x64.Idx → ℝ) (a3 : S16x2048x32.Idx → ℝ)

/-- The reference's score of key `j` for query `t`. -/
def xs (b : Fin 16) (h : Fin 8) (t j : Fin 2048) : ℝ :=
  ((∑ l : Fin 64, a0 (ix4 b t h l) * a2 (ix4 b j h l)) + ∑ l : Fin 32, a3 (ix3 b j l) * a1 (ix4 b t h l)) / Real.sqrt 96

variable (h0 : ∀ i, A0 m c i = (a0 i : EReal)) (h1 : ∀ i, A1 m c i = (a1 i : EReal)) (h2 : ∀ i, A2 m c i = (a2 i : EReal))
  (h3 : ∀ i, A3 m c i = (a3 i : EReal))
include h0 h1 h2 h3

theorem sel_real (b : Fin 16) (h : Fin 8) (t j : Fin 2048) :
    ReferenceIdeal.Mla.sel (A0 m c) (A1 m c) (A2 m c) (A3 m c) (ix4 b h t j)
      = if j.val ≤ t.val then (xs a0 a1 a2 a3 b h t j : EReal) else ⊥ := by
  rw [ReferenceIdeal.Mla.sel_apply, sqrt_dim, Ideal.div_coe (Real.sqrt_pos.2 (by norm_num)).ne']
  simp only [h0, h1, h2, h3, ← EReal.coe_mul, ← Mla.coe_sum, ← EReal.coe_add]
  rw [xs, mul_one_div]

theorem score_real (b : Fin 16) (h : Fin 8) (t j : Fin 2048) (R J : Fin 32768) (hR : R.val = 2048 * b.val + t.val) (hJ : J.val = 2048 * b.val + j.val) :
    ∑ l : Fin 128, Ks m c (ix2 J (lane h l)) * Qs m c (ix2 R (lane h l))
      = ((xs a0 a1 a2 a3 b h t j / Real.log 2 : ℝ) : EReal) := by
  rw [lanes]
  simp only [q_nope m c b t h R hR, q_rope m c b t h R hR, q_pad m c b t h R hR, k_nope m c b j h J hJ, k_rope m c b j h J hJ, mul_zero,
    Finset.sum_const_zero, add_zero]
  simp only [h0, h1, h2, h3, scl_real, ← EReal.coe_mul, ← Mla.coe_sum, ← EReal.coe_add]
  refine congrArg Real.toEReal ?_
  have hl : Real.log 2 ≠ 0 := (Real.log_pos (by norm_num)).ne'
  have hs : Real.sqrt 96 ≠ 0 := (Real.sqrt_pos.2 (by norm_num)).ne'
  rw [xs, div_div, mul_comm (Real.sqrt 96), div_eq_mul_one_div (_ + _), add_mul, Finset.sum_mul, Finset.sum_mul]
  exact congrArg₂ (· + ·) (Finset.sum_congr rfl fun l _ => by ring) (Finset.sum_congr rfl fun l _ => by ring)
end

end Cert.KernelIdeal.Mla
-- ==== Proof.Value.lean ====
module

public import proofs.«01_k».proof.Proof.Scores

/-! # The block that a grid point writes is the reference's -/

@[expose] public section

set_option maxRecDepth 16384

noncomputable section

namespace Cert.KernelIdeal.Mla

open Idealize.ShloMosaic Idealize.ShloMosaic.TcCoe
open Cert.KernelIdeal.Gen

variable (m : (ℓ : Loc nD τ sig) → Buf (Elt Ideal) ℓ) (c : Dev nD)

/-- The reference's result for the kernel's arguments. -/
def want : FVec Ideal S32768x512 .bf16 :=
  let s := ReferenceIdeal.Mla.sel (A0 m c) (A1 m c) (A2 m c) (A3 m c)
  ReferenceIdeal.Mla.avg (A4 m c) (ReferenceIdeal.Mla.ex s (ReferenceIdeal.Mla.top s)) (ReferenceIdeal.Mla.tot (ReferenceIdeal.Mla.ex s (ReferenceIdeal.Mla.top s)))

theorem want_apply (b : Fin 16) (t : Fin 2048) (h : Fin 8) (d : Fin 64) (R : Fin 32768) (y : Fin 512) (hR : R.val = 2048 * b.val + t.val)
    (hy : y.val = 64 * h.val + d.val) (σ : Fin 2048 → EReal)
    (hσ : ∀ j, ReferenceIdeal.Mla.sel (A0 m c) (A1 m c) (A2 m c) (A3 m c) (ix4 b h t j) = σ j) :
    want m c (ix2 R y) = ∑ j : Fin 2048, A4 m c (ix4 b j h d) *
      Ideal.div (Ideal.exp (σ j - Finset.univ.fold max ⊥ σ)) (∑ k, Ideal.exp (σ k - Finset.univ.fold max ⊥ σ)) := by
  have e1 : (⟨R.val / 2048, by omega⟩ : Fin 16) = b := Fin.ext (by show R.val / 2048 = b.val; omega)
  have e2 : (⟨R.val % 2048, by omega⟩ : Fin 2048) = t := Fin.ext (by show R.val % 2048 = t.val; omega)
  have e3 : (⟨y.val / 64, by omega⟩ : Fin 8) = h := Fin.ext (by show y.val / 64 = h.val; omega)
  have e4 : (⟨y.val % 64, by omega⟩ : Fin 64) = d := Fin.ext (by show y.val % 64 = d.val; omega)
  unfold want
  rw [ReferenceIdeal.Mla.avg_apply, e1, e2, e3, e4]
  have hf : (fun j => ReferenceIdeal.Mla.sel (A0 m c) (A1 m c) (A2 m c) (A3 m c) (ix4 b h t j)) = σ := funext hσ
  simp only [ReferenceIdeal.Mla.tot_apply, ReferenceIdeal.Mla.ex_apply, ReferenceIdeal.Mla.top_apply, hσ]

section
variable (a0 : S16x2048x8x64.Idx → ℝ) (a1 : S16x2048x8x32.Idx → ℝ) (a2 : S16x2048x8x64.Idx → ℝ) (a3 : S16x2048x32.Idx → ℝ)
  (h0 : ∀ i, A0 m c i = (a0 i : EReal)) (h1 : ∀ i, A1 m c i = (a1 i : EReal)) (h2 : ∀ i, A2 m c i = (a2 i : EReal))
  (h3 : ∀ i, A3 m c i = (a3 i : EReal))
include h0 h1 h2 h3

theorem block_value (t : Fin cfg0.N) (q : Fin 256) (h : Fin 8) (d : Fin 64) :
    outBlk (F := Ideal) (grid0.coords t) (iblk m c 0 t) (iblk m c 1 t) (iblk m c 2 t) (ix2 q ⟨64 * h.val + d.val, by omega⟩ : S256x512.Idx)
      = want m c (ix2 ⟨2048 * (grid0.coords t 0).val + (256 * (grid0.coords t 2).val + q.val), by have := lt0 t; have := lt2 t; omega⟩
          ⟨64 * h.val + d.val, by omega⟩) := by
  have l0 := lt0 t
  have l2 := lt2 t
  let b : Fin 16 := ⟨(grid0.coords t 0).val, l0⟩
  let row : Fin 2048 := ⟨256 * (grid0.coords t 2).val + q.val, by omega⟩
  let sc : ℕ → ℝ := fun j => if hj : j < 2048 then xs a0 a1 a2 a3 b h row ⟨j, hj⟩ / Real.log 2 else 0
  let Xk : FVec Ideal S2048x1024 .bf16 := iblk m c 1 t
  let Xq : FVec Ideal S256x1024 .bf16 := iblk m c 0 t
  have hsc : ∀ j (hj : j < 2048), ∑ l : Fin 128, Xk (ix2 ⟨j, hj⟩ (lane h l)) * Xq (ix2 q (lane h l)) = (sc j : EReal) := fun j hj => by
    simp only [sc, dif_pos hj]
    rw [← score_real m c a0 a1 a2 a3 h0 h1 h2 h3 b h row ⟨j, hj⟩ ⟨2048 * b.val + row.val, by omega⟩ ⟨2048 * b.val + j, by omega⟩ rfl rfl]
    exact Finset.sum_congr rfl fun l _ => congrArg₂ (fun x y : EReal => x * y) (ik m c t ⟨j, hj⟩ (lane h l)) (iq m c t q (lane h l))
  obtain ⟨M, hM⟩ := last_inv (grid0.coords t) (iblk m c 0 t) (iblk m c 1 t) (iblk m c 2 t) h q sc hsc
  let e : Fin 2048 → ℝ := fun j => wt (grid0.coords t) q sc j.val
  let σ : Fin 2048 → EReal := fun j => if j.val ≤ row.val then (xs a0 a1 a2 a3 b h row j : EReal) else ⊥
  have hσ : ∀ j, Mla.ScE (σ j) (e j) := fun j => by
    by_cases hj : j.val ≤ row.val
    · refine .inr ⟨xs a0 a1 a2 a3 b h row j, if_pos hj, ?_⟩
      show wt (grid0.coords t) q sc j.val = _
      rw [wt, if_pos hj]
      simp only [sc, dif_pos j.isLt]
      show (2 : ℝ) ^ (_ : ℝ) = _
      rw [Real.rpow_def_of_pos (by norm_num), mul_div_cancel₀ _ (Real.log_pos (by norm_num)).ne']
    · exact .inl ⟨if_neg hj, if_neg hj⟩
  obtain ⟨hsoft, hpos⟩ := Mla.soft σ (fun j => A4 m c (ix4 b j h d)) e hσ ⟨0, by
    show (if (0 : ℕ) ≤ row.val then (_ : EReal) else ⊥) ≠ ⊥
    rw [if_pos (Nat.zero_le _)]; exact EReal.coe_ne_bot _⟩
  rw [want_apply m c b row h d _ _ rfl rfl σ (sel_real m c a0 a1 a2 a3 h0 h1 h2 h3 b h row), hsoft]
  unfold outBlk
  rw [outB_apply]
  have hv : ∀ j : Fin 2048, vv (iblk m c 2 t) h ⟨d.val, by omega⟩ j.val = A4 m c (ix4 b j h d) := fun j => by
    rw [vv, dif_pos j.isLt]
    exact (iv m c t _ j).trans (v_val m c b j h _ rfl d)
  have ho : ∀ j : Fin 2048, vv (iblk m c 2 t) h 64 j.val = 1 := fun j => by
    rw [vv, dif_pos j.isLt]
    exact (iv m c t _ j).trans (v_one m c b j h _ rfl)
  have hA := hM ⟨d.val, by omega⟩
  have hD := hM 64
  simp only [hv] at hA
  simp only [ho, one_mul, ← Mla.coe_sum] at hD
  exact hA.quot hD hpos
end

end Cert.KernelIdeal.Mla
-- ==== Proof.Finite.lean ====
module

public import proofs.«01_k».proof.Defs
public import proofs.«01_k».proof.Proof.Gen.Pre_finite_scores
public import Idealize.ShloMosaic.Lib.ReduceAll

/-! # The precondition read at an index: queries and keys are real numbers -/

@[expose] public section

set_option maxRecDepth 16384

noncomputable section

namespace Cert.KernelIdeal.Mla

open Idealize.ShloMosaic Idealize.ShloMosaic.TcCoe

theorem inf_word : Ideal.ofBits .f32 0x7F800000#32 = ⊤ := by
  simp [Ideal.ofBits, Ideal.ieee]

/-- An entry whose size compares below infinity is a real number. -/
theorem real_of_lt (x : EReal) (h : Ideal.cmp .olt (max x (-x)) (Ideal.ofBits .f32 0x7F800000#32) = 1#1) : x = (x.toReal : EReal) := by
  rw [inf_word] at h
  have h' : max x (-x) < ⊤ := by
    by_contra hn
    simp [Ideal.cmp, hn] at h
  refine (EReal.coe_toReal ?_ ?_).symm
  · rintro rfl; simp at h'
  · rintro rfl; simp at h'

instance (n : Fin 0 → ℕ) : Subsingleton (Shape.Idx ⟨0, n⟩) := ⟨fun a b => funext fun i => i.elim0⟩

theorem real_of_all {s : Shape} {axes : List (Fin s.rank)} (x : FVec Ideal s .f32) (y : FVec Ideal s .f32)
    (hy : ∀ i, y i = Ideal.ofBits .f32 0x7F800000#32) (u : IVec Pre_finite_scores.S_ 1) (h : s.ReducesTo axes Pre_finite_scores.S_)
    (hu : 0 < Pre_finite_scores.S_.numel) (j : Pre_finite_scores.S_.Idx)
    (e : Host.reduce IntOp.andi (cmpf .olt (Host.absf x) y) u h hu j = 1#1) (i : s.Idx) :
    x i = (EReal.toReal (x i) : EReal) := by
  have := Host.reduce_andi_all _ _ _ _ _ e i
  refine real_of_lt _ ?_
  rw [← hy i]
  exact this

theorem finite (a0 : FVec Ideal Pre_finite_scores.S16x2048x8x64 .f32) (a1 : FVec Ideal Pre_finite_scores.S16x2048x8x32 .f32)
    (a2 : FVec Ideal Pre_finite_scores.S16x2048x8x64 .f32) (a3 : FVec Ideal Pre_finite_scores.S16x2048x32 .f32)
    (a4 : FVec Ideal Pre_finite_scores.S16x2048x8x64 .f32) (h : Pre_finite_scores.fn (F := Ideal) a0 a1 a2 a3 a4 = fun _ => 1#1) :
    (∀ i, a0 i = (EReal.toReal (a0 i) : EReal)) ∧ (∀ i, a1 i = (EReal.toReal (a1 i) : EReal)) ∧
    (∀ i, a2 i = (EReal.toReal (a2 i) : EReal)) ∧ (∀ i, a3 i = (EReal.toReal (a3 i) : EReal)) := by
  have h := congrFun h fun a => a.elim0
  dsimp only [Pre_finite_scores.fn, Pre_finite_scores.fn_part1] at h
  obtain ⟨h, h3⟩ := IntOp.andi_eq_one.1 h
  obtain ⟨h, h2⟩ := IntOp.andi_eq_one.1 h
  obtain ⟨h0, h1⟩ := IntOp.andi_eq_one.1 h
  exact ⟨real_of_all a0 _ (fun _ => rfl) _ _ _ _ h0, real_of_all a1 _ (fun _ => rfl) _ _ _ _ h1,
    real_of_all a2 _ (fun _ => rfl) _ _ _ _ h2, real_of_all a3 _ (fun _ => rfl) _ _ _ _ h3⟩

end Cert.KernelIdeal.Mla
-- ==== Proof.Final.lean ====
module

public import proofs.«01_k».proof.Proof.Frames
public import proofs.«01_k».proof.Proof.Value
public import proofs.«01_k».proof.Proof.Finite

/-! # The kernel's result is the reference's -/

@[expose] public section

set_option maxRecDepth 16384

noncomputable section

namespace Cert.KernelIdeal.Mla

open Idealize.ShloMosaic Idealize.ShloMosaic.TcCoe Idealize.SL.Sem
open Cert.KernelIdeal.Gen

/-- A block entry's place in the result. -/
theorem out_row (G : FVec Ideal S32768x512 .bf16) (t : Fin cfg0.N) (q : Fin 256) (y : Fin 512) :
    G (((cfg0.win 3).blk t).view.emb (ix2 q y : S256x512.Idx))
      = G (ix2 ⟨2048 * (grid0.coords t 0).val + (256 * (grid0.coords t 2).val + q.val), by have := lt0 t; have := lt2 t; omega⟩ y) := by
  blk_ext [idx3 t]

variable (m : (ℓ : Loc nD τ sig) → Buf (Elt Ideal) ℓ) (c : Dev nD)

/-- The array that the launch leaves is the reference's result. -/
theorem array_value (hfin : Pre_finite_scores.fn (F := Ideal) (A0 m c) (A1 m c) (A2 m c) (A3 m c) (A4 m c) = fun _ => 1#1) :
    (dats m 0 c).arrAt 3 cfg0.N = want m c := by
  obtain ⟨h0, h1, h2, h3⟩ := finite _ _ _ _ _ hfin
  refine (dats m 0 c).arrAt_eq_of_covers 3 _ (by decide +kernel) fun t hf y => ?_
  rw [after0_3]
  obtain ⟨q, y, rfl⟩ : ∃ (q : Fin 256) (z : Fin 512), y = (ix2 q z : S256x512.Idx) := ⟨y 0, y 1, by
    funext a; match a with
    | ⟨0, _⟩ => rfl
    | ⟨1, _⟩ => rfl⟩
  refine Eq.trans ?_ (out_row (want m c) t q y).symm
  have hy : y = ⟨64 * (⟨y.val / 64, by omega⟩ : Fin 8).val + (⟨y.val % 64, by omega⟩ : Fin 64).val, by
      show 64 * (y.val / 64) + y.val % 64 < 512; omega⟩ := Fin.ext (by show y.val = 64 * (y.val / 64) + y.val % 64; omega)
  have := block_value m c _ _ _ _ h0 h1 h2 h3 t q ⟨y.val / 64, by omega⟩ ⟨y.val % 64, by omega⟩
  rw [← hy] at this
  exact this

theorem algebraic : Cert.algebraic_KernelIdeal_ReferenceIdeal_pre_finite_scores := fun m g m' g' hpre hagree => by
  refine ⟨fun c => want m c, ?_, ?_⟩
  · exact (θ_run defs _ _).mono (fun _ h c =>
      ⟨((h.1 c).1 3).trans (array_value m c (hpre c)),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩) (run_q m g)
  · refine (θ_run ReferenceIdeal.defs _ _).mono (fun _ h c => ⟨(h c).1.trans ?_, (h c).2⟩) (ReferenceIdeal.Value.run m' g')
    obtain ⟨e0, e1, e2, e3, e4⟩ := hagree c
    refine (ReferenceIdeal.Mla.res_eq m' c).trans ?_
    rw [e0, e1, e2, e3, e4]
    rfl

end Cert.KernelIdeal.Mla
-- ==== Proof.PostBits.lean ====
module

public import proofs.«01_k».proof.Proof.Gen.Kernel2.Skeleton
public import proofs.«01_k».proof.Proof.Gen.Kernel2.Points
public import proofs.«01_k».proof.Proof.Gen.Kernel2.Frame
public import Idealize.ShloMosaic.Lib.WholeRead
public import Idealize.ShloMosaic.Lib.Pipeline.Value

/-! # The body of the printed merge kernel: it runs, and gives every buffer back -/

@[expose] public section

noncomputable section

namespace Cert.Kernel2.Post

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel2.Gen

variable {F : FTy → Type} [FloatOps F] [BitOps F]
local notation "𝕄" => MT nD τ sig Unit (Elt F) ℕ (UR sig nD τ) ℕ

section Body

variable (c : Dev nD) (i : grid0.Coords)
  (arg1 : Memref sig .tc .vmem S512x1024 .f32) (harg1 : arg1.IsWhole) (arg2 : Memref sig .tc .vmem S512x512 .bf16) (harg2 : arg2.IsWhole)
  (arg3 : Memref sig .tc .vmem S512x512 .bf16) (harg3 : arg3.IsWhole) (arg4 : Memref sig .tc .vmem S512x1024 .bf16) (harg4 : arg4.IsWhole)
  (arg5 : Memref sig .tc .vmem S512x1024 .bf16) (harg5 : arg5.IsWhole) (arg6 : Memref sig .tc .vmem S1024x2048 .bf16) (harg6 : arg6.IsWhole)
  (arg7 : Memref sig .tc .vmem S1024x1024 .bf16) (harg7 : arg7.IsWhole) (arg8 : Memref sig .tc .vmem S1x1024 .f32) (harg8 : arg8.IsWhole)
  (arg9 : Memref sig .tc .vmem S1x1024 .f32) (harg9 : arg9.IsWhole) (arg10 : Memref sig .tc .vmem S256x1024 .bf16) (harg10 : arg10.IsWhole)
  (arg11 : Memref sig .tc .vmem S256x1 .f32) (harg11 : arg11.IsWhole) (arg12 : Memref sig .tc .vmem S256x256 .bf16) (harg12 : arg12.IsWhole)
  (arg13 : Memref sig .tc .vmem S1024x512 .bf16) (harg13 : arg13.IsWhole) (arg14 : Memref sig .tc .vmem S256x1024 .bf16) (harg14 : arg14.IsWhole)
  (arg15 : Memref sig .tc .vmem S512x1024 .f32) (harg15 : arg15.IsWhole) (arg16 : Memref sig .tc .vmem S2048x128 .i32) (harg16 : arg16.IsWhole)
  (arg17 : Memref sig .tc .vmem S8x512 .i32) (harg17 : arg17.IsWhole) (arg18 : Memref sig .tc .vmem S8x512 .f32) (harg18 : arg18.IsWhole)
  (arg19 : Memref sig .tc .vmem S8x512 .i32) (harg19 : arg19.IsWhole) (arg20 : Memref sig .tc .vmem S256x128 .i32) (harg20 : arg20.IsWhole)
  (arg21 : Memref sig .tc .vmem S512x1024 .bf16) (harg21 : arg21.IsWhole) (arg22 : Memref sig .tc .vmem S256x128 .f32) (harg22 : arg22.IsWhole)
  (X1 : Vec F S512x1024 .f32) (X2 X3 : Vec F S512x512 .bf16) (X4 X5 : Vec F S512x1024 .bf16) (X6 : Vec F S1024x2048 .bf16)
  (X7 : Vec F S1024x1024 .bf16) (X8 X9 : Vec F S1x1024 .f32) (X10 : Vec F S256x1024 .bf16) (X11 : Vec F S256x1 .f32)
  (X12 : Vec F S256x256 .bf16) (X13 : Vec F S1024x512 .bf16) (X14 : Vec F S256x1024 .bf16)

/-- The fourteen staged inputs at their contents. -/
abbrev ins : sProp 𝕄 :=
  iprop(owns (c : Thread nD τ) arg1 fullShare X1 ∗ owns (c : Thread nD τ) arg2 fullShare X2 ∗ owns (c : Thread nD τ) arg3 fullShare X3
    ∗ owns (c : Thread nD τ) arg4 fullShare X4 ∗ owns (c : Thread nD τ) arg5 fullShare X5 ∗ owns (c : Thread nD τ) arg6 fullShare X6
    ∗ owns (c : Thread nD τ) arg7 fullShare X7 ∗ owns (c : Thread nD τ) arg8 fullShare X8 ∗ owns (c : Thread nD τ) arg9 fullShare X9
    ∗ owns (c : Thread nD τ) arg10 fullShare X10 ∗ owns (c : Thread nD τ) arg11 fullShare X11 ∗ owns (c : Thread nD τ) arg12 fullShare X12
    ∗ owns (c : Thread nD τ) arg13 fullShare X13 ∗ owns (c : Thread nD τ) arg14 fullShare X14)

/-- The buffers whose contents are not named: the outputs and the scratch. -/
abbrev rest : sProp 𝕄 :=
  iprop((∃ d, owns (c : Thread nD τ) arg15 fullShare d) ∗ (∃ d, owns (c : Thread nD τ) arg21 fullShare d) ∗ (∃ d, owns (c : Thread nD τ) arg16 fullShare d) ∗ (∃ d, owns (c : Thread nD τ) arg17 fullShare d)
    ∗ (∃ d, owns (c : Thread nD τ) arg18 fullShare d) ∗ (∃ d, owns (c : Thread nD τ) arg19 fullShare d)
    ∗ (∃ d, owns (c : Thread nD τ) arg20 fullShare d) ∗ (∃ d, owns (c : Thread nD τ) arg22 fullShare d))

set_option maxHeartbeats 4000000 in
theorem body (K : PUnit → sProp 𝕄) :
    iprop(ins c arg1 arg2 arg3 arg4 arg5 arg6 arg7 arg8 arg9 arg10 arg11 arg12 arg13 arg14 X1 X2 X3 X4 X5 X6 X7 X8 X9 X10 X11 X12 X13 X14
      ∗ rest (F := F) c arg15 arg16 arg17 arg18 arg19 arg20 arg21 arg22
      ∗ (iprop(ins c arg1 arg2 arg3 arg4 arg5 arg6 arg7 arg8 arg9 arg10 arg11 arg12 arg13 arg14 X1 X2 X3 X4 X5 X6 X7 X8 X9 X10 X11 X12 X13 X14
          ∗ rest (F := F) c arg15 arg16 arg17 arg18 arg19 arg20 arg21 arg22) -∗ K ⟨⟩))
      ⊢ wp frame (wpE (defs₀ (F := F)) Variants.none (c : Thread nD τ) none) Set.univ
          (cc0_post (F := F) i arg1 harg1 arg2 harg2 arg3 harg3 arg4 harg4 arg5 harg5 arg6 harg6 arg7 harg7 arg8 harg8 arg9 harg9 arg10 harg10
            arg11 harg11 arg12 harg12 arg13 harg13 arg14 harg14 arg15 harg15 arg16 harg16 arg17 harg17 arg18 harg18 arg19 harg19 arg20 harg20
            arg21 harg21 arg22 harg22) K := by
  by_cases hC : Scalar.cmpi .ne (Scalar.extui (Scalar.cmpi .eq (BitVec.ofNat 32 (i 0).val) 0#32) : BitVec 32) 0#32 = 1#1
  all_goals
    unfold ins rest owns
    iintro ⟨⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩,
      ⟨%f9, %e9, H9⟩, ⟨%f10, %e10, H10⟩, ⟨%f11, %e11, H11⟩, ⟨%f12, %e12, H12⟩, ⟨%f13, %e13, H13⟩, ⟨%f14, %e14, H14⟩⟩,
      ⟨⟨%d15, %f15, -, H15⟩, ⟨%d21, %f21, -, H21⟩, ⟨%d16, %f16, -, H16⟩, ⟨%d17, %f17, -, H17⟩, ⟨%d18, %f18, -, H18⟩, ⟨%d19, %f19, -, H19⟩, ⟨%d20, %f20, -, H20⟩, ⟨%d22, %f22, -, H22⟩⟩, HK⟩
    sl_exec
    sl_step
    iapply HK
    isplitl [H1 H2 H3 H4 H5 H6 H7 H8 H9 H10 H11 H12 H13 H14]
    · isplitl [H1]; · iexists f1; isplitr; (· ipureintro; exact e1); iexact H1
      isplitl [H2]; · iexists f2; isplitr; (· ipureintro; exact e2); iexact H2
      isplitl [H3]; · iexists f3; isplitr; (· ipureintro; exact e3); iexact H3
      isplitl [H4]; · iexists f4; isplitr; (· ipureintro; exact e4); iexact H4
      isplitl [H5]; · iexists f5; isplitr; (· ipureintro; exact e5); iexact H5
      isplitl [H6]; · iexists f6; isplitr; (· ipureintro; exact e6); iexact H6
      isplitl [H7]; · iexists f7; isplitr; (· ipureintro; exact e7); iexact H7
      isplitl [H8]; · iexists f8; isplitr; (· ipureintro; exact e8); iexact H8
      isplitl [H9]; · iexists f9; isplitr; (· ipureintro; exact e9); iexact H9
      isplitl [H10]; · iexists f10; isplitr; (· ipureintro; exact e10); iexact H10
      isplitl [H11]; · iexists f11; isplitr; (· ipureintro; exact e11); iexact H11
      isplitl [H12]; · iexists f12; isplitr; (· ipureintro; exact e12); iexact H12
      isplitl [H13]; · iexists f13; isplitr; (· ipureintro; exact e13); iexact H13
      iexists f14; isplitr; (· ipureintro; exact e14); iexact H14
    isplitl [H15]; · iexists _, _; isplitr; (swap; · iexact H15); ipureintro; rfl
    isplitl [H21]; · iexists _, _; isplitr; (swap; · iexact H21); ipureintro; rfl
    isplitl [H16]; · iexists _, _; isplitr; (swap; · iexact H16); ipureintro; rfl
    isplitl [H17]; · iexists _, _; isplitr; (swap; · iexact H17); ipureintro; rfl
    isplitl [H18]; · iexists _, _; isplitr; (swap; · iexact H18); ipureintro; rfl
    isplitl [H19]; · iexists _, _; isplitr; (swap; · iexact H19); ipureintro; rfl
    isplitl [H20]; · iexists _, _; isplitr; (swap; · iexact H20); ipureintro; rfl
    iexists _, _; isplitr; (swap; · iexact H22); ipureintro; rfl

end Body

end Cert.Kernel2.Post
-- ==== Proof.PostBody.lean ====
module

public import proofs.«01_k».proof.Proof.Gen.Kernel2Ideal.Skeleton
public import proofs.«01_k».proof.Proof.Gen.Kernel2Ideal.Points
public import proofs.«01_k».proof.Proof.Gen.Kernel2Ideal.Frame
public import Idealize.ShloMosaic.Lib.WholeRead
public import Idealize.ShloMosaic.Lib.Pipeline.Value

/-! # The body of the merge kernel: what it leaves in its two named outputs -/

@[expose] public section

noncomputable section

namespace Cert.Kernel2Ideal.Post

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel2Ideal.Gen

variable {F : FTy → Type} [FloatOps F]
local notation "𝕄" => MT nD τ sig Unit (Elt F) ℕ (UR sig nD τ) ℕ

theorem zz : (![0, 0] : Fin 2 → ℕ) = fun _ => 0 := funext fun a => by fin_cases a <;> rfl

/-- A whole load reads the buffer's contents. -/
theorem rd {r C : ℕ} {e : EltTy} (a : Memref sig .tc .vmem ⟨2, ![r, C]⟩ e) (f : a.view.ty.Contents (Elt F)) (hi) :
    a.view.readAt (Elt F) (Rect.unit (s := ⟨2, ![r, C]⟩) ![0, 0] (⟨2, ![r, C]⟩ : Shape).size hi).toLoadRect f = a.view.read (Elt F) f := by
  rw [View.readAt_eq_ld, View.ld_unit_zero zz]

/-- The block of hidden rows, from the blocks that enter it. -/
def h1Blk (x : Vec F S512x1024 .f32) (om os : Vec F S512x512 .bf16) (wm ws : Vec F S512x1024 .bf16) (wg : Vec F S1024x2048 .bf16)
    (wo : Vec F S1024x1024 .bf16) (g b : Vec F S1x1024 .f32) : FVec F S512x1024 .f32 :=
  k0_pay10 (k0_pay4 x) (k0_pay5 os ws) (k0_pay7 x om wm wg) (k0_pay8 x wg) k0_pay9 wo g b

/-- The block of the shared expert, from the hidden rows. -/
def shBlk (h : FVec F S512x1024 .f32) (wu : Vec F S1024x512 .bf16) (wd : Vec F S256x1024 .bf16) : FVec F S512x1024 .bf16 :=
  k0_pay20 (k0_pay18 h wu) (k0_pay19 h wu) (Scalar.ofBits .f32 0x00000000#32) wd

section Body

variable (c : Dev nD) (i : grid0.Coords)
  (arg1 : Memref sig .tc .vmem S512x1024 .f32) (harg1 : arg1.IsWhole) (arg2 : Memref sig .tc .vmem S512x512 .bf16) (harg2 : arg2.IsWhole)
  (arg3 : Memref sig .tc .vmem S512x512 .bf16) (harg3 : arg3.IsWhole) (arg4 : Memref sig .tc .vmem S512x1024 .bf16) (harg4 : arg4.IsWhole)
  (arg5 : Memref sig .tc .vmem S512x1024 .bf16) (harg5 : arg5.IsWhole) (arg6 : Memref sig .tc .vmem S1024x2048 .bf16) (harg6 : arg6.IsWhole)
  (arg7 : Memref sig .tc .vmem S1024x1024 .bf16) (harg7 : arg7.IsWhole) (arg8 : Memref sig .tc .vmem S1x1024 .f32) (harg8 : arg8.IsWhole)
  (arg9 : Memref sig .tc .vmem S1x1024 .f32) (harg9 : arg9.IsWhole) (arg10 : Memref sig .tc .vmem S256x1024 .bf16) (harg10 : arg10.IsWhole)
  (arg11 : Memref sig .tc .vmem S256x1 .f32) (harg11 : arg11.IsWhole) (arg12 : Memref sig .tc .vmem S256x256 .bf16) (harg12 : arg12.IsWhole)
  (arg13 : Memref sig .tc .vmem S1024x512 .bf16) (harg13 : arg13.IsWhole) (arg14 : Memref sig .tc .vmem S256x1024 .bf16) (harg14 : arg14.IsWhole)
  (arg15 : Memref sig .tc .vmem S512x1024 .f32) (harg15 : arg15.IsWhole) (arg16 : Memref sig .tc .vmem S2048x2x128 .bf16) (harg16 : arg16.IsWhole)
  (arg17 : Memref sig .tc .vmem S8x512 .i32) (harg17 : arg17.IsWhole) (arg18 : Memref sig .tc .vmem S8x512 .f32) (harg18 : arg18.IsWhole)
  (arg19 : Memref sig .tc .vmem S8x512 .i32) (harg19 : arg19.IsWhole) (arg20 : Memref sig .tc .vmem S256x128 .i32) (harg20 : arg20.IsWhole)
  (arg21 : Memref sig .tc .vmem S512x1024 .bf16) (harg21 : arg21.IsWhole) (arg22 : Memref sig .tc .vmem S256x128 .f32) (harg22 : arg22.IsWhole)
  (X1 : Vec F S512x1024 .f32) (X2 X3 : Vec F S512x512 .bf16) (X4 X5 : Vec F S512x1024 .bf16) (X6 : Vec F S1024x2048 .bf16)
  (X7 : Vec F S1024x1024 .bf16) (X8 X9 : Vec F S1x1024 .f32) (X10 : Vec F S256x1024 .bf16) (X11 : Vec F S256x1 .f32)
  (X12 : Vec F S256x256 .bf16) (X13 : Vec F S1024x512 .bf16) (X14 : Vec F S256x1024 .bf16)

/-- The fourteen staged inputs at their contents. -/
abbrev ins : sProp 𝕄 :=
  iprop(owns (c : Thread nD τ) arg1 fullShare X1 ∗ owns (c : Thread nD τ) arg2 fullShare X2 ∗ owns (c : Thread nD τ) arg3 fullShare X3
    ∗ owns (c : Thread nD τ) arg4 fullShare X4 ∗ owns (c : Thread nD τ) arg5 fullShare X5 ∗ owns (c : Thread nD τ) arg6 fullShare X6
    ∗ owns (c : Thread nD τ) arg7 fullShare X7 ∗ owns (c : Thread nD τ) arg8 fullShare X8 ∗ owns (c : Thread nD τ) arg9 fullShare X9
    ∗ owns (c : Thread nD τ) arg10 fullShare X10 ∗ owns (c : Thread nD τ) arg11 fullShare X11 ∗ owns (c : Thread nD τ) arg12 fullShare X12
    ∗ owns (c : Thread nD τ) arg13 fullShare X13 ∗ owns (c : Thread nD τ) arg14 fullShare X14)

/-- The buffers whose contents are not named: the five other outputs and the scratch. -/
abbrev rest : sProp 𝕄 :=
  iprop((∃ d, owns (c : Thread nD τ) arg16 fullShare d) ∗ (∃ d, owns (c : Thread nD τ) arg17 fullShare d)
    ∗ (∃ d, owns (c : Thread nD τ) arg18 fullShare d) ∗ (∃ d, owns (c : Thread nD τ) arg19 fullShare d)
    ∗ (∃ d, owns (c : Thread nD τ) arg20 fullShare d) ∗ (∃ d, owns (c : Thread nD τ) arg22 fullShare d))

set_option maxHeartbeats 4000000 in
theorem body (K : PUnit → sProp 𝕄) :
    iprop(ins c arg1 arg2 arg3 arg4 arg5 arg6 arg7 arg8 arg9 arg10 arg11 arg12 arg13 arg14 X1 X2 X3 X4 X5 X6 X7 X8 X9 X10 X11 X12 X13 X14
      ∗ (∃ d, owns (c : Thread nD τ) arg15 fullShare d) ∗ (∃ d, owns (c : Thread nD τ) arg21 fullShare d)
      ∗ rest (F := F) c arg16 arg17 arg18 arg19 arg20 arg22
      ∗ (iprop(ins c arg1 arg2 arg3 arg4 arg5 arg6 arg7 arg8 arg9 arg10 arg11 arg12 arg13 arg14 X1 X2 X3 X4 X5 X6 X7 X8 X9 X10 X11 X12 X13 X14
          ∗ owns (c : Thread nD τ) arg15 fullShare (h1Blk X1 X2 X3 X4 X5 X6 X7 X8 X9)
          ∗ owns (c : Thread nD τ) arg21 fullShare (shBlk (h1Blk X1 X2 X3 X4 X5 X6 X7 X8 X9) X13 X14)
          ∗ rest (F := F) c arg16 arg17 arg18 arg19 arg20 arg22) -∗ K ⟨⟩))
      ⊢ wp frame (wpE (defs₀ (F := F)) Variants.none (c : Thread nD τ) none) Set.univ
          (cc0_post (F := F) i arg1 harg1 arg2 harg2 arg3 harg3 arg4 harg4 arg5 harg5 arg6 harg6 arg7 harg7 arg8 harg8 arg9 harg9 arg10 harg10
            arg11 harg11 arg12 harg12 arg13 harg13 arg14 harg14 arg15 harg15 arg16 harg16 arg17 harg17 arg18 harg18 arg19 harg19 arg20 harg20
            arg21 harg21 arg22 harg22) K := by
  have hX : ∀ (f : arg15.view.ty.Contents (Elt F)) (V : FVec F S512x1024 .f32),
      arg15.view.read (Elt F) (arg15.view.writes (Elt F) f [⟨Rect.unit (s := S512x1024) ![0, 0] S512x1024.size inb_S512x1024_S512x1024_0_0, V⟩]) = V :=
    fun f V => (View.read_writes_eq_canon _ _ _ (View.cover_of_tiled _ S512x1024.size (by rfl))).trans (View.canon_unit_zero zz ..)
  have hY : ∀ (f : arg21.view.ty.Contents (Elt F)) (V : FVec F S512x1024 .bf16),
      arg21.view.read (Elt F) (arg21.view.writes (Elt F) f [⟨Rect.unit (s := S512x1024) ![0, 0] S512x1024.size inb_S512x1024_S512x1024_0_0, V⟩]) = V :=
    fun f V => (View.read_writes_eq_canon _ _ _ (View.cover_of_tiled _ S512x1024.size (by rfl))).trans (View.canon_unit_zero zz ..)
  by_cases hC : Scalar.cmpi .ne (Scalar.extui (Scalar.cmpi .eq (BitVec.ofNat 32 (i 0).val) 0#32) : BitVec 32) 0#32 = 1#1
  all_goals
    unfold ins rest owns
    iintro ⟨⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩,
      ⟨%f9, %e9, H9⟩, ⟨%f10, %e10, H10⟩, ⟨%f11, %e11, H11⟩, ⟨%f12, %e12, H12⟩, ⟨%f13, %e13, H13⟩, ⟨%f14, %e14, H14⟩⟩, ⟨%d15, %f15, -, H15⟩, ⟨%d21, %f21, -, H21⟩,
      ⟨⟨%d16, %f16, -, H16⟩, ⟨%d17, %f17, -, H17⟩, ⟨%d18, %f18, -, H18⟩, ⟨%d19, %f19, -, H19⟩, ⟨%d20, %f20, -, H20⟩, ⟨%d22, %f22, -, H22⟩⟩, HK⟩
    sl_exec
    sl_step
    iapply HK
    isplitl [H1 H2 H3 H4 H5 H6 H7 H8 H9 H10 H11 H12 H13 H14]
    · isplitl [H1]; · iexists f1; isplitr; (· ipureintro; exact e1); iexact H1
      isplitl [H2]; · iexists f2; isplitr; (· ipureintro; exact e2); iexact H2
      isplitl [H3]; · iexists f3; isplitr; (· ipureintro; exact e3); iexact H3
      isplitl [H4]; · iexists f4; isplitr; (· ipureintro; exact e4); iexact H4
      isplitl [H5]; · iexists f5; isplitr; (· ipureintro; exact e5); iexact H5
      isplitl [H6]; · iexists f6; isplitr; (· ipureintro; exact e6); iexact H6
      isplitl [H7]; · iexists f7; isplitr; (· ipureintro; exact e7); iexact H7
      isplitl [H8]; · iexists f8; isplitr; (· ipureintro; exact e8); iexact H8
      isplitl [H9]; · iexists f9; isplitr; (· ipureintro; exact e9); iexact H9
      isplitl [H10]; · iexists f10; isplitr; (· ipureintro; exact e10); iexact H10
      isplitl [H11]; · iexists f11; isplitr; (· ipureintro; exact e11); iexact H11
      isplitl [H12]; · iexists f12; isplitr; (· ipureintro; exact e12); iexact H12
      isplitl [H13]; · iexists f13; isplitr; (· ipureintro; exact e13); iexact H13
      iexists f14; isplitr; (· ipureintro; exact e14); iexact H14
    isplitl [H15]
    · iexists _; isplitr; swap; · iexact H15
      ipureintro
      refine (hX _ _).trans ?_
      obtain rfl := (rd arg1 f1 inb_S512x1024_S512x1024_0_0).trans e1
      obtain rfl := (rd arg2 f2 inb_S512x512_S512x512_0_0).trans e2
      obtain rfl := (rd arg3 f3 inb_S512x512_S512x512_0_0).trans e3
      obtain rfl := (rd arg4 f4 inb_S512x1024_S512x1024_0_0).trans e4
      obtain rfl := (rd arg5 f5 inb_S512x1024_S512x1024_0_0).trans e5
      obtain rfl := (rd arg6 f6 inb_S1024x2048_S1024x2048_0_0).trans e6
      obtain rfl := (rd arg7 f7 inb_S1024x1024_S1024x1024_0_0).trans e7
      obtain rfl := (rd arg8 f8 inb_S1x1024_S1x1024_0_0).trans e8
      obtain rfl := (rd arg9 f9 inb_S1x1024_S1x1024_0_0).trans e9
      unfold h1Blk
      rfl
    isplitl [H21]
    · iexists _; isplitr; swap; · iexact H21
      ipureintro
      refine (hY _ _).trans ?_
      obtain rfl := (rd arg1 f1 inb_S512x1024_S512x1024_0_0).trans e1
      obtain rfl := (rd arg2 f2 inb_S512x512_S512x512_0_0).trans e2
      obtain rfl := (rd arg3 f3 inb_S512x512_S512x512_0_0).trans e3
      obtain rfl := (rd arg4 f4 inb_S512x1024_S512x1024_0_0).trans e4
      obtain rfl := (rd arg5 f5 inb_S512x1024_S512x1024_0_0).trans e5
      obtain rfl := (rd arg6 f6 inb_S1024x2048_S1024x2048_0_0).trans e6
      obtain rfl := (rd arg7 f7 inb_S1024x1024_S1024x1024_0_0).trans e7
      obtain rfl := (rd arg8 f8 inb_S1x1024_S1x1024_0_0).trans e8
      obtain rfl := (rd arg9 f9 inb_S1x1024_S1x1024_0_0).trans e9
      obtain rfl := (rd arg13 f13 inb_S1024x512_S1024x512_0_0).trans e13
      obtain rfl := (rd arg14 f14 inb_S256x1024_S256x1024_0_0).trans e14
      unfold shBlk h1Blk
      rfl
    isplitl [H16]; · iexists _, _; isplitr; (swap; · iexact H16); ipureintro; rfl
    isplitl [H17]; · iexists _, _; isplitr; (swap; · iexact H17); ipureintro; rfl
    isplitl [H18]; · iexists _, _; isplitr; (swap; · iexact H18); ipureintro; rfl
    isplitl [H19]; · iexists _, _; isplitr; (swap; · iexact H19); ipureintro; rfl
    isplitl [H20]; · iexists _, _; isplitr; (swap; · iexact H20); ipureintro; rfl
    iexists _, _; isplitr; (swap; · iexact H22); ipureintro; rfl

end Body

end Cert.Kernel2Ideal.Post
-- ==== Proof.PostRun.lean ====
module

public import proofs.«01_k».proof.Proof.PostBody

/-! # The launch of the merge kernel: the body at every point, the run, and what is read of it -/

@[expose] public section

noncomputable section

namespace Cert.Kernel2Ideal.Post

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F]
local notation "𝕄" => MT nD τ sig Unit (Elt F) ℕ (UR sig nD τ) ℕ

variable (m : (ℓ : Loc nD τ sig) → Buf (Elt F) ℓ) (ρ : Dev nD → PrngReg)

/-- The hidden rows and the shared expert's rows that point `t` writes. -/
def h1At (c : Dev nD) (t : Fin cfg0.N) : FVec F S512x1024 .f32 :=
  h1Blk (iblk m c 0 t) (iblk m c 1 t) (iblk m c 2 t) (iblk m c 3 t) (iblk m c 4 t) (iblk m c 5 t) (iblk m c 6 t) (iblk m c 7 t) (iblk m c 8 t)
def shAt (c : Dev nD) (t : Fin cfg0.N) : FVec F S512x1024 .bf16 := shBlk (h1At m c t) (iblk m c 12 t) (iblk m c 13 t)

/-- The outputs of the router, whose contents are not named. -/
def forgets : Fin 21 → Bool :=
  ![false, false, false, false, false, false, false, false, false, false, false, false, false, false, false, true, true, true, true, true, false]

/-- The launch's data: the arrays as the region finds them; the inputs' buffers at their blocks, the two named outputs at what the body writes. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => h1At m c t
    | ⟨20, _⟩ => shAt m c t
    | w => Pipeline.Dat.unnamed (cfg := cfg0) w t
  Φ _ := Pipeline.ΦA spec0 c
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := rfl
theorem after_1 (c : Dev nD) (t : Fin cfg0.N) : (dats m 0 c).after 1 t = iblk m c 1 t := rfl
theorem after_2 (c : Dev nD) (t : Fin cfg0.N) : (dats m 0 c).after 2 t = iblk m c 2 t := rfl
theorem after_3 (c : Dev nD) (t : Fin cfg0.N) : (dats m 0 c).after 3 t = iblk m c 3 t := rfl
theorem after_4 (c : Dev nD) (t : Fin cfg0.N) : (dats m 0 c).after 4 t = iblk m c 4 t := rfl
theorem after_5 (c : Dev nD) (t : Fin cfg0.N) : (dats m 0 c).after 5 t = iblk m c 5 t := rfl
theorem after_6 (c : Dev nD) (t : Fin cfg0.N) : (dats m 0 c).after 6 t = iblk m c 6 t := rfl
theorem after_7 (c : Dev nD) (t : Fin cfg0.N) : (dats m 0 c).after 7 t = iblk m c 7 t := rfl
theorem after_8 (c : Dev nD) (t : Fin cfg0.N) : (dats m 0 c).after 8 t = iblk m c 8 t := rfl
theorem after_9 (c : Dev nD) (t : Fin cfg0.N) : (dats m 0 c).after 9 t = iblk m c 9 t := rfl
theorem after_10 (c : Dev nD) (t : Fin cfg0.N) : (dats m 0 c).after 10 t = iblk m c 10 t := rfl
theorem after_11 (c : Dev nD) (t : Fin cfg0.N) : (dats m 0 c).after 11 t = iblk m c 11 t := rfl
theorem after_12 (c : Dev nD) (t : Fin cfg0.N) : (dats m 0 c).after 12 t = iblk m c 12 t := rfl
theorem after_13 (c : Dev nD) (t : Fin cfg0.N) : (dats m 0 c).after 13 t = iblk m c 13 t := rfl
theorem after_14 (c : Dev nD) (t : Fin cfg0.N) : (dats m 0 c).after 14 t = h1At m c t := rfl
theorem after_20 (c : Dev nD) (t : Fin cfg0.N) : (dats m 0 c).after 20 t = shAt m c t := rfl
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_11 (c : Dev nD) (t : Fin cfg0.N) (d) : (dats m 0 c).before 11 t d = iblk m c 11 t :=
  before0_11_of m (dats m 0 c) (A_eq m c 11) (after_11 m c) t d
theorem before_12 (c : Dev nD) (t : Fin cfg0.N) (d) : (dats m 0 c).before 12 t d = iblk m c 12 t :=
  before0_12_of m (dats m 0 c) (A_eq m c 12) (after_12 m c) t d
theorem before_13 (c : Dev nD) (t : Fin cfg0.N) (d) : (dats m 0 c).before 13 t d = iblk m c 13 t :=
  before0_13_of m (dats m 0 c) (A_eq m c 13) (after_13 m c) t d

/-- A scratch's whole memref and its buffer. -/
theorem whole_pts (c : Dev nD) (b : Ref sig .tc) (f : Buf (Elt F) ((c : Thread nD τ).loc b)) :
    (((Memref.whole b).view.loc (c : Thread nD τ) ↦[(Memref.whole b).view.set]{fullShare} f) : sProp 𝕄)
      = (((c : Thread nD τ).loc b) ↦{fullShare} f) := by
  show (_ ↦[(View.whole b).set]{fullShare} f : sProp 𝕄) = _
  rw [View.set_whole]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare d)
    ∗ (∃ d, owns (c : Thread nD τ) (st0_16 t) fullShare d)
    ∗ (∃ d, owns (c : Thread nD τ) (st0_17 t) fullShare d)
    ∗ (∃ d, owns (c : Thread nD τ) (st0_18 t) fullShare d)
    ∗ (∃ d, owns (c : Thread nD τ) (st0_19 t) fullShare d)
    ∗ (∃ d, owns (c : Thread nD τ) (st0_20 t) fullShare ((dats m 0 c).before 20 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ (∃ d, owns (c : Thread nD τ) (st0_15 t) fullShare d)
    ∗ (∃ d, owns (c : Thread nD τ) (st0_16 t) fullShare d)
    ∗ (∃ d, owns (c : Thread nD τ) (st0_17 t) fullShare d)
    ∗ (∃ d, owns (c : Thread nD τ) (st0_18 t) fullShare d)
    ∗ (∃ d, owns (c : Thread nD τ) (st0_19 t) fullShare d)
    ∗ owns (c : Thread nD τ) (st0_20 t) fullShare ((dats m 0 c).after 20 t))

set_option maxHeartbeats 1000000 in
theorem sound_body (c : Dev nD) (t : Fin cfg0.N) :
    bodyPre m c t ⊢ wp frame (wpE (defs₀ (F := F)) Variants.none (c : Thread nD τ) none) Set.univ (bodyAt0 t) (fun _ => bodyPost m c t) := by
  unfold bodyPre bodyPost bodyAt0
  simp only [before_0, before_1, before_2, before_3, before_4, before_5, before_6, before_7, before_8, before_9, before_10, before_11, before_12, before_13]
  rw [show (dats m 0 c).Φ t.succ = (dats m 0 c).Φ t.castSucc from rfl,
    show (dats m 0 c).owesAt () t.succ = (dats m 0 c).owesAt () t.castSucc from rfl, after_0, after_1, after_2, after_3, after_4, after_5, after_6, after_7, after_8, after_9, after_10, after_11, after_12, after_13, after_14, after_20,
    show (dats m 0 c).Φ t.castSucc = Pipeline.ΦA spec0 c from rfl]
  unfold Pipeline.ΦA shAt h1At
  rw [scopedRest0_eq]
  generalize iblk m c 0 t = X0
  generalize iblk m c 1 t = X1
  generalize iblk m c 2 t = X2
  generalize iblk m c 3 t = X3
  generalize iblk m c 4 t = X4
  generalize iblk m c 5 t = X5
  generalize iblk m c 6 t = X6
  generalize iblk m c 7 t = X7
  generalize iblk m c 8 t = X8
  generalize iblk m c 9 t = X9
  generalize iblk m c 10 t = X10
  generalize iblk m c 11 t = X11
  generalize iblk m c 12 t = X12
  generalize iblk m c 13 t = X13
  iintro ⟨⟨⟨%g22, H22⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  have hb := body (F := F) c (grid0.coords t)
    (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (win0_3.stage (cfg0.slots t 3)) (hstage0_3 ((cfg0.slots t 3).cast nbuf0_3))
    (win0_4.stage (cfg0.slots t 4)) (hstage0_4 ((cfg0.slots t 4).cast nbuf0_4))
    (win0_5.stage (cfg0.slots t 5)) (hstage0_5 ((cfg0.slots t 5).cast nbuf0_5))
    (win0_6.stage (cfg0.slots t 6)) (hstage0_6 ((cfg0.slots t 6).cast nbuf0_6))
    (win0_7.stage (cfg0.slots t 7)) (hstage0_7 ((cfg0.slots t 7).cast nbuf0_7))
    (win0_8.stage (cfg0.slots t 8)) (hstage0_8 ((cfg0.slots t 8).cast nbuf0_8))
    (win0_9.stage (cfg0.slots t 9)) (hstage0_9 ((cfg0.slots t 9).cast nbuf0_9))
    (win0_10.stage (cfg0.slots t 10)) (hstage0_10 ((cfg0.slots t 10).cast nbuf0_10))
    (win0_11.stage (cfg0.slots t 11)) (hstage0_11 ((cfg0.slots t 11).cast nbuf0_11))
    (win0_12.stage (cfg0.slots t 12)) (hstage0_12 ((cfg0.slots t 12).cast nbuf0_12))
    (win0_13.stage (cfg0.slots t 13)) (hstage0_13 ((cfg0.slots t 13).cast nbuf0_13))
    (win0_14.stage (cfg0.slots t 14)) (hstage0_14 ((cfg0.slots t 14).cast nbuf0_14))
    (win0_15.stage (cfg0.slots t 15)) (hstage0_15 ((cfg0.slots t 15).cast nbuf0_15))
    (win0_16.stage (cfg0.slots t 16)) (hstage0_16 ((cfg0.slots t 16).cast nbuf0_16))
    (win0_17.stage (cfg0.slots t 17)) (hstage0_17 ((cfg0.slots t 17).cast nbuf0_17))
    (win0_18.stage (cfg0.slots t 18)) (hstage0_18 ((cfg0.slots t 18).cast nbuf0_18))
    (win0_19.stage (cfg0.slots t 19)) (hstage0_19 ((cfg0.slots t 19).cast nbuf0_19))
    (win0_20.stage (cfg0.slots t 20)) (hstage0_20 ((cfg0.slots t 20).cast nbuf0_20))
    (Memref.whole cc0_scratch0) (Memref.isWhole_whole _)
    X0 X1 X2 X3 X4 X5 X6 X7 X8 X9 X10 X11 X12 X13
  unfold ins rest at hb
  iapply hb
  isplitl [H0 H1 H2 H3 H4 H5 H6 H7 H8 H9 H10 H11 H12 H13]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  isplitl [H14]; · iexists _; iexact H14
  isplitl [H20]; · iexists _; iexact H20
  isplitl [H15 H16 H17 H18 H19 H22]
  · isplitl [H15]; · iexists d15; iexact H15
    isplitl [H16]; · iexists d16; iexact H16
    isplitl [H17]; · iexists d17; iexact H17
    isplitl [H18]; · iexists d18; iexact H18
    isplitl [H19]; · iexists d19; iexact H19
    unfold owns; iexists _, g22; isplitr; (swap; · iapply (Entails.of_eq (whole_pts c cc0_scratch0 g22).symm); iexact H22); ipureintro; rfl
  iintro ⟨⟨H0, H1, H2, H3, H4, H5, H6, H7, H8, H9, H10, H11, H12, H13⟩, H14, H20, H15, H16, H17, H18, H19, ⟨%d22, H22⟩⟩
  isplitl [Hr H22]
  · isplitr [Hr]; swap; · iexact Hr
    unfold owns
    icases H22 with ⟨%o22, -, H22⟩
    iexists o22; iapply (Entails.of_eq (whole_pts c cc0_scratch0 o22)); iexact H22
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iexact H20

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets := fun t => by
  rw [bigSep_W0, bigSep_W0, defs₀_row]
  exact triple_restated (sound_body m c t) rfl .rfl fun _ => .rfl

set_option backward.isDefEq.respectTransparency.types false in
set_option maxHeartbeats 4000000 in
/-- Every named array of the launch ends at what the library computes from the data, every other buffer as the region found it, every counter at zero. -/
theorem run_q : θ_run defs (onTc (τ := τ) (main (F := F))) (s₀ m ρ)
    (fun r => Pipeline.RDat.FramePost (cfgs 0) (fun c => (dats m 0 c).toRForget forgets) (V m) r ∧ r.2.sem = fun _ => 0) :=
  Pipeline.θ_run_frame_forget cfgs (dats m) 0 launch0 defs₀ Variants.none forgets m ρ main
    (hbody := fun c => (body_obligation m c).loose) (hshare := fun c => (dats m 0 c).share_full fun _ => rfl)
    (howed := fun _ _ => rfl) (V := V m) (hmain := hmain m Variants.none) (hA := A_eq m) (hΦ := fun _ _ => rfl)
    (Q' := _) (hQ' := fun _ h => h)

end Cert.Kernel2Ideal.Post
-- ==== Proof.PostRows.lean ====
module

public import proofs.«01_k».proof.Proof.PostBody
public import proofs.«01_k».proof.Proof.Gen.Reference2Ideal.Run
public import Idealize.ShloMosaic.Lib.Pointwise
public import Idealize.ShloMosaic.PureOps.Reduce

/-! # One row of the merge: gates, merged heads, normalised hidden row, shared expert — of the kernel's block and of the reference -/

@[expose] public section

set_option maxRecDepth 16384

noncomputable section

namespace Cert.Merge

open Idealize.ShloMosaic

/-- The logistic function as both programs spell it. -/
def sig (v : EReal) : EReal := Ideal.div 1 (1 + Ideal.exp (-v))

/-- A row of the two gated projections' sum: `x` the hidden row, `om`, `os` the two heads' rows. -/
def merged (x : Fin 1024 → EReal) (om os : Fin 512 → EReal) (wm ws : Fin 512 → Fin 1024 → EReal) (wg : Fin 1024 → Fin 2048 → EReal)
    (j : Fin 1024) : EReal :=
  sig (∑ k, x k * wg k ⟨j.val, by omega⟩) * (∑ k, om k * wm k j) + sig (∑ k, x k * wg k ⟨1024 + j.val, by omega⟩) * (∑ k, os k * ws k j)

/-- A row before its normalisation. -/
def resid (x u : Fin 1024 → EReal) (wo : Fin 1024 → Fin 1024 → EReal) (j : Fin 1024) : EReal :=
  Ideal.ofBits .f32 0x3F9837F0#32 * x j + ∑ k, u k * wo k j

def mean (u : Fin 1024 → EReal) : EReal := Ideal.div (∑ j, u j) (Ideal.ofBits .f32 0x44800000#32)

/-- A row normalised, scaled and shifted. -/
def norm (u g b : Fin 1024 → EReal) (j : Fin 1024) : EReal :=
  (u j - mean u) * Ideal.rsqrt (mean (fun i => (u i - mean u) * (u i - mean u)) + Ideal.ofBits .f32 0x3727C5AC#32) * g j + b j

/-- A row of the shared expert. -/
def shared (h : Fin 1024 → EReal) (wu : Fin 1024 → Fin 512 → EReal) (wd : Fin 256 → Fin 1024 → EReal) (j : Fin 1024) : EReal :=
  ∑ k : Fin 256, (∑ i, h i * wu i ⟨k.val, by omega⟩) * sig (∑ i, h i * wu i ⟨k.val, by omega⟩) * (∑ i, h i * wu i ⟨256 + k.val, by omega⟩) * wd k j

end Cert.Merge

namespace Cert.Kernel2Ideal.Post

open Idealize.ShloMosaic Idealize.ShloMosaic.TcCoe
open Cert.Kernel2Ideal.Gen

section
variable (x : FVec Ideal S512x1024 .f32) (om os : FVec Ideal S512x512 .bf16) (wm ws : FVec Ideal S512x1024 .bf16) (wg : FVec Ideal S1024x2048 .bf16)
  (wo : FVec Ideal S1024x1024 .bf16) (g b : FVec Ideal S1x1024 .f32) (wu : FVec Ideal S1024x512 .bf16) (wd : FVec Ideal S256x1024 .bf16)
  (r : Fin 512) (j : Fin 1024)

/-- The block of gated projections. -/
def kM : FVec Ideal S512x1024 .f32 := addf (k0_pay7 x om wm wg) (mulf (divf k0_pay9 (k0_pay8 x wg)) (k0_pay5 os ws))

/-- The block before its normalisation. -/
def kZ (u : FVec Ideal S512x1024 .f32) : FVec Ideal S512x1024 .f32 :=
  addf (mulf (broadcast S512x1024 (Scalar.ofBits .f32 0x3F9837F0#32)) (k0_pay4 x))
    (matmul dot_S512x1024_S1024x1024_S512x1024_1_0_0_1_n_n none (truncf .bf16 u bitsLt_bf16_f32)
      (shapeCast S1024x1024 wo shapeCasts_S1024x1024_S1024x1024) (constant S512x1024 .f32 0x00000000#32))

/-- A block's row means. -/
def kMean (z : FVec Ideal S512x1024 .f32) : FVec Ideal S512x1 .f32 :=
  divf (shapeCast S512x1 (multiReduction .add [1] S512 z 0x00000000#32 reduces_S512x1024_S512 (.inl rfl) rfl) shapeCasts_S512_S512x1)
    (broadcast S512x1 (Scalar.ofBits .f32 0x44800000#32))

def kC (z : FVec Ideal S512x1024 .f32) (e : FVec Ideal S512x1 .f32) : FVec Ideal S512x1024 .f32 :=
  subf z (broadcastTo S512x1024 e broadcasts_S512x1_S512x1024)

def kN (z : FVec Ideal S512x1024 .f32) (e : FVec Ideal S512x1 .f32) : FVec Ideal S512x1024 .f32 :=
  addf (mulf (mulf z
      (broadcastTo S512x1024 (rsqrt (addf e (broadcast S512x1 (Scalar.ofBits .f32 0x3727C5AC#32)))) broadcasts_S512x1_S512x1024))
      (broadcastTo S512x1024 (shapeCast S1x1024 g shapeCasts_S1x1024_S1x1024) broadcasts_S1x1024_S512x1024))
    (broadcastTo S512x1024 (shapeCast S1x1024 b shapeCasts_S1x1024_S1x1024) broadcasts_S1x1024_S512x1024)

theorem h1Blk_eq : h1Blk (F := Ideal) x om os wm ws wg wo g b =
    let z := kZ x wo (kM x om os wm ws wg)
    let d := kC z (kMean z)
    kN g b d (kMean (mulf d d)) := rfl

theorem kM_apply : kM x om os wm ws wg (ix2 r j) =
    Merge.merged (fun k => x (ix2 r k)) (fun k => om (ix2 r k)) (fun k => os (ix2 r k)) (fun k j => wm (ix2 k j)) (fun k j => ws (ix2 k j))
      (fun k j => wg (ix2 k j)) j := by
  unfold Merge.merged Merge.sig
  pointwise [kM, k0_pay7, k0_pay9, k0_pay8, k0_pay5, k0_pay6, k0_pay4]
  simp only [zero_sub]

theorem kZ_apply (u : FVec Ideal S512x1024 .f32) : kZ x wo u (ix2 r j) =
    Merge.resid (fun k => x (ix2 r k)) (fun k => u (ix2 r k)) (fun k j => wo (ix2 k j)) j := by
  unfold Merge.resid
  pointwise [kZ, k0_pay4]

theorem kMean_apply (z : FVec Ideal S512x1024 .f32) (i : Fin 1) : kMean z (ix2 r i) = Merge.mean (fun k => z (ix2 r k)) := by
  unfold Merge.mean
  pointwise [kMean]

theorem kC_apply (z : FVec Ideal S512x1024 .f32) (e : FVec Ideal S512x1 .f32) : kC z e (ix2 r j) = z (ix2 r j) - e (ix2 r 0) := by
  pointwise [kC]

theorem kN_apply (z : FVec Ideal S512x1024 .f32) (e : FVec Ideal S512x1 .f32) : kN g b z e (ix2 r j) =
    z (ix2 r j) * Ideal.rsqrt (e (ix2 r 0) + Ideal.ofBits .f32 0x3727C5AC#32) * g (ix2 0 j) + b (ix2 0 j) := by
  pointwise [kN]

theorem sq_apply (z : FVec Ideal S512x1024 .f32) : mulf z z (ix2 r j) = z (ix2 r j) * z (ix2 r j) := rfl

/-- Row `r` of the block of hidden rows. -/
theorem h1Blk_apply : h1Blk (F := Ideal) x om os wm ws wg wo g b (ix2 r j) =
    Merge.norm (Merge.resid (fun k => x (ix2 r k)) (Merge.merged (fun k => x (ix2 r k)) (fun k => om (ix2 r k)) (fun k => os (ix2 r k))
      (fun k j => wm (ix2 k j)) (fun k j => ws (ix2 k j)) (fun k j => wg (ix2 k j))) (fun k j => wo (ix2 k j)))
      (fun k => g (ix2 0 k)) (fun k => b (ix2 0 k)) j := by
  rw [h1Blk_eq]
  simp only [kN_apply, kMean_apply, sq_apply, kC_apply, kZ_apply, kM_apply, Merge.norm]

theorem shBlk_apply (h : FVec Ideal S512x1024 .f32) : shBlk (F := Ideal) h wu wd (ix2 r j) =
    Merge.shared (fun k => h (ix2 r k)) (fun k j => wu (ix2 k j)) (fun k j => wd (ix2 k j)) j := by
  unfold Merge.shared Merge.sig
  pointwise [shBlk, k0_pay20, k0_pay18, k0_pay19, k0_pay17]
  simp only [zero_sub]
end

end Cert.Kernel2Ideal.Post

namespace Cert.Reference2Ideal.Post

open Idealize.ShloMosaic Idealize.ShloMosaic.TcCoe
open Cert.Reference2Ideal.Gen Cert.Reference2Ideal.Value

section
variable (x : FVec Ideal S16x2048x1024 .f32) (om os : FVec Ideal S32768x512 .f32) (wi : FVec Ideal S1024x3360 .f32)
  (wm ws : FVec Ideal S512x1024 .f32) (wo : FVec Ideal S1024x1024 .f32) (g b : FVec Ideal S1024 .f32)
  (wu : FVec Ideal S1024x512 .f32) (wd : FVec Ideal S256x1024 .f32) (r : Fin 32768) (j : Fin 1024)

/-- The hidden rows in one axis. -/
def flat : FVec Ideal S32768x1024 .f32 := shapeCast _ x shapeCasts_S16x2048x1024_S32768x1024

def gates : FVec Ideal S32768x2048 .f32 :=
  Host.dotGeneral dot_S32768x1024_S1024x2048_S32768x2048_1_0_0_1_n_n none (flat x) (extractStridedSlice S1024x2048 ![0, 1312] wi slices_S1024x3360_S1024x2048_0_1312)

def gate (u : FVec Ideal S32768x1024 .f32) : FVec Ideal S32768x1024 .f32 :=
  Host.divf (broadcastInDim S32768x1024 ![] bcast_S_S32768x1024 (constant S_ .f32 0x3F800000#32))
    (addf (broadcastInDim S32768x1024 ![] bcast_S_S32768x1024 (constant S_ .f32 0x3F800000#32)) (Host.exp (Host.negf u)))

/-- The gated projections. -/
def rM (q : FVec Ideal S32768x2048 .f32) : FVec Ideal S32768x1024 .f32 :=
  addf (mulf (gate (extractStridedSlice S32768x1024 ![0, 0] q slices_S32768x2048_S32768x1024_0_0))
      (Host.dotGeneral dot_S32768x512_S512x1024_S32768x1024_1_0_0_1_n_n none om wm))
    (mulf (gate (extractStridedSlice S32768x1024 ![0, 1024] q slices_S32768x2048_S32768x1024_0_1024))
      (Host.dotGeneral dot_S32768x512_S512x1024_S32768x1024_1_0_0_1_n_n none os ws))

def rZ (u : FVec Ideal S32768x1024 .f32) : FVec Ideal S32768x1024 .f32 :=
  addf (mulf (broadcastInDim S32768x1024 ![] bcast_S_S32768x1024 (constant S_ .f32 0x3F9837F0#32)) (flat x))
    (Host.dotGeneral dot_S32768x1024_S1024x1024_S32768x1024_1_0_0_1_n_n none u wo)

def rMean (z : FVec Ideal S32768x1024 .f32) : FVec Ideal S32768x1 .f32 :=
  Host.divf (broadcastInDim S32768x1 ![0] bcast_S32768_S32768x1_0
      (Host.reduceAdd z (constant S_ .f32 0x00000000#32) reducesTo_S32768x1024_S32768_d1 h_S_))
    (broadcastInDim S32768x1 ![] bcast_S_S32768x1 (constant S_ .f32 0x44800000#32))

def rC (z : FVec Ideal S32768x1024 .f32) (e : FVec Ideal S32768x1 .f32) : FVec Ideal S32768x1024 .f32 :=
  subf z (broadcastInDim S32768x1024 ![0, 1] bcast_S32768x1_S32768x1024_0_1 e)

def rN (z : FVec Ideal S32768x1024 .f32) (e : FVec Ideal S32768x1 .f32) : FVec Ideal S32768x1024 .f32 :=
  addf (mulf (mulf z (broadcastInDim S32768x1024 ![0, 1] bcast_S32768x1_S32768x1024_0_1
      (Host.rsqrt (addf e (broadcastInDim S32768x1 ![] bcast_S_S32768x1 (constant S_ .f32 0x3727C5AC#32))))))
      (broadcastInDim S32768x1024 ![0, 1] bcast_S1x1024_S32768x1024_0_1 (broadcastInDim S1x1024 ![1] bcast_S1024_S1x1024_1 g)))
    (broadcastInDim S32768x1024 ![0, 1] bcast_S1x1024_S32768x1024_0_1 (broadcastInDim S1x1024 ![1] bcast_S1024_S1x1024_1 b))

/-- The normalised hidden rows. -/
def h1 : FVec Ideal S32768x1024 .f32 :=
  let z := rZ x wo (rM om os wm ws (gates x wi))
  let d := rC z (rMean z)
  rN g b d (rMean (mulf d d))

def up (h : FVec Ideal S32768x1024 .f32) : FVec Ideal S32768x512 .f32 :=
  Host.dotGeneral dot_S32768x1024_S1024x512_S32768x512_1_0_0_1_n_n none h wu

def act (u : FVec Ideal S32768x256 .f32) : FVec Ideal S32768x256 .f32 :=
  mulf u (Host.divf (broadcastInDim S32768x256 ![] bcast_S_S32768x256 (constant S_ .f32 0x3F800000#32))
    (addf (broadcastInDim S32768x256 ![] bcast_S_S32768x256 (constant S_ .f32 0x3F800000#32)) (Host.exp (Host.negf u))))

/-- The shared expert's rows from the products with its first matrix. -/
def down (u : FVec Ideal S32768x512 .f32) : FVec Ideal S32768x1024 .bf16 :=
  truncf .bf16 (Host.dotGeneral dot_S32768x256_S256x1024_S32768x1024_1_0_0_1_n_n none
    (mulf (act (extractStridedSlice S32768x256 ![0, 0] u slices_S32768x512_S32768x256_0_0))
      (extractStridedSlice S32768x256 ![0, 256] u slices_S32768x512_S32768x256_0_256)) wd) bitsLt_bf16_f32

theorem flat_apply : flat x (ix2 r j) = x (ix3 ⟨r.val / 2048, by omega⟩ ⟨r.val % 2048, by omega⟩ j) := by
  pointwise [flat]

theorem gates_apply (l : Fin 2048) : gates x wi (ix2 r l) = ∑ k : Fin 1024, flat x (ix2 r k) * wi (ix2 k ⟨1312 + l.val, by omega⟩) := by
  unfold gates
  generalize flat x = y
  pointwise

theorem rM_apply (q : FVec Ideal S32768x2048 .f32) : rM om os wm ws q (ix2 r j) =
    Merge.sig (q (ix2 r ⟨j.val, by omega⟩)) * (∑ k : Fin 512, om (ix2 r k) * wm (ix2 k j))
      + Merge.sig (q (ix2 r ⟨1024 + j.val, by omega⟩)) * (∑ k : Fin 512, os (ix2 r k) * ws (ix2 k j)) := by
  unfold Merge.sig
  pointwise [rM, gate]

theorem rZ_apply (u : FVec Ideal S32768x1024 .f32) : rZ x wo u (ix2 r j) =
    Merge.resid (fun k => flat x (ix2 r k)) (fun k => u (ix2 r k)) (fun k j => wo (ix2 k j)) j := by
  unfold Merge.resid rZ
  generalize flat x = y
  pointwise

theorem rMean_apply (z : FVec Ideal S32768x1024 .f32) (i : Fin 1) : rMean z (ix2 r i) = Merge.mean (fun k => z (ix2 r k)) := by
  unfold Merge.mean
  pointwise [rMean]

theorem rC_apply (z : FVec Ideal S32768x1024 .f32) (e : FVec Ideal S32768x1 .f32) : rC z e (ix2 r j) = z (ix2 r j) - e (ix2 r 0) := by
  pointwise [rC]

theorem rN_apply (z : FVec Ideal S32768x1024 .f32) (e : FVec Ideal S32768x1 .f32) : rN g b z e (ix2 r j) =
    z (ix2 r j) * Ideal.rsqrt (e (ix2 r 0) + Ideal.ofBits .f32 0x3727C5AC#32) * g (ix1 j) + b (ix1 j) := by
  pointwise [rN]

theorem sq_apply (z : FVec Ideal S32768x1024 .f32) : mulf z z (ix2 r j) = z (ix2 r j) * z (ix2 r j) := rfl

/-- Row `r` of the reference's hidden rows. -/
theorem h1_apply : h1 x om os wi wm ws wo g b (ix2 r j) =
    Merge.norm (Merge.resid (fun k => flat x (ix2 r k)) (Merge.merged (fun k => flat x (ix2 r k)) (fun k => om (ix2 r k)) (fun k => os (ix2 r k))
      (fun k j => wm (ix2 k j)) (fun k j => ws (ix2 k j)) (fun k l => wi (ix2 k ⟨1312 + l.val, by omega⟩))) (fun k j => wo (ix2 k j)))
      (fun k => g (ix1 k)) (fun k => b (ix1 k)) j := by
  unfold h1
  simp only [rN_apply, rMean_apply, sq_apply, rC_apply, rZ_apply, rM_apply, gates_apply, Merge.norm]
  rfl

theorem up_apply (h : FVec Ideal S32768x1024 .f32) (l : Fin 512) : up wu h (ix2 r l) = ∑ k : Fin 1024, h (ix2 r k) * wu (ix2 k l) := by
  pointwise [up]

theorem down_apply (h : FVec Ideal S32768x1024 .f32) : down wd (up wu h) (ix2 r j) =
    Merge.shared (fun k => h (ix2 r k)) (fun k j => wu (ix2 k j)) (fun k j => wd (ix2 k j)) j := by
  unfold Merge.shared Merge.sig
  simp only [← up_apply wu r h]
  generalize up wu h = u
  pointwise [down, act]
end

theorem res_h1 (m : (ℓ : Loc nD τ sig) → Buf (Elt Ideal) ℓ) (c : Dev nD) :
    (res_main_v49 m c : FVec Ideal S32768x1024 .f32) = h1 (m (c.tc.loc main_arg0)) (m (c.tc.loc main_arg1)) (m (c.tc.loc main_arg2))
      (m (c.tc.loc main_arg3)) (m (c.tc.loc main_arg4)) (m (c.tc.loc main_arg5)) (m (c.tc.loc main_arg6)) (m (c.tc.loc main_arg7))
      (m (c.tc.loc main_arg8)) := rfl

theorem res_sh (m : (ℓ : Loc nD τ sig) → Buf (Elt Ideal) ℓ) (c : Dev nD) :
    (res_main_v56 m c : FVec Ideal S32768x1024 .bf16) = down (m (c.tc.loc main_arg12)) (up (m (c.tc.loc main_arg11))
      (h1 (m (c.tc.loc main_arg0)) (m (c.tc.loc main_arg1)) (m (c.tc.loc main_arg2))
      (m (c.tc.loc main_arg3)) (m (c.tc.loc main_arg4)) (m (c.tc.loc main_arg5)) (m (c.tc.loc main_arg6)) (m (c.tc.loc main_arg7))
      (m (c.tc.loc main_arg8)))) := rfl

end Cert.Reference2Ideal.Post
-- ==== Proof.PostValue.lean ====
module

public import proofs.«01_k».proof.Defs
public import proofs.«01_k».proof.Proof.PostRun
public import proofs.«01_k».proof.Proof.PostRows
public import Idealize.ShloMosaic.Lib.Pipeline.ValueKit
public import Idealize.ShloMosaic.Lib.StableHlo.ReadAt

/-! # The staged blocks, read at an index of the arguments, and the two arrays that the merge launch leaves -/

@[expose] public section

set_option maxRecDepth 16384

noncomputable section

namespace Cert.Kernel2Ideal.Post

open Idealize.ShloMosaic Idealize.ShloMosaic.TcCoe Idealize.SL.Sem
open Cert.Kernel2Ideal.Gen

variable (m : (ℓ : Loc nD τ sig) → Buf (Elt Ideal) ℓ) (c : Dev nD)

abbrev A0 : FVec Ideal S16x2048x1024 .f32 := m ((c : Thread nD τ).loc main_arg0)
abbrev A1 : FVec Ideal S32768x512 .f32 := m ((c : Thread nD τ).loc main_arg1)
abbrev A2 : FVec Ideal S32768x512 .f32 := m ((c : Thread nD τ).loc main_arg2)
abbrev A3 : FVec Ideal S1024x3360 .f32 := m ((c : Thread nD τ).loc main_arg3)
abbrev A4 : FVec Ideal S512x1024 .f32 := m ((c : Thread nD τ).loc main_arg4)
abbrev A5 : FVec Ideal S512x1024 .f32 := m ((c : Thread nD τ).loc main_arg5)
abbrev A6 : FVec Ideal S1024x1024 .f32 := m ((c : Thread nD τ).loc main_arg6)
abbrev A7 : FVec Ideal S1024 .f32 := m ((c : Thread nD τ).loc main_arg7)
abbrev A8 : FVec Ideal S1024 .f32 := m ((c : Thread nD τ).loc main_arg8)
abbrev A11 : FVec Ideal S1024x512 .f32 := m ((c : Thread nD τ).loc main_arg11)
abbrev A12 : FVec Ideal S256x1024 .f32 := m ((c : Thread nD τ).loc main_arg12)

theorem V7 (R : Fin 32768) (L : Fin 1024) : V m c main_v7 (ix2 R L : S32768x1024.Idx) = A0 m c (ix3 ⟨R.val / 2048, by omega⟩ ⟨R.val % 2048, by omega⟩ L) := by
  unfold V
  after_reads_at
theorem V8 (R : Fin 32768) (L : Fin 512) : V m c main_v8 (ix2 R L : S32768x512.Idx) = A1 m c (ix2 R L) := by
  unfold V
  after_reads_at
theorem V9 (R : Fin 32768) (L : Fin 512) : V m c main_v9 (ix2 R L : S32768x512.Idx) = A2 m c (ix2 R L) := by
  unfold V
  after_reads_at
theorem V10 (R : Fin 512) (L : Fin 1024) : V m c main_v10 (ix2 R L : S512x1024.Idx) = A4 m c (ix2 R L) := by
  unfold V
  after_reads_at
theorem V11 (R : Fin 512) (L : Fin 1024) : V m c main_v11 (ix2 R L : S512x1024.Idx) = A5 m c (ix2 R L) := by
  unfold V
  after_reads_at
theorem V1 (R : Fin 1024) (L : Fin 2048) : V m c main_v1 (ix2 R L : S1024x2048.Idx) = A3 m c (ix2 R ⟨1312 + L.val, by omega⟩) := by
  unfold V
  after_reads_at
theorem V12 (R : Fin 1024) (L : Fin 1024) : V m c main_v12 (ix2 R L : S1024x1024.Idx) = A6 m c (ix2 R L) := by
  unfold V
  after_reads_at
theorem V13 (R : Fin 1) (L : Fin 1024) : V m c main_v13 (ix2 R L : S1x1024.Idx) = A7 m c (ix1 L) := by
  unfold V
  after_reads_at
theorem V14 (R : Fin 1) (L : Fin 1024) : V m c main_v14 (ix2 R L : S1x1024.Idx) = A8 m c (ix1 L) := by
  unfold V
  after_reads_at
theorem V18 (R : Fin 1024) (L : Fin 512) : V m c main_v18 (ix2 R L : S1024x512.Idx) = A11 m c (ix2 R L) := by
  unfold V
  after_reads_at
theorem V19 (R : Fin 256) (L : Fin 1024) : V m c main_v19 (ix2 R L : S256x1024.Idx) = A12 m c (ix2 R L) := by
  unfold V
  after_reads_at

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx14 : ∀ t : Fin cfg0.N, win0_14.index t = ![t.val, 0] := (by decide +kernel : ∀ t : Fin grid0.N, _)
theorem idx20 : ∀ t : Fin cfg0.N, win0_20.index t = ![t.val, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)
theorem idx12 : ∀ t : Fin cfg0.N, win0_12.index t = ![0, 0] := (by decide +kernel : ∀ t : Fin grid0.N, _)
theorem idx13 : ∀ t : Fin cfg0.N, win0_13.index t = ![0, 0] := (by decide +kernel : ∀ t : Fin grid0.N, _)

theorem lt64 (t : Fin cfg0.N) : t.val < 64 := t.isLt

/-- Row `r` of point `t`'s block. -/
abbrev row (t : Fin cfg0.N) (r : Fin 512) : Fin 32768 := ⟨512 * t.val + r.val, by have := lt64 t; omega⟩

theorem i0 (t : Fin cfg0.N) (r : Fin 512) (L : Fin 1024) : iblk m c 0 t (ix2 r L : S512x1024.Idx) = A0 m c (ix3 ⟨(row t r).val / 2048, by omega⟩ ⟨(row t r).val % 2048, by omega⟩ L) := by
  refine Eq.trans ?_ (V7 m c (row t r) L)
  blk_ext [iblk, idx0 t]
theorem i1 (t : Fin cfg0.N) (r : Fin 512) (L : Fin 512) : iblk m c 1 t (ix2 r L : S512x512.Idx) = A1 m c (ix2 (row t r) L) := by
  refine Eq.trans ?_ (V8 m c (row t r) L)
  blk_ext [iblk, idx1 t]
theorem i2 (t : Fin cfg0.N) (r : Fin 512) (L : Fin 512) : iblk m c 2 t (ix2 r L : S512x512.Idx) = A2 m c (ix2 (row t r) L) := by
  refine Eq.trans ?_ (V9 m c (row t r) L)
  blk_ext [iblk, idx2 t]
theorem i3 (t : Fin cfg0.N) (r : Fin 512) (L : Fin 1024) : iblk m c 3 t (ix2 r L : S512x1024.Idx) = A4 m c (ix2 r L) := by
  refine Eq.trans ?_ (V10 m c r L)
  blk_ext [iblk, idx3 t]
theorem i4 (t : Fin cfg0.N) (r : Fin 512) (L : Fin 1024) : iblk m c 4 t (ix2 r L : S512x1024.Idx) = A5 m c (ix2 r L) := by
  refine Eq.trans ?_ (V11 m c r L)
  blk_ext [iblk, idx4 t]
theorem i5 (t : Fin cfg0.N) (r : Fin 1024) (L : Fin 2048) : iblk m c 5 t (ix2 r L : S1024x2048.Idx) = A3 m c (ix2 r ⟨1312 + L.val, by omega⟩) := by
  refine Eq.trans ?_ (V1 m c r L)
  blk_ext [iblk, idx5 t]
theorem i6 (t : Fin cfg0.N) (r : Fin 1024) (L : Fin 1024) : iblk m c 6 t (ix2 r L : S1024x1024.Idx) = A6 m c (ix2 r L) := by
  refine Eq.trans ?_ (V12 m c r L)
  blk_ext [iblk, idx6 t]
theorem i7 (t : Fin cfg0.N) (r : Fin 1) (L : Fin 1024) : iblk m c 7 t (ix2 r L : S1x1024.Idx) = A7 m c (ix1 L) := by
  refine Eq.trans ?_ (V13 m c r L)
  blk_ext [iblk, idx7 t]
theorem i8 (t : Fin cfg0.N) (r : Fin 1) (L : Fin 1024) : iblk m c 8 t (ix2 r L : S1x1024.Idx) = A8 m c (ix1 L) := by
  refine Eq.trans ?_ (V14 m c r L)
  blk_ext [iblk, idx8 t]
theorem i12 (t : Fin cfg0.N) (r : Fin 1024) (L : Fin 512) : iblk m c 12 t (ix2 r L : S1024x512.Idx) = A11 m c (ix2 r L) := by
  refine Eq.trans ?_ (V18 m c r L)
  blk_ext [iblk, idx12 t]
theorem i13 (t : Fin cfg0.N) (r : Fin 256) (L : Fin 1024) : iblk m c 13 t (ix2 r L : S256x1024.Idx) = A12 m c (ix2 r L) := by
  refine Eq.trans ?_ (V19 m c r L)
  blk_ext [iblk, idx13 t]

/-- The reference's two results, of the kernel's arguments. -/
def want1 : FVec Ideal S32768x1024 .f32 :=
  Reference2Ideal.Post.h1 (A0 m c) (A1 m c) (A2 m c) (A3 m c) (A4 m c) (A5 m c) (A6 m c) (A7 m c) (A8 m c)
def want2 : FVec Ideal S32768x1024 .bf16 :=
  Reference2Ideal.Post.down (A12 m c) (Reference2Ideal.Post.up (A11 m c) (want1 m c))

theorem h1At_apply (t : Fin cfg0.N) (r : Fin 512) (j : Fin 1024) : h1At m c t (ix2 r j) = want1 m c (ix2 (row t r) j) := by
  unfold h1At want1
  refine (h1Blk_apply ..).trans (Eq.trans ?_ (Reference2Ideal.Post.h1_apply ..).symm)
  simp only [i0, i1, i2, i3, i4, i5, i6, i7, i8, Reference2Ideal.Post.flat_apply]

theorem shAt_apply (t : Fin cfg0.N) (r : Fin 512) (j : Fin 1024) : shAt m c t (ix2 r j) = want2 m c (ix2 (row t r) j) := by
  unfold shAt want2
  refine (shBlk_apply ..).trans (Eq.trans ?_ (Reference2Ideal.Post.down_apply ..).symm)
  simp only [h1At_apply, i12, i13]

/-- A block entry's place in the two results. -/
theorem out14 (G : FVec Ideal S32768x1024 .f32) (t : Fin cfg0.N) (r : Fin 512) (j : Fin 1024) :
    G (((cfg0.win 14).blk t).view.emb (ix2 r j : S512x1024.Idx)) = G (ix2 (row t r) j) := by
  blk_ext [idx14 t]
theorem out20 (G : FVec Ideal S32768x1024 .bf16) (t : Fin cfg0.N) (r : Fin 512) (j : Fin 1024) :
    G (((cfg0.win 20).blk t).view.emb (ix2 r j : S512x1024.Idx)) = G (ix2 (row t r) j) := by
  blk_ext [idx20 t]

theorem pair_idx (y : S512x1024.Idx) : ∃ (r : Fin 512) (j : Fin 1024), y = (ix2 r j : S512x1024.Idx) := ⟨y 0, y 1, by
  funext a; match a with
  | ⟨0, _⟩ => rfl
  | ⟨1, _⟩ => rfl⟩

theorem array14 : (dats m 0 c).arrAt 14 cfg0.N = want1 m c := by
  refine (dats m 0 c).arrAt_eq_of_covers 14 _ (by decide +kernel) fun t hf y => ?_
  rw [after_14]
  obtain ⟨r, j, rfl⟩ := pair_idx y
  exact (h1At_apply m c t r j).trans (out14 (want1 m c) t r j).symm

theorem array20 : (dats m 0 c).arrAt 20 cfg0.N = want2 m c := by
  refine (dats m 0 c).arrAt_eq_of_covers 20 _ (by decide +kernel) fun t hf y => ?_
  rw [after_20]
  obtain ⟨r, j, rfl⟩ := pair_idx y
  exact (shAt_apply m c t r j).trans (out20 (want2 m c) t r j).symm

end Cert.Kernel2Ideal.Post
-- ==== Proof.PostFinal.lean ====
module

public import proofs.«01_k».proof.Defs
public import proofs.«01_k».proof.Proof.PostBitsRun
public import proofs.«01_k».proof.Proof.PostValue
public import proofs.«01_k».proof.Proof.Gen.Kernel2
public import Idealize.ShloMosaic.Lib.Bf16PairInverse

/-! # The merge call's claims: its frames, the rewritten operations, and the equation with the reference -/

@[expose] public section

noncomputable section

namespace Cert.Kernel2.Post

open Idealize.ShloMosaic Idealize.ShloMosaic.TcCoe Idealize.SL.Sem
open Cert.Kernel2.Gen

theorem frame : Cert.quiescent_Kernel2 := fun m ρ _ =>
  (θ_run defs _ _).mono (fun _ h => ⟨fun c => have h := h.1 c
    ⟨(h.2 main_arg0 (Pipeline.mem_restRefs_of main_arg0 (by decide) (by decide))).trans (V_main_arg0 m c),
     (h.2 main_arg1 (Pipeline.mem_restRefs_of main_arg1 (by decide) (by decide))).trans (V_main_arg1 m c),
     (h.2 main_arg2 (Pipeline.mem_restRefs_of main_arg2 (by decide) (by decide))).trans (V_main_arg2 m c),
     (h.2 main_arg3 (Pipeline.mem_restRefs_of main_arg3 (by decide) (by decide))).trans (V_main_arg3 m c),
     (h.2 main_arg4 (Pipeline.mem_restRefs_of main_arg4 (by decide) (by decide))).trans (V_main_arg4 m c),
     (h.2 main_arg5 (Pipeline.mem_restRefs_of main_arg5 (by decide) (by decide))).trans (V_main_arg5 m c),
     (h.2 main_arg6 (Pipeline.mem_restRefs_of main_arg6 (by decide) (by decide))).trans (V_main_arg6 m c),
     (h.2 main_arg7 (Pipeline.mem_restRefs_of main_arg7 (by decide) (by decide))).trans (V_main_arg7 m c),
     (h.2 main_arg8 (Pipeline.mem_restRefs_of main_arg8 (by decide) (by decide))).trans (V_main_arg8 m c),
     (h.2 main_arg9 (Pipeline.mem_restRefs_of main_arg9 (by decide) (by decide))).trans (V_main_arg9 m c),
     (h.2 main_arg10 (Pipeline.mem_restRefs_of main_arg10 (by decide) (by decide))).trans (V_main_arg10 m c),
     (h.2 main_arg11 (Pipeline.mem_restRefs_of main_arg11 (by decide) (by decide))).trans (V_main_arg11 m c),
     (h.2 main_arg12 (Pipeline.mem_restRefs_of main_arg12 (by decide) (by decide))).trans (V_main_arg12 m c)⟩, h.2⟩) (run_q (F := Bits) m ρ)

end Cert.Kernel2.Post

namespace Cert.Kernel2Ideal.Post

open Idealize.ShloMosaic Idealize.ShloMosaic.TcCoe Idealize.SL.Sem
open Cert.Kernel2Ideal.Gen

/-- The run, read at its two named results, the arguments and the counters. -/
theorem quiet (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_v20_0) = want1 m c
      ∧ r.2.mem ((c.tc : Thread nD τ).loc main_v20_6) = want2 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) ∧ r.2.sem = fun _ => 0) :=
  (θ_run defs _ _).mono (fun _ h => ⟨fun c => have h := h.1 c
    ⟨(((dats m 0 c).toRForget_arrAt_iff (fgt := forgets) (w := 14) rfl _ _).1 (h.1 14)).trans (array14 m c),
     (((dats m 0 c).toRForget_arrAt_iff (fgt := forgets) (w := 20) rfl _ _).1 (h.1 20)).trans (array20 m c),
     (h.2 main_arg0 (Pipeline.mem_restRefs_of main_arg0 (by decide) (by decide))).trans (V_main_arg0 m c),
     (h.2 main_arg1 (Pipeline.mem_restRefs_of main_arg1 (by decide) (by decide))).trans (V_main_arg1 m c),
     (h.2 main_arg2 (Pipeline.mem_restRefs_of main_arg2 (by decide) (by decide))).trans (V_main_arg2 m c),
     (h.2 main_arg3 (Pipeline.mem_restRefs_of main_arg3 (by decide) (by decide))).trans (V_main_arg3 m c),
     (h.2 main_arg4 (Pipeline.mem_restRefs_of main_arg4 (by decide) (by decide))).trans (V_main_arg4 m c),
     (h.2 main_arg5 (Pipeline.mem_restRefs_of main_arg5 (by decide) (by decide))).trans (V_main_arg5 m c),
     (h.2 main_arg6 (Pipeline.mem_restRefs_of main_arg6 (by decide) (by decide))).trans (V_main_arg6 m c),
     (h.2 main_arg7 (Pipeline.mem_restRefs_of main_arg7 (by decide) (by decide))).trans (V_main_arg7 m c),
     (h.2 main_arg8 (Pipeline.mem_restRefs_of main_arg8 (by decide) (by decide))).trans (V_main_arg8 m c),
     (h.2 main_arg9 (Pipeline.mem_restRefs_of main_arg9 (by decide) (by decide))).trans (V_main_arg9 m c),
     (h.2 main_arg10 (Pipeline.mem_restRefs_of main_arg10 (by decide) (by decide))).trans (V_main_arg10 m c),
     (h.2 main_arg11 (Pipeline.mem_restRefs_of main_arg11 (by decide) (by decide))).trans (V_main_arg11 m c),
     (h.2 main_arg12 (Pipeline.mem_restRefs_of main_arg12 (by decide) (by decide))).trans (V_main_arg12 m c)⟩, h.2⟩) (run_q m ρ)

theorem frame : Cert.quiescent_Kernel2Ideal := fun m ρ _ =>
  (θ_run defs _ _).mono (fun _ h => ⟨fun c => (h.1 c).2.2, h.2⟩) (quiet m ρ)

theorem preserves : Cert.preserves_Kernel2_Kernel2Ideal :=
  ⟨IdealRules.bf16_pair.bufferStatement _ _, IdealRules.bf16_pair.bufferStatement _ _, IdealRules.bf16_pair.statement _ _,
    IdealRules.bf16_pack.statement _⟩

theorem algebraic : Cert.algebraic_Kernel2Ideal_Reference2Ideal := fun m g m' g' _ hagree => by
  refine ⟨fun c => want1 m c, fun c => want2 m c, ?_, ?_⟩
  · exact (θ_run defs _ _).mono (fun _ h => h.1) (quiet m g)
  · refine (θ_run Reference2Ideal.defs _ _).mono (fun _ h c => ⟨(h c).1.trans ?_, (h c).2.1.trans ?_, (h c).2.2⟩) (Reference2Ideal.Value.run m' g')
    all_goals obtain ⟨e0, e1, e2, e3, e4, e5, e6, e7, e8, _, _, e11, e12⟩ := hagree c
    · refine (Reference2Ideal.Post.res_h1 m' c).trans ?_
      rw [e0, e1, e2, e3, e4, e5, e6, e7, e8]
      rfl
    · refine (Reference2Ideal.Post.res_sh m' c).trans ?_
      rw [e0, e1, e2, e3, e4, e5, e6, e7, e8, e11, e12]
      rfl

end Cert.Kernel2Ideal.Post

namespace Cert.Reference2Ideal.Post

open Idealize.ShloMosaic Idealize.ShloMosaic.TcCoe Idealize.SL.Sem
open Cert.Reference2Ideal.Gen

/-- The reference's run, read at its arguments; it declares no semaphore. -/
theorem frame : Cert.quiescent_Reference2Ideal := fun m ρ _ =>
  (θ_run defs _ _).mono (fun r h => ⟨fun c => (h c).2.2, sem_eq_zero_of_no_sems (by decide) r.2⟩) (Cert.Reference2Ideal.Value.run m ρ)

end Cert.Reference2Ideal.Post
-- ==== Proof.ProjRows.lean ====
module

public import Idealize.ShloMosaic.PureOps.Ideal

/-! # A token's row in the projection call: angles, scales, tables, products and norms -/

@[expose] public section

noncomputable section

namespace Cert.Rows

open Idealize.ShloMosaic

/-- The angle of position `s` at frequency `i`. -/
def ang (s i : ℕ) : EReal := FloatOps.sitofp (F := Ideal) .f32 (BitVec.ofNat 32 s) * Ideal.pow (Ideal.ofBits .f32 0x461C4000#32)
  (Ideal.div (-(Ideal.ofBits .f32 0x40000000#32 * FloatOps.sitofp (F := Ideal) .f32 (BitVec.ofNat 32 i))) (Ideal.ofBits .f32 0x42000000#32))

/-- The scale that the queries of `n` lanes take, `w` the word of `n`. -/
def scale (w : BitVec 32) : EReal := Ideal.div (Ideal.div 1 (Ideal.log (Ideal.ofBits .f32 0x40000000#32))) (Ideal.sqrt (Ideal.ofBits .f32 w))

/-- A row of a table of 128 lanes: `a` on the first 64, then `f` twice on 16, then zero. -/
def tab (a : EReal) (f : ℕ → EReal) (l : ℕ) : EReal :=
  if l < 64 then a else if l - 64 < 16 then f (l - 64) else if l - 64 - 16 < 16 then f (l - 64 - 16) else 0

theorem word_zero : FloatOps.sitofp (F := Ideal) .f32 (0#32) = (0 : EReal) := by
  show (((0#32 : BitVec 32).toInt : ℝ) : EReal) = 0
  simp

/-- A row of the first product. -/
def prod (x : Fin 1024 → EReal) (w : Fin 1024 → Fin 3360 → EReal) (j : Fin 3360) : EReal := ∑ k, x k * w k j

/-- A row divided by the root of its mean square, times its weights. -/
def rms (u g : Fin 256 → EReal) (l : Fin 256) : EReal :=
  u l * Ideal.rsqrt (Ideal.div (∑ i, u i * u i) (Ideal.ofBits .f32 0x43800000#32) + Ideal.ofBits .f32 0x358637BD#32) * g l

end Cert.Rows
-- ==== Proof.ProjBlocks.lean ====
module

public import proofs.«01_k».proof.Proof.ProjRows
public import proofs.«01_k».proof.Proof.Gen.Kernel3Ideal.Frame
public import Idealize.ShloMosaic.Lib.Pipeline.ValueKit
public import Idealize.ShloMosaic.Lib.Pointwise

/-! # The projection launch's six blocks, read at an index of the blocks that enter it -/

@[expose] public section

set_option maxRecDepth 16384

noncomputable section

namespace Cert.Kernel3Ideal.Proj

open Idealize.ShloMosaic Idealize.ShloMosaic.TcCoe
open Cert.Kernel3Ideal.Gen

theorem zz : (![0, 0] : Fin 2 → ℕ) = fun _ => 0 := funext fun a => by fin_cases a <;> rfl

/-- A whole block's load, the block held at the contents that read `X`. -/
theorem rd {r C : ℕ} {e : EltTy} (a : Memref sig .tc .vmem ⟨2, ![r, C]⟩ e) (h : a.IsWhole) (X : (⟨2, ![r, C]⟩ : Shape).Idx → Elt Ideal e) (hi) :
    a.view.readAt (Elt Ideal) (Rect.unit (s := ⟨2, ![r, C]⟩) ![0, 0] ![r, C] hi).toLoadRect (h.unread X) = X := by
  show View.ld (a.view.read (Elt Ideal) (h.unread X)) (Rect.unit (s := ⟨2, ![r, C]⟩) ![0, 0] (⟨2, ![r, C]⟩ : Shape).size hi) = X
  rw [View.ld_unit_zero zz]
  exact h.read_unread X

theorem pair {a b : ℕ} (y : (⟨2, ![a, b]⟩ : Shape).Idx) : ∃ (r : Fin a) (j : Fin b), y = ix2 r j := ⟨y 0, y 1, by
  funext i; match i with
  | ⟨0, _⟩ => rfl
  | ⟨1, _⟩ => rfl⟩

theorem lane_word : ∀ L : Fin 128, IntOp.cmpi .slt (BitVec.ofNat 32 L.val) 64#32 = if L.val < 64 then 1#1 else 0#1 := by decide

theorem lane_select (L : Fin 128) (u v : EReal) : Scalar.select (IntOp.cmpi .slt (BitVec.ofNat 32 L.val) 64#32) u v = if L.val < 64 then u else v := by
  rw [lane_word]
  split
  · rfl
  · rfl

variable (m : (ℓ : Loc nD τ sig) → Buf (Elt Ideal) ℓ) (c : Dev nD) (t : Fin cfg0.N)

/-- The first product's block. -/
def kP : FVec Ideal S512x1536 .f32 := k0_pay2 (iblk m c 0 t) (iblk m c 1 t)
def kCq : FVec Ideal S512x256 .bf16 := k0_pay3 (iblk m c 0 t) (iblk m c 1 t) (iblk m c 6 t)
def kCk : FVec Ideal S512x256 .bf16 := k0_pay4 (iblk m c 0 t) (iblk m c 1 t) (iblk m c 7 t)
def kQ : FVec Ideal S512x2048 .f32 := k0_pay20 (kCq m c t) (iblk m c 3 t)
def kN : FVec Ideal S512x1024 .f32 := k0_pay21 (kCk m c t) (iblk m c 4 t)
def kR : FVec Ideal S512x128 .f32 := k0_pay19 (kP m c t) (k0_pay18 (kP m c t)) (iblk m c 10 t) (iblk m c 11 t)
def kV : FVec Ideal S512x512 .bf16 := k0_pay41 (kCk m c t) (iblk m c 5 t)
def kVs : FVec Ideal S128x512 .bf16 := k0_pay15 (k0_pay1 (iblk m c 0 t)) (iblk m c 2 t)

theorem blk12 (r : Fin 512) (J : Fin 1024) (L : Fin 128) (hL : L.val = J.val % 128) :
    (outsAt0 m c t).1 (ix2 r J) = kQ m c t (ix2 r ⟨J.val, by omega⟩) * iblk m c 8 t (ix2 r L : S512x128.Idx)
      + kQ m c t (ix2 r ⟨1024 + J.val, by omega⟩) * iblk m c 9 t (ix2 r L : S512x128.Idx) := by
  unfold outsAt0; dsimp only; unfold out0_A_12
  rw [View.read_writes_junk_eq_canon]
  unfold kernelRun0_A; dsimp only
  unfold kQ kCq
  canon_tiles x hx
  all_goals
    simp only [kernelRun0_A.sl.r, kernelRun0_A.sl.r_2, kernelRun0_A.sl.r_6, kernelRun0_A.sl.r_8, kernelRun0_A.sl.r_9, kernelRun0_A.sl.r_11, rd,
      k0_pay24, k0_pay26]
    obtain ⟨a, b, rfl⟩ := pair x
    obtain ⟨J, hJ⟩ := J
    obtain rfl : r = a := Fin.ext hx0
    obtain rfl : J = _ := hx1
    obtain rfl : L = b := Fin.ext (by dsimp only [ix2] at hL x1_lt; omega)
    generalize k0_pay20 (k0_pay3 (iblk m c 0 t) (iblk m c 1 t) (iblk m c 6 t)) (iblk m c 3 t) = Q
    generalize iblk m c 8 t = co
    generalize iblk m c 9 t = si
    pointwise [k0_pay22, k0_pay23, k0_pay28, k0_pay30, k0_pay32, k0_pay34, k0_pay35, k0_pay37, k0_pay39]
    try simp only [← Nat.add_assoc, Nat.reduceAdd]

theorem blk13 (r : Fin 512) (J : Fin 1024) (L : Fin 128) (hL : L.val = J.val % 128) :
    (outsAt0 m c t).2.1 (ix2 r J) = kN m c t (ix2 r J) + kR m c t (ix2 r L) := by
  unfold outsAt0; dsimp only; unfold out0_A_13
  rw [View.read_writes_junk_eq_canon]
  unfold kernelRun0_A; dsimp only
  unfold kN kR kCk kP
  canon_tiles x hx
  all_goals
    simp only [kernelRun0_A.sl.r_1, kernelRun0_A.sl.r_3, kernelRun0_A.sl.r_4, kernelRun0_A.sl.r_5, kernelRun0_A.sl.r_7, kernelRun0_A.sl.r_10, rd,
      k0_pay25, k0_pay27]
    obtain ⟨a, b, rfl⟩ := pair x
    obtain ⟨J, hJ⟩ := J
    obtain rfl : r = a := Fin.ext hx0
    obtain rfl : J = _ := hx1
    obtain rfl : L = b := Fin.ext (by dsimp only [ix2] at hL x1_lt; omega)
    generalize k0_pay19 (k0_pay2 (iblk m c 0 t) (iblk m c 1 t)) (k0_pay18 (k0_pay2 (iblk m c 0 t) (iblk m c 1 t))) (iblk m c 10 t) (iblk m c 11 t) = R
    generalize k0_pay21 (k0_pay4 (iblk m c 0 t) (iblk m c 1 t) (iblk m c 7 t)) (iblk m c 4 t) = N
    pointwise [k0_pay29, k0_pay31, k0_pay33, k0_pay36, k0_pay38, k0_pay40]

theorem blk15 (r : Fin 512) (J : Fin 512) : (outsAt0 m c t).2.2.2.1 (ix2 r J) = kP m c t (ix2 r ⟨512 + J.val, by omega⟩) := by
  unfold outsAt0; dsimp only; unfold out0_A_15
  rw [View.read_writes_junk_eq_canon]
  unfold kernelRun0_A; dsimp only
  unfold kP
  canon_tiles x hx
  simp only [rd, k0_pay5]
  obtain ⟨a, b, rfl⟩ := pair x
  obtain rfl : r = a := Fin.ext hx0
  obtain rfl : J = b := Fin.ext hx1
  generalize k0_pay2 (iblk m c 0 t) (iblk m c 1 t) = P
  pointwise

theorem blk16 (r : Fin 512) (J : Fin 512) (L : Fin 128) (hL : L.val = J.val % 128) :
    (outsAt0 m c t).2.2.2.2.1 (ix2 r J) =
      if J.val < 128 then (if L.val < 64 then kP m c t (ix2 r ⟨1024 + L.val, by omega⟩) else (0 : EReal))
      else if J.val < 256 then (if L.val < 64 then (0 : EReal) else kP m c t (ix2 r ⟨1152 + L.val, by omega⟩))
      else if J.val < 384 then (if L.val < 64 then kP m c t (ix2 r ⟨1152 + L.val, by omega⟩) else (0 : EReal))
      else (if L.val < 64 then (0 : EReal) else kP m c t (ix2 r ⟨1024 + L.val, by omega⟩)) := by
  unfold outsAt0; dsimp only; unfold out0_A_16
  rw [View.read_writes_junk_eq_canon]
  unfold kernelRun0_A; dsimp only
  unfold kP
  canon_tiles x hx
  all_goals
    simp only [kernelRun0_A.sl.r_1, rd]
    obtain ⟨a, b, rfl⟩ := pair x
    obtain ⟨J, hJ⟩ := J
    obtain rfl : r = a := Fin.ext hx0
    have hx1 : J = _ := hx1
    have x1_lt : b.val < 128 := x1_lt
    obtain rfl : L = b := Fin.ext (by dsimp only [ix2] at hL hx1; omega)
    generalize k0_pay2 (iblk m c 0 t) (iblk m c 1 t) = P
    dsimp only [ix2] at hx1
    pointwise [k0_pay10, k0_pay11, k0_pay12, k0_pay13, k0_pay8, k0_pay9, k0_pay6, k0_pay7]
    rw [lane_select]
    first
    | rw [if_pos (show J < 128 by omega)]
    | rw [if_neg (show ¬J < 128 by omega), if_pos (show J < 256 by omega)]
    | rw [if_neg (show ¬J < 128 by omega), if_neg (show ¬J < 256 by omega), if_pos (show J < 384 by omega)]
    | rw [if_neg (show ¬J < 128 by omega), if_neg (show ¬J < 256 by omega), if_neg (show ¬J < 384 by omega)]

theorem blk14 (I : Fin 640) (j d : Fin 512) (hd : I.val % 80 < 64 → d.val = I.val / 80 * 64 + I.val % 80) : (outsAt0 m c t).2.2.1 (ix2 I j) =
    if I.val % 80 < 64 then kV m c t (ix2 d j) else (1 : EReal) := by
  have h := cover0_A_14 (F := Ideal) c (grid0.coords t) (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t)
    (ms0_12 t) (hs0_12 t) (ms0_13 t) (hs0_13 t) (ms0_14 t) (hs0_14 t) (ms0_15 t) (hs0_15 t) (ms0_16 t) (hs0_16 t) (ms0_17 t) (hs0_17 t)
    (iblk m c 0 t) (iblk m c 1 t) (iblk m c 2 t) (iblk m c 3 t) (iblk m c 4 t) (iblk m c 5 t) (iblk m c 6 t) (iblk m c 7 t)
    (iblk m c 8 t) (iblk m c 9 t) (iblk m c 10 t) (iblk m c 11 t) (ix2 I j)
  unfold outsAt0; dsimp only; unfold out0_A_14
  rw [View.read_writes_junk_eq_canon]
  unfold kernelRun0_A at h ⊢; dsimp only at h ⊢
  unfold kV kCk
  canon_tiles x hx using h
  all_goals
    clear h
    try simp only [kernelRun0_A.sl.r_3, kernelRun0_A.sl.r_12, kernelRun0_A.sl.r_13, rd, k0_pay42, k0_pay43]
    obtain ⟨a, b, rfl⟩ := pair x
    have hx0 : I.val = _ := hx0
    have x0_lt : a.val < _ := x0_lt
    obtain rfl : j = b := Fin.ext hx1
    dsimp only [ix2] at hx0
    generalize k0_pay41 (k0_pay4 (iblk m c 0 t) (iblk m c 1 t) (iblk m c 7 t)) (iblk m c 5 t) = W
    first
    | rw [if_neg (by omega)]
      pointwise [k0_pay14]
    | rw [if_pos (by omega)]
      have hd := hd (by omega)
      pointwise [k0_pay43, k0_pay44, k0_pay45, k0_pay46, k0_pay47, k0_pay48, k0_pay49]
      exact congrArg (fun z => W (ix2 z j)) (Fin.ext (by first | omega | (dsimp only; omega)))

theorem blk17 (I : Fin 160) (j : Fin 512) (d : Fin 128) (hd : I.val % 80 < 64 → d.val = I.val / 80 * 64 + I.val % 80) :
    (outsAt0 m c t).2.2.2.2.2 (ix2 I j) = if I.val % 80 < 64 then kVs m c t (ix2 d j) else (1 : EReal) := by
  have h := cover0_A_17 (F := Ideal) c (grid0.coords t) (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t)
    (ms0_12 t) (hs0_12 t) (ms0_13 t) (hs0_13 t) (ms0_14 t) (hs0_14 t) (ms0_15 t) (hs0_15 t) (ms0_16 t) (hs0_16 t) (ms0_17 t) (hs0_17 t)
    (iblk m c 0 t) (iblk m c 1 t) (iblk m c 2 t) (iblk m c 3 t) (iblk m c 4 t) (iblk m c 5 t) (iblk m c 6 t) (iblk m c 7 t)
    (iblk m c 8 t) (iblk m c 9 t) (iblk m c 10 t) (iblk m c 11 t) (ix2 I j)
  unfold outsAt0; dsimp only; unfold out0_A_17
  rw [View.read_writes_junk_eq_canon]
  unfold kernelRun0_A at h ⊢; dsimp only at h ⊢
  unfold kVs
  canon_tiles x hx using h
  all_goals
    clear h
    try simp only [kernelRun0_A.sl.r, rd, k0_pay16, k0_pay17]
    obtain ⟨a, b, rfl⟩ := pair x
    have hx0 : I.val = _ := hx0
    have x0_lt : a.val < _ := x0_lt
    obtain rfl : j = b := Fin.ext hx1
    dsimp only [ix2] at hx0
    generalize k0_pay15 (k0_pay1 (iblk m c 0 t)) (iblk m c 2 t) = W
    first
    | rw [if_neg (by omega)]
      pointwise [k0_pay14]
    | rw [if_pos (by omega)]
      have hd := hd (by omega)
      pointwise
      exact congrArg (fun z => W (ix2 z j)) (Fin.ext (by first | omega | (dsimp only; omega)))

end Cert.Kernel3Ideal.Proj
-- ==== Proof.ProjInputs.lean ====
module

public import proofs.«01_k».proof.Proof.ProjRows
public import proofs.«01_k».proof.Proof.Gen.Kernel3Ideal.Frame.Runs
public import Idealize.ShloMosaic.Lib.Pipeline.ValueKit
public import Idealize.ShloMosaic.Lib.StableHlo.ReadAt

/-! # The projection launch: its staged blocks, read at an index of the arguments -/

@[expose] public section

set_option maxRecDepth 16384

noncomputable section

namespace Cert.Kernel3Ideal.Proj

open Idealize.ShloMosaic Idealize.ShloMosaic.TcCoe
open Cert.Kernel3Ideal.Gen

variable (m : (ℓ : Loc nD τ sig) → Buf (Elt Ideal) ℓ) (c : Dev nD)

abbrev A0 : FVec Ideal S16x2048x1024 .f32 := m ((c : Thread nD τ).loc main_arg0)
abbrev A1 : FVec Ideal S1024x3360 .f32 := m ((c : Thread nD τ).loc main_arg1)
abbrev A2 : FVec Ideal S256 .f32 := m ((c : Thread nD τ).loc main_arg2)
abbrev A3 : FVec Ideal S256 .f32 := m ((c : Thread nD τ).loc main_arg3)
abbrev A4 : FVec Ideal S256x768 .f32 := m ((c : Thread nD τ).loc main_arg4)
abbrev A5 : FVec Ideal S256x1024 .f32 := m ((c : Thread nD τ).loc main_arg5)

/-- The host's values before the first product's matrix is put together. -/
abbrev before := StableHlo.upto [hostOps0 (F := Ideal), hostOps0_1, hostOps0_2, hostOps0_3, hostOps0_4, hostOps0_5, hostOps0_6].flatten (fun b => m (c, b)) 25

/-- An entry of the first product's matrix, as its thirteen parts lie side by side. -/
def w1c (R : Fin 1024) (L : Fin 1536) : EReal :=
    if h : L.val < 512 then before m c (Proc.tc.devRef main_v10) (ix2 R ⟨L.val, h⟩ : S1024x512.Idx) else
    if h : L.val - 512 < 512 then before m c (Proc.tc.devRef main_v7) (ix2 R ⟨_, h⟩ : S1024x512.Idx) else
    if h : L.val - 512 - 512 < 64 then before m c (Proc.tc.devRef main_v8) (ix2 R ⟨_, h⟩ : S1024x64.Idx) else
    if h : L.val - 512 - 512 - 64 < 64 then before m c (Proc.tc.devRef main_v9) (ix2 R ⟨_, h⟩ : S1024x64.Idx) else
    if h : L.val - 512 - 512 - 64 - 64 < 64 then before m c (Proc.tc.devRef main_v9) (ix2 R ⟨_, h⟩ : S1024x64.Idx) else
    if h : L.val - 512 - 512 - 64 - 64 - 64 < 64 then before m c (Proc.tc.devRef main_v8) (ix2 R ⟨_, h⟩ : S1024x64.Idx) else
    if h : L.val - 512 - 512 - 64 - 64 - 64 - 64 < 64 then before m c (Proc.tc.devRef main_v11) (ix2 R ⟨_, h⟩ : S1024x64.Idx) else
    if h : L.val - 512 - 512 - 64 - 64 - 64 - 64 - 64 < 32 then before m c (Proc.tc.devRef main_v2) (ix2 R ⟨_, h⟩ : S1024x32.Idx) else
    if h : L.val - 512 - 512 - 64 - 64 - 64 - 64 - 64 - 32 < 32 then before m c (Proc.tc.devRef main_v12) (ix2 R ⟨_, h⟩ : S1024x32.Idx) else
    if h : L.val - 512 - 512 - 64 - 64 - 64 - 64 - 64 - 32 - 32 < 64 then before m c (Proc.tc.devRef main_v13) (ix2 R ⟨_, h⟩ : S1024x64.Idx) else
    if h : L.val - 512 - 512 - 64 - 64 - 64 - 64 - 64 - 32 - 32 - 64 < 16 then before m c (Proc.tc.devRef main_v15) (ix2 R ⟨_, h⟩ : S1024x16.Idx) else
    if h : L.val - 512 - 512 - 64 - 64 - 64 - 64 - 64 - 32 - 32 - 64 - 16 < 16 then before m c (Proc.tc.devRef main_v16) (ix2 R ⟨_, h⟩ : S1024x16.Idx) else
      before m c (Proc.tc.devRef main_v17) (ix2 R ⟨L.val - 512 - 512 - 64 - 64 - 64 - 64 - 64 - 32 - 32 - 64 - 16 - 16, by omega⟩ : S1024x32.Idx)

set_option maxHeartbeats 2000000 in
theorem V19 (R : Fin 1024) (L : Fin 1536) : V m c main_v19 (ix2 R L : S1024x1536.Idx) = w1c m c R L := by
  unfold V
  after_reads_at
  rfl

theorem P10 (R : Fin 1024) (L : Fin 512) : before m c (Proc.tc.devRef main_v10) (ix2 R L : S1024x512.Idx) = A1 m c (ix2 R ⟨L.val, by omega⟩) := by
  unfold before
  simp only [StableHlo.upto]
  after_reads_at
theorem P7 (R : Fin 1024) (L : Fin 512) : before m c (Proc.tc.devRef main_v7) (ix2 R L : S1024x512.Idx)
    = A1 m c (ix2 R ⟨544 + L.val, by omega⟩) * Rows.scale 0x42800000#32 := by
  unfold before Rows.scale
  simp only [StableHlo.upto]
  after_reads_at
theorem P8 (R : Fin 1024) (L : Fin 64) : before m c (Proc.tc.devRef main_v8) (ix2 R L : S1024x64.Idx) = A1 m c (ix2 R ⟨1056 + L.val, by omega⟩) := by
  unfold before
  simp only [StableHlo.upto]
  after_reads_at
theorem P9 (R : Fin 1024) (L : Fin 64) : before m c (Proc.tc.devRef main_v9) (ix2 R L : S1024x64.Idx) = A1 m c (ix2 R ⟨1120 + L.val, by omega⟩) := by
  unfold before
  simp only [StableHlo.upto]
  after_reads_at
theorem P11 (R : Fin 1024) (L : Fin 64) : before m c (Proc.tc.devRef main_v11) (ix2 R L : S1024x64.Idx) = (0 : EReal) := by
  unfold before
  simp only [StableHlo.upto]
  after_reads_at
theorem P2 (R : Fin 1024) (L : Fin 32) : before m c (Proc.tc.devRef main_v2) (ix2 R L : S1024x32.Idx) = A1 m c (ix2 R ⟨512 + L.val, by omega⟩) := by
  unfold before
  simp only [StableHlo.upto]
  after_reads_at
theorem P12 (R : Fin 1024) (L : Fin 32) : before m c (Proc.tc.devRef main_v12) (ix2 R L : S1024x32.Idx) = (0 : EReal) := by
  unfold before
  simp only [StableHlo.upto]
  after_reads_at
theorem P13 (R : Fin 1024) (L : Fin 64) : before m c (Proc.tc.devRef main_v13) (ix2 R L : S1024x64.Idx) = (0 : EReal) := by
  unfold before
  simp only [StableHlo.upto]
  after_reads_at
theorem P15 (R : Fin 1024) (L : Fin 16) : before m c (Proc.tc.devRef main_v15) (ix2 R L : S1024x16.Idx) = Neg.neg (α := EReal) (A1 m c (ix2 R ⟨512 + (16 + L.val), by omega⟩)) := by
  unfold before
  simp only [StableHlo.upto]
  after_reads_at
theorem P16 (R : Fin 1024) (L : Fin 16) : before m c (Proc.tc.devRef main_v16) (ix2 R L : S1024x16.Idx) = A1 m c (ix2 R ⟨512 + L.val, by omega⟩) := by
  unfold before
  simp only [StableHlo.upto]
  after_reads_at
theorem P17 (R : Fin 1024) (L : Fin 32) : before m c (Proc.tc.devRef main_v17) (ix2 R L : S1024x32.Idx) = (0 : EReal) := by
  unfold before
  simp only [StableHlo.upto]
  after_reads_at

theorem col (k : Fin 1024) {i j : Fin 3360} (h : i.val = j.val) : A1 m c (ix2 k i) = A1 m c (ix2 k j) := by rw [Fin.ext h]

theorem w_lat (k : Fin 1024) (L : Fin 1536) (h : L.val < 512) : w1c m c k L = A1 m c (ix2 k ⟨L.val, by omega⟩) := by
  unfold w1c
  rw [dif_pos h]
  exact P10 m c k _
theorem w_qs (k : Fin 1024) (L : Fin 1536) (h : 512 ≤ L.val) (h' : L.val < 1024) :
    w1c m c k L = A1 m c (ix2 k ⟨L.val + 32, by omega⟩) * Rows.scale 0x42800000#32 := by
  unfold w1c
  rw [dif_neg (by omega), dif_pos (by omega)]
  exact (P7 m c k _).trans (congrArg (· * _) (col m c k (by dsimp only; omega)))
theorem w_k01 (k : Fin 1024) (L : Fin 1536) (h : 1024 ≤ L.val) (h' : L.val < 1152) : w1c m c k L = A1 m c (ix2 k ⟨L.val + 32, by omega⟩) := by
  unfold w1c
  rw [dif_neg (by omega), dif_neg (by omega)]
  by_cases g : L.val < 1088
  · rw [dif_pos (by omega)]
    exact (P8 m c k _).trans (col m c k (by dsimp only; omega))
  · rw [dif_neg (by omega), dif_pos (by omega)]
    exact (P9 m c k _).trans (col m c k (by dsimp only; omega))
theorem w_k1 (k : Fin 1024) (L : Fin 1536) (h : 1152 ≤ L.val) (h' : L.val < 1216) : w1c m c k L = A1 m c (ix2 k ⟨L.val - 32, by omega⟩) := by
  unfold w1c
  rw [dif_neg (by omega), dif_neg (by omega), dif_neg (by omega), dif_neg (by omega), dif_pos (by omega)]
  exact (P9 m c k _).trans (col m c k (by dsimp only; omega))
theorem w_k0 (k : Fin 1024) (L : Fin 1536) (h : 1216 ≤ L.val) (h' : L.val < 1280) : w1c m c k L = A1 m c (ix2 k ⟨L.val - 160, by omega⟩) := by
  unfold w1c
  rw [dif_neg (by omega), dif_neg (by omega), dif_neg (by omega), dif_neg (by omega), dif_neg (by omega), dif_pos (by omega)]
  exact (P8 m c k _).trans (col m c k (by dsimp only; omega))
theorem w_kr0 (k : Fin 1024) (L : Fin 1536) (h : 1280 ≤ L.val) (h' : L.val < 1344) : w1c m c k L = 0 := by
  unfold w1c
  rw [dif_neg (by omega), dif_neg (by omega), dif_neg (by omega), dif_neg (by omega), dif_neg (by omega), dif_neg (by omega), dif_pos (by omega)]
  exact P11 m c k _
theorem w_kr (k : Fin 1024) (L : Fin 1536) (h : 1344 ≤ L.val) (h' : L.val < 1376) : w1c m c k L = A1 m c (ix2 k ⟨L.val - 832, by omega⟩) := by
  unfold w1c
  rw [dif_neg (by omega), dif_neg (by omega), dif_neg (by omega), dif_neg (by omega), dif_neg (by omega), dif_neg (by omega), dif_neg (by omega),
    dif_pos (by omega)]
  exact (P2 m c k _).trans (col m c k (by dsimp only; omega))
theorem w_kr1 (k : Fin 1024) (L : Fin 1536) (h : 1376 ≤ L.val) (h' : L.val < 1472) : w1c m c k L = 0 := by
  unfold w1c
  rw [dif_neg (by omega), dif_neg (by omega), dif_neg (by omega), dif_neg (by omega), dif_neg (by omega), dif_neg (by omega), dif_neg (by omega),
    dif_neg (by omega)]
  by_cases g : L.val < 1408
  · rw [dif_pos (by omega)]
    exact P12 m c k _
  · rw [dif_neg (by omega), dif_pos (by omega)]
    exact P13 m c k _
theorem w_neg (k : Fin 1024) (L : Fin 1536) (h : 1472 ≤ L.val) (h' : L.val < 1488) : w1c m c k L = -A1 m c (ix2 k ⟨L.val - 944, by omega⟩) := by
  unfold w1c
  rw [dif_neg (by omega), dif_neg (by omega), dif_neg (by omega), dif_neg (by omega), dif_neg (by omega), dif_neg (by omega), dif_neg (by omega),
    dif_neg (by omega), dif_neg (by omega), dif_neg (by omega), dif_pos (by omega)]
  exact (P15 m c k _).trans (congrArg (fun z : EReal => -z) (col m c k (by dsimp only; omega)))
theorem w_rot (k : Fin 1024) (L : Fin 1536) (h : 1488 ≤ L.val) (h' : L.val < 1504) : w1c m c k L = A1 m c (ix2 k ⟨L.val - 976, by omega⟩) := by
  unfold w1c
  rw [dif_neg (by omega), dif_neg (by omega), dif_neg (by omega), dif_neg (by omega), dif_neg (by omega), dif_neg (by omega), dif_neg (by omega),
    dif_neg (by omega), dif_neg (by omega), dif_neg (by omega), dif_neg (by omega), dif_pos (by omega)]
  exact (P16 m c k _).trans (col m c k (by dsimp only; omega))
theorem w_rot0 (k : Fin 1024) (L : Fin 1536) (h : 1504 ≤ L.val) : w1c m c k L = 0 := by
  unfold w1c
  rw [dif_neg (by omega), dif_neg (by omega), dif_neg (by omega), dif_neg (by omega), dif_neg (by omega), dif_neg (by omega), dif_neg (by omega),
    dif_neg (by omega), dif_neg (by omega), dif_neg (by omega), dif_neg (by omega), dif_neg (by omega)]
  exact P17 m c k _

/-- An entry of the queries' matrix: the heads in 128 lanes each, then their rotated parts likewise. -/
def w2c (l : Fin 256) (L : Fin 2048) : EReal :=
  if h : L.val < 1024 then
    if h : L.val / 128 < 8 ∧ L.val % 128 < 96 then A4 m c (ix2 l ⟨L.val / 128 * 96 + L.val % 128, by omega⟩) else 0
  else if h : (L.val - 1024) / 128 < 8 ∧ 64 ≤ (L.val - 1024) % 128 ∧ (L.val - 1024) % 128 - 64 < 32 then
    if h : (L.val - 1024) % 128 - 64 < 16 then
      -A4 m c (ix2 l ⟨(L.val - 1024) / 128 * 96 + (64 + (16 + ((L.val - 1024) % 128 - 64))), by omega⟩)
    else A4 m c (ix2 l ⟨(L.val - 1024) / 128 * 96 + (64 + ((L.val - 1024) % 128 - 64 - 16)), by omega⟩)
  else 0

theorem V34 (R : Fin 256) (L : Fin 2048) : V m c main_v34 (ix2 R L : S256x2048.Idx) = w2c m c R L := by
  unfold V
  after_reads_at
  simp only [StableHlo.upto]
  after_reads_at
  simp only [StableHlo.upto]
  after_reads_at
  unfold w2c
  simp only [Rows.word_zero]
theorem V39 (R : Fin 256) (L : Fin 1024) : V m c main_v39 (ix2 R L : S256x1024.Idx) =
    if h : L.val / 128 < 8 ∧ L.val % 128 < 64 then A5 m c (ix2 R ⟨L.val / 128 * 128 + L.val % 128, by omega⟩) else (0 : EReal) := by
  unfold V
  after_reads_at
  simp only [Rows.word_zero]
theorem V43 (R : Fin 512) (L : Fin 256) : V m c main_v43 (ix2 R L : S512x256.Idx) = A5 m c (ix2 L ⟨R.val / 64 * 128 + (64 + R.val % 64), by omega⟩) := by
  unfold V
  after_reads_at
theorem V22 (R : Fin 128) (L : Fin 1024) : V m c main_v22 (ix2 R L : S128x1024.Idx) = A1 m c (ix2 L ⟨1184 + R.val, by omega⟩) := by
  unfold V
  after_reads_at
theorem V75 (R : Fin 32768) (L : Fin 1024) : V m c main_v75 (ix2 R L : S32768x1024.Idx) = A0 m c (ix3 ⟨R.val / 2048, by omega⟩ ⟨R.val % 2048, by omega⟩ L) := by
  unfold V
  after_reads_at
theorem V76 (R : Fin 1) (L : Fin 256) : V m c main_v76 (ix2 R L : S1x256.Idx) = A2 m c (ix1 L) := by
  unfold V
  after_reads_at
theorem V77 (R : Fin 1) (L : Fin 256) : V m c main_v77 (ix2 R L : S1x256.Idx) = A3 m c (ix1 L) := by
  unfold V
  after_reads_at
theorem V69 (R : Fin 2048) (L : Fin 128) : V m c main_v69 (ix2 R L : S2048x128.Idx)
    = Rows.tab 1 (fun i => Ideal.cos (Rows.ang R.val i)) L.val * Rows.scale 0x42C00000#32 := by
  unfold V Rows.tab Rows.ang Rows.scale
  after_reads_at
  simp only [StableHlo.upto]
  after_reads_at
  rfl
theorem V72 (R : Fin 2048) (L : Fin 128) : V m c main_v72 (ix2 R L : S2048x128.Idx)
    = Rows.tab 0 (fun i => Ideal.sin (Rows.ang R.val i)) L.val * Rows.scale 0x42C00000#32 := by
  unfold V Rows.tab Rows.ang Rows.scale
  after_reads_at
  simp only [StableHlo.upto]
  after_reads_at
  rfl
theorem V73 (R : Fin 2048) (L : Fin 128) : V m c main_v73 (ix2 R L : S2048x128.Idx) = Rows.tab 0 (fun i => Ideal.cos (Rows.ang R.val i)) L.val := by
  unfold V Rows.tab Rows.ang
  after_reads_at
  simp only [StableHlo.upto]
  after_reads_at
  rfl
theorem V74 (R : Fin 2048) (L : Fin 128) : V m c main_v74 (ix2 R L : S2048x128.Idx) = Rows.tab 0 (fun i => Ideal.sin (Rows.ang R.val i)) L.val := by
  unfold V Rows.tab Rows.ang
  after_reads_at
  simp only [StableHlo.upto]
  after_reads_at
  rfl

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![t.val % 4, 0] := (by decide +kernel : ∀ t : Fin grid0.N, _)
theorem idx9 : ∀ t : Fin cfg0.N, win0_9.index t = ![t.val % 4, 0] := (by decide +kernel : ∀ t : Fin grid0.N, _)
theorem idx10 : ∀ t : Fin cfg0.N, win0_10.index t = ![t.val % 4, 0] := (by decide +kernel : ∀ t : Fin grid0.N, _)
theorem idx11 : ∀ t : Fin cfg0.N, win0_11.index t = ![t.val % 4, 0] := (by decide +kernel : ∀ t : Fin grid0.N, _)

theorem lt64 (t : Fin cfg0.N) : t.val < 64 := t.isLt

/-- Row `r` of point `t`'s block. -/
abbrev row (t : Fin cfg0.N) (r : Fin 512) : Fin 32768 := ⟨512 * t.val + r.val, by have := lt64 t; omega⟩

/-- That row's place in its sequence. -/
abbrev pos (t : Fin cfg0.N) (r : Fin 512) : Fin 2048 := ⟨512 * (t.val % 4) + r.val, by omega⟩

theorem i0 (t : Fin cfg0.N) (r : Fin 512) (L : Fin 1024) : iblk m c 0 t (ix2 r L : S512x1024.Idx) = A0 m c (ix3 ⟨(row t r).val / 2048, by omega⟩ ⟨(row t r).val % 2048, by omega⟩ L) := by
  refine Eq.trans ?_ (V75 m c (row t r) L)
  blk_ext [iblk, idx0 t]
theorem i1 (t : Fin cfg0.N) (r : Fin 1024) (L : Fin 1536) : iblk m c 1 t (ix2 r L : S1024x1536.Idx) = w1c m c r L := by
  refine Eq.trans ?_ (V19 m c r L)
  blk_ext [iblk, idx1 t]
theorem i2 (t : Fin cfg0.N) (r : Fin 128) (L : Fin 1024) : iblk m c 2 t (ix2 r L : S128x1024.Idx) = A1 m c (ix2 L ⟨1184 + r.val, by omega⟩) := by
  refine Eq.trans ?_ (V22 m c r L)
  blk_ext [iblk, idx2 t]
theorem i3 (t : Fin cfg0.N) (r : Fin 256) (L : Fin 2048) : iblk m c 3 t (ix2 r L : S256x2048.Idx) = w2c m c r L := by
  refine Eq.trans ?_ (V34 m c r L)
  blk_ext [iblk, idx3 t]
theorem i4 (t : Fin cfg0.N) (r : Fin 256) (L : Fin 1024) : iblk m c 4 t (ix2 r L : S256x1024.Idx) =
    if h : L.val / 128 < 8 ∧ L.val % 128 < 64 then A5 m c (ix2 r ⟨L.val / 128 * 128 + L.val % 128, by omega⟩) else (0 : EReal) := by
  refine Eq.trans ?_ (V39 m c r L)
  blk_ext [iblk, idx4 t]
theorem i5 (t : Fin cfg0.N) (r : Fin 512) (L : Fin 256) : iblk m c 5 t (ix2 r L : S512x256.Idx) = A5 m c (ix2 L ⟨r.val / 64 * 128 + (64 + r.val % 64), by omega⟩) := by
  refine Eq.trans ?_ (V43 m c r L)
  blk_ext [iblk, idx5 t]
theorem i6 (t : Fin cfg0.N) (r : Fin 1) (L : Fin 256) : iblk m c 6 t (ix2 r L : S1x256.Idx) = A2 m c (ix1 L) := by
  refine Eq.trans ?_ (V76 m c r L)
  blk_ext [iblk, idx6 t]
theorem i7 (t : Fin cfg0.N) (r : Fin 1) (L : Fin 256) : iblk m c 7 t (ix2 r L : S1x256.Idx) = A3 m c (ix1 L) := by
  refine Eq.trans ?_ (V77 m c r L)
  blk_ext [iblk, idx7 t]
theorem i8 (t : Fin cfg0.N) (r : Fin 512) (L : Fin 128) : iblk m c 8 t (ix2 r L : S512x128.Idx)
    = Rows.tab 1 (fun i => Ideal.cos (Rows.ang (pos t r).val i)) L.val * Rows.scale 0x42C00000#32 := by
  refine Eq.trans ?_ (V69 m c (pos t r) L)
  blk_ext [iblk, idx8 t]
theorem i9 (t : Fin cfg0.N) (r : Fin 512) (L : Fin 128) : iblk m c 9 t (ix2 r L : S512x128.Idx)
    = Rows.tab 0 (fun i => Ideal.sin (Rows.ang (pos t r).val i)) L.val * Rows.scale 0x42C00000#32 := by
  refine Eq.trans ?_ (V72 m c (pos t r) L)
  blk_ext [iblk, idx9 t]
theorem i10 (t : Fin cfg0.N) (r : Fin 512) (L : Fin 128) : iblk m c 10 t (ix2 r L : S512x128.Idx)
    = Rows.tab 0 (fun i => Ideal.cos (Rows.ang (pos t r).val i)) L.val := by
  refine Eq.trans ?_ (V73 m c (pos t r) L)
  blk_ext [iblk, idx10 t]
theorem i11 (t : Fin cfg0.N) (r : Fin 512) (L : Fin 128) : iblk m c 11 t (ix2 r L : S512x128.Idx)
    = Rows.tab 0 (fun i => Ideal.sin (Rows.ang (pos t r).val i)) L.val := by
  refine Eq.trans ?_ (V74 m c (pos t r) L)
  blk_ext [iblk, idx11 t]

end Cert.Kernel3Ideal.Proj
-- ==== Proof.ProjProd.lean ====
module

public import proofs.«01_k».proof.Proof.ProjBlocks
public import proofs.«01_k».proof.Proof.ProjInputs
public import proofs.«01_k».proof.Proof.ProjRows

/-! # The projection launch's products at an index, over the arguments -/

@[expose] public section

set_option maxRecDepth 16384

noncomputable section

namespace Cert.Kernel3Ideal.Proj

open Idealize.ShloMosaic Idealize.ShloMosaic.TcCoe
open Cert.Kernel3Ideal.Gen

variable (m : (ℓ : Loc nD τ sig) → Buf (Elt Ideal) ℓ) (c : Dev nD)

/-- A row of the input, and the first weights' entries. -/
def xrow (R : Fin 32768) (k : Fin 1024) : EReal := A0 m c (ix3 ⟨R.val / 2048, by omega⟩ ⟨R.val % 2048, by omega⟩ k)
def win (k : Fin 1024) (j : Fin 3360) : EReal := A1 m c (ix2 k j)

/-- Entry `j` of row `R` of the first product. -/
def u (R : Fin 32768) (j : Fin 3360) : EReal := Rows.prod (xrow m c R) (win m c) j

variable (t : Fin cfg0.N) (r : Fin 512)

theorem kP_apply (L : Fin 1536) : kP m c t (ix2 r L) = ∑ k : Fin 1024, xrow m c (row t r) k * w1c m c k L := by
  have h : kP m c t (ix2 r L) = ∑ k : Fin 1024, HMul.hMul (α := EReal) (β := EReal) (γ := EReal) (iblk m c 0 t (ix2 r k : S512x1024.Idx)) (iblk m c 1 t (ix2 k L : S1024x1536.Idx)) := by
    unfold kP
    generalize iblk m c 0 t = x
    generalize iblk m c 1 t = w
    pointwise [k0_pay2, k0_pay1]
  rw [h]
  simp only [i0, i1]
  rfl

theorem kCq_apply (l : Fin 256) : kCq m c t (ix2 r l)
    = Rows.rms (fun l => kP m c t (ix2 r ⟨l.val, by omega⟩)) (fun l => A2 m c (ix1 l)) l := by
  have h : kCq m c t (ix2 r l) = Rows.rms (fun l => kP m c t (ix2 r ⟨l.val, by omega⟩)) (fun l => iblk m c 6 t (ix2 0 l : S1x256.Idx)) l := by
    unfold kCq kP Rows.rms
    generalize iblk m c 6 t = g
    generalize iblk m c 0 t = x
    generalize iblk m c 1 t = w
    pointwise [k0_pay3]
  rw [h]
  simp only [i6]

theorem kCk_apply (l : Fin 256) : kCk m c t (ix2 r l)
    = Rows.rms (fun l => kP m c t (ix2 r ⟨256 + l.val, by omega⟩)) (fun l => A3 m c (ix1 l)) l := by
  have h : kCk m c t (ix2 r l) = Rows.rms (fun l => kP m c t (ix2 r ⟨256 + l.val, by omega⟩)) (fun l => iblk m c 7 t (ix2 0 l : S1x256.Idx)) l := by
    unfold kCk kP Rows.rms
    generalize iblk m c 7 t = g
    generalize iblk m c 0 t = x
    generalize iblk m c 1 t = w
    pointwise [k0_pay4]
  rw [h]
  simp only [i7]

theorem kQ_apply (L : Fin 2048) : kQ m c t (ix2 r L) = ∑ l : Fin 256, kCq m c t (ix2 r l) * w2c m c l L := by
  have h : kQ m c t (ix2 r L) = ∑ l : Fin 256, kCq m c t (ix2 r l) * iblk m c 3 t (ix2 l L : S256x2048.Idx) := by
    unfold kQ
    generalize kCq m c t = x
    generalize iblk m c 3 t = w
    pointwise [k0_pay20]
  rw [h]
  simp only [i3]

theorem kN_apply (L : Fin 1024) : kN m c t (ix2 r L) = ∑ l : Fin 256, kCk m c t (ix2 r l) *
    (if h : L.val / 128 < 8 ∧ L.val % 128 < 64 then A5 m c (ix2 l ⟨L.val / 128 * 128 + L.val % 128, by omega⟩) else (0 : EReal)) := by
  have h : kN m c t (ix2 r L) = ∑ l : Fin 256, kCk m c t (ix2 r l) * iblk m c 4 t (ix2 l L : S256x1024.Idx) := by
    unfold kN
    generalize kCk m c t = x
    generalize iblk m c 4 t = w
    pointwise [k0_pay21]
  rw [h]
  simp only [i4]

theorem kR_apply (L : Fin 128) : kR m c t (ix2 r L) =
    kP m c t (ix2 r ⟨1280 + L.val, by omega⟩) * Rows.tab 0 (fun i => Ideal.cos (Rows.ang (pos t r).val i)) L.val
      + kP m c t (ix2 r ⟨1408 + L.val, by omega⟩) * Rows.tab 0 (fun i => Ideal.sin (Rows.ang (pos t r).val i)) L.val := by
  have h : kR m c t (ix2 r L) =
    kP m c t (ix2 r ⟨1280 + L.val, by omega⟩) * iblk m c 10 t (ix2 r L : S512x128.Idx)
      + kP m c t (ix2 r ⟨1408 + L.val, by omega⟩) * iblk m c 11 t (ix2 r L : S512x128.Idx) := by
    unfold kR
    generalize kP m c t = p
    generalize iblk m c 10 t = co
    generalize iblk m c 11 t = si
    pointwise [k0_pay19, k0_pay18]
  rw [h]
  simp only [i10, i11]

theorem kV_apply (d : Fin 512) : kV m c t (ix2 d r) = ∑ l : Fin 256, kCk m c t (ix2 r l) * A5 m c (ix2 l ⟨d.val / 64 * 128 + (64 + d.val % 64), by omega⟩) := by
  have h : kV m c t (ix2 d r) = ∑ l : Fin 256, HMul.hMul (α := EReal) (β := EReal) (γ := EReal) (iblk m c 5 t (ix2 d l : S512x256.Idx)) (kCk m c t (ix2 r l)) := by
    unfold kV
    generalize kCk m c t = x
    generalize iblk m c 5 t = w
    pointwise [k0_pay41]
  rw [h]
  simp only [i5]
  exact Finset.sum_congr rfl fun l _ => mul_comm _ _

theorem kVs_apply (d : Fin 128) : kVs m c t (ix2 d r) = u m c (row t r) ⟨1184 + d.val, by omega⟩ := by
  have h : kVs m c t (ix2 d r) = ∑ k : Fin 1024, HMul.hMul (α := EReal) (β := EReal) (γ := EReal) (iblk m c 2 t (ix2 d k : S128x1024.Idx)) (iblk m c 0 t (ix2 r k : S512x1024.Idx)) := by
    unfold kVs
    generalize iblk m c 0 t = x
    generalize iblk m c 2 t = w
    pointwise [k0_pay15, k0_pay1]
  rw [h]
  simp only [i0, i2]
  exact Finset.sum_congr rfl fun l _ => mul_comm _ _

end Cert.Kernel3Ideal.Proj
-- ==== Proof.ProjRef.lean ====
module

public import proofs.«01_k».proof.Proof.ProjRows
public import proofs.«01_k».proof.Proof.Gen.Reference3Ideal.Run
public import Idealize.ShloMosaic.Lib.Pointwise
public import Idealize.ShloMosaic.PureOps.Reduce

/-! # The reference's projections, read at an index -/

@[expose] public section

set_option maxRecDepth 16384

noncomputable section

namespace Cert.Reference3Ideal.Proj

open Idealize.ShloMosaic Idealize.ShloMosaic.TcCoe
open Cert.Reference3Ideal.Gen Cert.Reference3Ideal.Value

section
variable (x : FVec Ideal S16x2048x1024 .f32) (wi : FVec Ideal S1024x3360 .f32) (g : FVec Ideal S256 .f32)
  (wq : FVec Ideal S256x768 .f32) (wkv : FVec Ideal S256x1024 .f32)

def flat : FVec Ideal S32768x1024 .f32 := shapeCast _ x shapeCasts_S16x2048x1024_S32768x1024

/-- The first product. -/
def proj : FVec Ideal S32768x1312 .f32 :=
  Host.dotGeneral dot_S32768x1024_S1024x1312_S32768x1312_1_0_0_1_n_n none (flat x) (extractStridedSlice S1024x1312 ![0, 0] wi slices_S1024x3360_S1024x1312_0_0)

/-- Rows normalised by their mean squares. -/
def rmsn (u : FVec Ideal S32768x256 .f32) : FVec Ideal S32768x256 .f32 :=
  mulf (mulf u (broadcastInDim S32768x256 ![0, 1] bcast_S32768x1_S32768x256_0_1 (Host.rsqrt (addf (Host.divf
    (broadcastInDim S32768x1 ![0] bcast_S32768_S32768x1_0 (Host.reduceAdd (mulf u u) (constant S_ .f32 0x00000000#32) reducesTo_S32768x256_S32768_d1 h_S_))
    (broadcastInDim S32768x1 ![] bcast_S_S32768x1 (constant S_ .f32 0x43800000#32))) (broadcastInDim S32768x1 ![] bcast_S_S32768x1 (constant S_ .f32 0x358637BD#32))))))
    (broadcastInDim S32768x256 ![0, 1] bcast_S1x256_S32768x256_0_1 (broadcastInDim S1x256 ![1] bcast_S256_S1x256_1 g))

def latQ (p : FVec Ideal S32768x1312 .f32) : FVec Ideal S32768x256 .f32 := extractStridedSlice S32768x256 ![0, 0] p slices_S32768x1312_S32768x256_0_0
def latK (p : FVec Ideal S32768x1312 .f32) : FVec Ideal S32768x256 .f32 := extractStridedSlice S32768x256 ![0, 256] p slices_S32768x1312_S32768x256_0_256

def qAll (u : FVec Ideal S32768x256 .f32) : FVec Ideal S32768x768 .f32 := Host.dotGeneral dot_S32768x256_S256x768_S32768x768_1_0_0_1_n_n none u wq
def kvAll (u : FVec Ideal S32768x256 .f32) : FVec Ideal S32768x1024 .f32 := Host.dotGeneral dot_S32768x256_S256x1024_S32768x1024_1_0_0_1_n_n none u wkv

/-- The rotation's angles. -/
def angs : FVec Ideal S2048x16 .f32 :=
  mulf (broadcastInDim S2048x16 ![0, 1] bcast_S2048x1_S2048x16_0_1 (broadcastInDim S2048x1 ![0] bcast_S2048_S2048x1_0 (sitofp .f32 (iotaInDim S2048 32 0))))
    (broadcastInDim S2048x16 ![0, 1] bcast_S1x16_S2048x16_0_1 (broadcastInDim S1x16 ![1] bcast_S16_S1x16_1
      (Host.powf (broadcastInDim S16 ![] bcast_S_S16 (constant S_ .f32 0x461C4000#32))
        (Host.divf (Host.negf (addf (broadcastInDim S16 ![] bcast_S_S16 (constant S_ .f32 0x00000000#32))
          (mulf (broadcastInDim S16 ![] bcast_S_S16 (constant S_ .f32 0x40000000#32)) (sitofp .f32 (iotaInDim S16 32 0)))))
          (broadcastInDim S16 ![] bcast_S_S16 (constant S_ .f32 0x42000000#32))))))

def kTab (a : FVec Ideal S2048x16 .f32) : FVec Ideal S16x2048x16 .f32 :=
  broadcastInDim S16x2048x16 ![0, 1, 2] bcast_S1x2048x16_S16x2048x16_0_1_2 (broadcastInDim S1x2048x16 ![1, 2] bcast_S2048x16_S1x2048x16_1_2 a)
def qTab (a : FVec Ideal S2048x16 .f32) : FVec Ideal S16x2048x8x16 .f32 :=
  broadcastInDim S16x2048x8x16 ![0, 1, 2, 3] bcast_S1x2048x1x16_S16x2048x8x16_0_1_2_3
    (broadcastInDim S1x2048x1x16 ![1, 2, 3] bcast_S2048x1x16_S1x2048x1x16_1_2_3 (broadcastInDim S2048x1x16 ![0, 2] bcast_S2048x16_S2048x1x16_0_2 a))

/-- The keys' rotated lanes. -/
def kRot (p : FVec Ideal S32768x1312 .f32) (co si : FVec Ideal S2048x16 .f32) : FVec Ideal S16x2048x32 .f32 :=
  let u := shapeCast _ (extractStridedSlice S32768x32 ![0, 512] p slices_S32768x1312_S32768x32_0_512) shapeCasts_S32768x32_S16x2048x32
  let u1 := extractStridedSlice S16x2048x16 ![0, 0, 0] u slices_S16x2048x32_S16x2048x16_0_0_0
  let u2 := extractStridedSlice S16x2048x16 ![0, 0, 16] u slices_S16x2048x32_S16x2048x16_0_0_16
  concatenate S16x2048x32 2 [⟨S16x2048x16, subf (mulf u1 (kTab co)) (mulf u2 (kTab si))⟩, ⟨S16x2048x16, addf (mulf u1 (kTab si)) (mulf u2 (kTab co))⟩]
    concatenates_S16x2048x16_S16x2048x16_S16x2048x32_d2

def kOut (kv : FVec Ideal S32768x1024 .f32) (r : FVec Ideal S16x2048x32 .f32) : FVec Ideal S32768x1024 .bf16 :=
  truncf .bf16 (shapeCast _ (concatenate S16x2048x8x128 3
    [⟨S16x2048x8x64, extractStridedSlice S16x2048x8x64 ![0, 0, 0, 0] (shapeCast _ kv shapeCasts_S32768x1024_S16x2048x8x128) slices_S16x2048x8x128_S16x2048x8x64_0_0_0_0⟩,
     ⟨S16x2048x8x32, broadcastInDim S16x2048x8x32 ![0, 1, 2, 3] bcast_S16x2048x1x32_S16x2048x8x32_0_1_2_3 (broadcastInDim S16x2048x1x32 ![0, 1, 3] bcast_S16x2048x32_S16x2048x1x32_0_1_3 r)⟩,
     ⟨S16x2048x8x32, broadcastInDim S16x2048x8x32 ![] bcast_S_S16x2048x8x32 (constant S_ .f32 0x00000000#32)⟩]
    concatenates_S16x2048x8x64_S16x2048x8x32_S16x2048x8x32_S16x2048x8x128_d3) shapeCasts_S16x2048x8x128_S32768x1024) bitsLt_bf16_f32

/-- The queries' rotated lanes. -/
def qRot (q : FVec Ideal S32768x768 .f32) (co si : FVec Ideal S2048x16 .f32) : FVec Ideal S16x2048x8x32 .f32 :=
  let u := extractStridedSlice S16x2048x8x32 ![0, 0, 0, 64] (shapeCast _ q shapeCasts_S32768x768_S16x2048x8x96) slices_S16x2048x8x96_S16x2048x8x32_0_0_0_64
  let u1 := extractStridedSlice S16x2048x8x16 ![0, 0, 0, 0] u slices_S16x2048x8x32_S16x2048x8x16_0_0_0_0
  let u2 := extractStridedSlice S16x2048x8x16 ![0, 0, 0, 16] u slices_S16x2048x8x32_S16x2048x8x16_0_0_0_16
  concatenate S16x2048x8x32 3 [⟨S16x2048x8x16, subf (mulf u1 (qTab co)) (mulf u2 (qTab si))⟩, ⟨S16x2048x8x16, addf (mulf u1 (qTab si)) (mulf u2 (qTab co))⟩]
    concatenates_S16x2048x8x16_S16x2048x8x16_S16x2048x8x32_d3

def qOut (q : FVec Ideal S32768x768 .f32) (r : FVec Ideal S16x2048x8x32 .f32) : FVec Ideal S32768x1024 .bf16 :=
  truncf .bf16 (shapeCast _ (mulf (concatenate S16x2048x8x128 3
    [⟨S16x2048x8x64, extractStridedSlice S16x2048x8x64 ![0, 0, 0, 0] (shapeCast _ q shapeCasts_S32768x768_S16x2048x8x96) slices_S16x2048x8x96_S16x2048x8x64_0_0_0_0⟩,
     ⟨S16x2048x8x32, r⟩,
     ⟨S16x2048x8x32, broadcastInDim S16x2048x8x32 ![] bcast_S_S16x2048x8x32 (constant S_ .f32 0x00000000#32)⟩]
    concatenates_S16x2048x8x64_S16x2048x8x32_S16x2048x8x32_S16x2048x8x128_d3)
    (broadcastInDim S16x2048x8x128 ![] bcast_S_S16x2048x8x128 (Host.divf (Host.divf (constant S_ .f32 0x3F800000#32) (Host.log (constant S_ .f32 0x40000000#32))) (Host.sqrt (constant S_ .f32 0x42C00000#32)))))
    shapeCasts_S16x2048x8x128_S32768x1024) bitsLt_bf16_f32

/-- The values' columns, with sixteen ones under every head. -/
def vOut (kv : FVec Ideal S32768x1024 .f32) : FVec Ideal S640x32768 .bf16 :=
  truncf .bf16 (shapeCast _ (concatenate S8x80x32768 1
    [⟨S8x64x32768, transpose S8x64x32768 [1, 2, 0] (shapeCast _ (extractStridedSlice S16x2048x8x64 ![0, 0, 0, 64] (shapeCast _ kv shapeCasts_S32768x1024_S16x2048x8x128)
        slices_S16x2048x8x128_S16x2048x8x64_0_0_0_64) shapeCasts_S16x2048x8x64_S32768x8x64) transposes_S32768x8x64_S8x64x32768_1_2_0⟩,
     ⟨S8x16x32768, broadcastInDim S8x16x32768 ![] bcast_S_S8x16x32768 (constant S_ .f32 0x3F800000#32)⟩]
    concatenates_S8x64x32768_S8x16x32768_S8x80x32768_d1) shapeCasts_S8x80x32768_S640x32768) bitsLt_bf16_f32

def qsOut (p : FVec Ideal S32768x1312 .f32) : FVec Ideal S32768x512 .bf16 :=
  truncf .bf16 (mulf (extractStridedSlice S32768x512 ![0, 544] p slices_S32768x1312_S32768x512_0_544)
    (broadcastInDim S32768x512 ![] bcast_S_S32768x512 (Host.divf (Host.divf (constant S_ .f32 0x3F800000#32) (Host.log (constant S_ .f32 0x40000000#32))) (Host.sqrt (constant S_ .f32 0x42800000#32))))) bitsLt_bf16_f32

def ksOut (p : FVec Ideal S32768x1312 .f32) : FVec Ideal S32768x512 .bf16 :=
  truncf .bf16 (shapeCast _ (concatenate S32768x2x4x64 2
    [⟨S32768x2x1x64, shapeCast _ (extractStridedSlice S32768x128 ![0, 1056] p slices_S32768x1312_S32768x128_0_1056) shapeCasts_S32768x128_S32768x2x1x64⟩,
     ⟨S32768x2x1x64, broadcastInDim S32768x2x1x64 ![] bcast_S_S32768x2x1x64 (constant S_ .f32 0x00000000#32)⟩,
     ⟨S32768x2x1x64, broadcastInDim S32768x2x1x64 ![] bcast_S_S32768x2x1x64 (constant S_ .f32 0x00000000#32)⟩,
     ⟨S32768x2x1x64, shapeCast _ (extractStridedSlice S32768x128 ![0, 1056] p slices_S32768x1312_S32768x128_0_1056) shapeCasts_S32768x128_S32768x2x1x64⟩]
    concatenates_S32768x2x1x64_S32768x2x1x64_S32768x2x1x64_S32768x2x1x64_S32768x2x4x64_d2) shapeCasts_S32768x2x4x64_S32768x512) bitsLt_bf16_f32

def vsOut (p : FVec Ideal S32768x1312 .f32) : FVec Ideal S160x32768 .bf16 :=
  truncf .bf16 (shapeCast _ (concatenate S2x80x32768 1
    [⟨S2x64x32768, transpose S2x64x32768 [1, 2, 0] (shapeCast _ (extractStridedSlice S32768x128 ![0, 1184] p slices_S32768x1312_S32768x128_0_1184) shapeCasts_S32768x128_S32768x2x64)
        transposes_S32768x2x64_S2x64x32768_1_2_0⟩,
     ⟨S2x16x32768, broadcastInDim S2x16x32768 ![] bcast_S_S2x16x32768 (constant S_ .f32 0x3F800000#32)⟩]
    concatenates_S2x64x32768_S2x16x32768_S2x80x32768_d1) shapeCasts_S2x80x32768_S160x32768) bitsLt_bf16_f32

theorem flat_apply (r : Fin 32768) (j : Fin 1024) : flat x (ix2 r j) = x (ix3 ⟨r.val / 2048, by omega⟩ ⟨r.val % 2048, by omega⟩ j) := by
  pointwise [flat]

theorem proj_apply (r : Fin 32768) (j : Fin 1312) : proj x wi (ix2 r j) = Rows.prod (fun k => flat x (ix2 r k)) (fun k j => wi (ix2 k j)) ⟨j.val, by omega⟩ := by
  unfold proj Rows.prod
  generalize flat x = y
  pointwise

theorem rmsn_apply (u : FVec Ideal S32768x256 .f32) (r : Fin 32768) (l : Fin 256) : rmsn g u (ix2 r l) = Rows.rms (fun l => u (ix2 r l)) (fun l => g (ix1 l)) l := by
  unfold Rows.rms
  pointwise [rmsn]

theorem latQ_apply (p : FVec Ideal S32768x1312 .f32) (r : Fin 32768) (l : Fin 256) : latQ p (ix2 r l) = p (ix2 r ⟨l.val, by omega⟩) := by
  pointwise [latQ]
theorem latK_apply (p : FVec Ideal S32768x1312 .f32) (r : Fin 32768) (l : Fin 256) : latK p (ix2 r l) = p (ix2 r ⟨256 + l.val, by omega⟩) := by
  pointwise [latK]
theorem qAll_apply (u : FVec Ideal S32768x256 .f32) (r : Fin 32768) (j : Fin 768) : qAll wq u (ix2 r j) = ∑ l : Fin 256, u (ix2 r l) * wq (ix2 l j) := by
  pointwise [qAll]
theorem kvAll_apply (u : FVec Ideal S32768x256 .f32) (r : Fin 32768) (j : Fin 1024) : kvAll wkv u (ix2 r j) = ∑ l : Fin 256, u (ix2 r l) * wkv (ix2 l j) := by
  pointwise [kvAll]
theorem angs_apply (s : Fin 2048) (i : Fin 16) : angs (ix2 s i) = Rows.ang s.val i.val := by
  unfold Rows.ang
  pointwise [angs]

theorem kRot_apply (p : FVec Ideal S32768x1312 .f32) (co si : FVec Ideal S2048x16 .f32) (b : Fin 16) (s : Fin 2048) (e : Fin 32) :
    kRot p co si (ix3 b s e) =
      if h : e.val < 16 then p (ix2 ⟨b.val * 2048 + s.val, by omega⟩ ⟨512 + e.val, by omega⟩) * co (ix2 s ⟨e.val, h⟩)
        - p (ix2 ⟨b.val * 2048 + s.val, by omega⟩ ⟨512 + (16 + e.val), by omega⟩) * si (ix2 s ⟨e.val, h⟩)
      else p (ix2 ⟨b.val * 2048 + s.val, by omega⟩ ⟨512 + (e.val - 16), by omega⟩) * si (ix2 s ⟨e.val - 16, by omega⟩)
        + p (ix2 ⟨b.val * 2048 + s.val, by omega⟩ ⟨512 + (16 + (e.val - 16)), by omega⟩) * co (ix2 s ⟨e.val - 16, by omega⟩) := by
  pointwise [kRot, kTab]

theorem kOut_apply (kv : FVec Ideal S32768x1024 .f32) (r : FVec Ideal S16x2048x32 .f32) (R : Fin 32768) (J : Fin 1024) :
    kOut kv r (ix2 R J) =
      if h : J.val % 128 < 64 then kv (ix2 R J)
      else if h : J.val % 128 - 64 < 32 then r (ix3 ⟨R.val / 2048, by omega⟩ ⟨R.val % 2048, by omega⟩ ⟨_, h⟩) else (0 : EReal) := by
  pointwise [kOut]

theorem qRot_apply (q : FVec Ideal S32768x768 .f32) (co si : FVec Ideal S2048x16 .f32) (b : Fin 16) (s : Fin 2048) (h : Fin 8) (e : Fin 32) :
    qRot q co si (ix4 b s h e) =
      if g : e.val < 16 then q (ix2 ⟨b.val * 2048 + s.val, by omega⟩ ⟨h.val * 96 + (64 + e.val), by omega⟩) * co (ix2 s ⟨e.val, g⟩)
        - q (ix2 ⟨b.val * 2048 + s.val, by omega⟩ ⟨h.val * 96 + (64 + (16 + e.val)), by omega⟩) * si (ix2 s ⟨e.val, g⟩)
      else q (ix2 ⟨b.val * 2048 + s.val, by omega⟩ ⟨h.val * 96 + (64 + (e.val - 16)), by omega⟩) * si (ix2 s ⟨e.val - 16, by omega⟩)
        + q (ix2 ⟨b.val * 2048 + s.val, by omega⟩ ⟨h.val * 96 + (64 + (16 + (e.val - 16))), by omega⟩) * co (ix2 s ⟨e.val - 16, by omega⟩) := by
  pointwise [qRot, qTab]

theorem qOut_apply (q : FVec Ideal S32768x768 .f32) (r : FVec Ideal S16x2048x8x32 .f32) (R : Fin 32768) (J : Fin 1024) :
    qOut q r (ix2 R J) =
      (if h : J.val % 128 < 64 then q (ix2 R ⟨J.val / 128 * 96 + J.val % 128, by omega⟩)
      else if h : J.val % 128 - 64 < 32 then r (ix4 ⟨R.val / 2048, by omega⟩ ⟨R.val % 2048, by omega⟩ ⟨J.val / 128, by omega⟩ ⟨_, h⟩) else (0 : EReal))
        * Rows.scale 0x42C00000#32 := by
  unfold Rows.scale
  pointwise [qOut]

theorem vOut_apply (kv : FVec Ideal S32768x1024 .f32) (I : Fin 640) (R : Fin 32768) :
    vOut kv (ix2 I R) = if h : I.val % 80 < 64 then kv (ix2 R ⟨I.val / 80 * 128 + (64 + I.val % 80), by omega⟩) else (1 : EReal) := by
  pointwise [vOut]

theorem qsOut_apply (p : FVec Ideal S32768x1312 .f32) (R : Fin 32768) (J : Fin 512) :
    qsOut p (ix2 R J) = p (ix2 R ⟨544 + J.val, by omega⟩) * Rows.scale 0x42800000#32 := by
  unfold Rows.scale
  pointwise [qsOut]

theorem ksOut_apply (p : FVec Ideal S32768x1312 .f32) (R : Fin 32768) (J : Fin 512) :
    ksOut p (ix2 R J) = if _h : J.val / 64 % 4 < 1 then p (ix2 R ⟨1056 + (J.val / 256 * 64 + J.val % 64), by omega⟩)
      else if _h : J.val / 64 % 4 - 1 < 1 then (0 : EReal) else if _h : J.val / 64 % 4 - 1 - 1 < 1 then (0 : EReal)
      else p (ix2 R ⟨1056 + (J.val / 256 * 64 + J.val % 64), by omega⟩) := by
  pointwise [ksOut]

theorem vsOut_apply (p : FVec Ideal S32768x1312 .f32) (I : Fin 160) (R : Fin 32768) :
    vsOut p (ix2 I R) = if h : I.val % 80 < 64 then p (ix2 R ⟨1184 + (I.val / 80 * 64 + I.val % 80), by omega⟩) else (1 : EReal) := by
  pointwise [vsOut]
end

section
variable (m : (ℓ : Loc nD τ sig) → Buf (Elt Ideal) ℓ) (c : Dev nD)

theorem res_q : (res_main_v127 m c : FVec Ideal S32768x1024 .bf16) =
    let q := qAll (m (c.tc.loc main_arg4)) (rmsn (m (c.tc.loc main_arg2)) (latQ (proj (m (c.tc.loc main_arg0)) (m (c.tc.loc main_arg1)))))
    qOut q (qRot q (Host.cos angs) (Host.sin angs)) := rfl

theorem res_k : (res_main_v129 m c : FVec Ideal S32768x1024 .bf16) =
    let p := proj (m (c.tc.loc main_arg0)) (m (c.tc.loc main_arg1))
    kOut (kvAll (m (c.tc.loc main_arg5)) (rmsn (m (c.tc.loc main_arg3)) (latK p))) (kRot p (Host.cos angs) (Host.sin angs)) := rfl
end

end Cert.Reference3Ideal.Proj
-- ==== Proof.ProjFinite.lean ====
module

public import proofs.«01_k».proof.Defs
public import proofs.«01_k».proof.Proof.ProjRows
public import proofs.«01_k».proof.Proof.Finite
public import proofs.«01_k».proof.Proof.Scores
public import proofs.«01_k».proof.Proof.Gen.Pre_finite_rows

/-! # Sums over the extended reals that the projections need, and their precondition read at an index -/

@[expose] public section

set_option maxRecDepth 16384

noncomputable section

namespace Cert.Rows

open Idealize.ShloMosaic

/-- A real number among the extended reals. -/
def IsReal (x : EReal) : Prop := x = (x.toReal : EReal)

theorem isReal_coe (r : ℝ) : IsReal (r : EReal) := by
  unfold IsReal; rw [EReal.toReal_coe]

theorem IsReal.mul {x y : EReal} (hx : IsReal x) (hy : IsReal y) : IsReal (x * y) := by
  rw [hx, hy, ← EReal.coe_mul]; exact isReal_coe _

theorem isReal_sum {n : ℕ} (f : Fin n → EReal) (h : ∀ k, IsReal (f k)) : IsReal (∑ k, f k) := by
  rw [Finset.sum_congr rfl fun k _ => h k, ← Mla.coe_sum]; exact isReal_coe _

/-- A sum of reals against negated reals is the negated sum. -/
theorem sum_neg {n : ℕ} (f g : Fin n → EReal) (hf : ∀ k, IsReal (f k)) (hg : ∀ k, IsReal (g k)) : ∑ k, f k * -g k = -∑ k, f k * g k := by
  have e : ∀ k, f k * g k = (((f k).toReal * (g k).toReal : ℝ) : EReal) := fun k => by
    rw [EReal.coe_mul, ← hf k, ← hg k]
  have e' : ∀ k, f k * -g k = ((-((f k).toReal * (g k).toReal) : ℝ) : EReal) := fun k => by
    rw [mul_neg, e k, EReal.coe_neg]
  rw [Finset.sum_congr rfl fun k _ => e k, Finset.sum_congr rfl fun k _ => e' k, ← Mla.coe_sum, ← Mla.coe_sum, Finset.sum_neg_distrib,
    EReal.coe_neg]

/-- A nonnegative real factor leaves a sum. -/
theorem sum_mul {ι : Type*} (S : Finset ι) (f : ι → EReal) {s : EReal} (h0 : 0 ≤ s) (h1 : s ≠ ⊤) : (∑ i ∈ S, f i) * s = ∑ i ∈ S, f i * s := by
  classical
  induction S using Finset.induction_on with
  | empty => simp
  | insert a S ha ih => rw [Finset.sum_insert ha, Finset.sum_insert ha, EReal.right_distrib_of_nonneg_of_ne_top h0 h1, ih]

theorem scale_real (w : BitVec 32) (r : ℝ) (hr : 0 < r) (hw : Ideal.ofBits .f32 w = (r : EReal)) :
    scale w = ((1 / Real.log 2 * (1 / Real.sqrt r) : ℝ) : EReal) := by
  have hs : Ideal.sqrt (r : EReal) = ((Real.sqrt r : ℝ) : EReal) := by
    show (if r < 0 then (⊥ : EReal) else _) = _
    rw [if_neg (by linarith)]
  unfold scale
  rw [hw, hs, KernelIdeal.Mla.log_two, Ideal.div_coe (Real.log_pos (by norm_num)).ne', Ideal.div_coe (Real.sqrt_pos.2 hr).ne', one_mul, ← EReal.coe_mul]

theorem scale_ok (w : BitVec 32) (r : ℝ) (hr : 0 < r) (hw : Ideal.ofBits .f32 w = (r : EReal)) : 0 ≤ scale w ∧ scale w ≠ ⊤ := by
  rw [scale_real w r hr hw]
  refine ⟨?_, EReal.coe_ne_top _⟩
  have := Real.log_pos (by norm_num : (1 : ℝ) < 2)
  exact EReal.coe_nonneg.2 (by positivity)

theorem word_64 : Ideal.ofBits .f32 0x42800000#32 = ((64 : ℝ) : EReal) := by
  simp [Ideal.ofBits, Ideal.ieee, -EReal.coe_mul]; norm_num
theorem word_256 : Ideal.ofBits .f32 0x43800000#32 = ((256 : ℝ) : EReal) := by
  simp [Ideal.ofBits, Ideal.ieee, -EReal.coe_mul]; norm_num
theorem word_eps : ∃ e : ℝ, 0 < e ∧ Ideal.ofBits .f32 0x358637BD#32 = (e : EReal) := by
  refine ⟨_, ?_, by simp only [Ideal.ofBits, Ideal.ieee]; simp [-EReal.coe_mul]; rfl⟩
  norm_num

theorem scale_64 : 0 ≤ scale 0x42800000#32 ∧ scale 0x42800000#32 ≠ ⊤ := scale_ok _ 64 (by norm_num) word_64
theorem scale_96 : 0 ≤ scale 0x42C00000#32 ∧ scale 0x42C00000#32 ≠ ⊤ := scale_ok _ 96 (by norm_num) KernelIdeal.Mla.dim_word

/-- A normalised row of reals under real weights is real. -/
theorem rms_real (u g : Fin 256 → EReal) (hu : ∀ l, IsReal (u l)) (hg : ∀ l, IsReal (g l)) (l : Fin 256) : IsReal (rms u g l) := by
  obtain ⟨e, he, hw⟩ := word_eps
  have hs : ∑ i, u i * u i = ((∑ i, (u i).toReal * (u i).toReal : ℝ) : EReal) := by
    rw [Mla.coe_sum]
    exact Finset.sum_congr rfl fun i _ => by rw [EReal.coe_mul, ← hu i]
  have hp : 0 < (∑ i, (u i).toReal * (u i).toReal) * (1 / 256) + e := by
    have : 0 ≤ ∑ i, (u i).toReal * (u i).toReal := Finset.sum_nonneg fun i _ => mul_self_nonneg _
    positivity
  unfold rms
  refine ((hu l).mul ?_).mul (hg l)
  rw [hs, hw, word_256, Ideal.div_coe (by norm_num), ← EReal.coe_mul, ← EReal.coe_add]
  generalize (∑ i, (u i).toReal * (u i).toReal) * (1 / 256) + e = v at hp ⊢
  show IsReal (if v < 0 then (⊥ : EReal) else if v = 0 then (⊤ : EReal) else (((Real.sqrt v)⁻¹ : ℝ) : EReal))
  rw [if_neg (by linarith), if_neg hp.ne']
  exact isReal_coe _

theorem real_of_all {s : Shape} {axes : List (Fin s.rank)} (x : FVec Ideal s .f32) (y : FVec Ideal s .f32)
    (hy : ∀ i, y i = Ideal.ofBits .f32 0x7F800000#32) (u : IVec Pre_finite_rows.S_ 1) (h : s.ReducesTo axes Pre_finite_rows.S_)
    (hu : 0 < Pre_finite_rows.S_.numel) (j : Pre_finite_rows.S_.Idx)
    (e : Host.reduce IntOp.andi (cmpf .olt (Host.absf x) y) u h hu j = 1#1) (i : s.Idx) : IsReal (x i) :=
  KernelIdeal.Mla.real_of_all x y hy u h hu j e i

theorem finite (a0 : FVec Ideal Pre_finite_rows.S16x2048x1024 .f32) (a1 : FVec Ideal Pre_finite_rows.S1024x3360 .f32)
    (a2 a3 : FVec Ideal Pre_finite_rows.S256 .f32) (a4 : FVec Ideal Pre_finite_rows.S256x768 .f32) (a5 : FVec Ideal Pre_finite_rows.S256x1024 .f32)
    (h : Pre_finite_rows.fn (F := Ideal) a0 a1 a2 a3 a4 a5 = fun _ => 1#1) :
    (∀ i, IsReal (a0 i)) ∧ (∀ i, IsReal (a1 i)) ∧ (∀ i, IsReal (a2 i)) ∧ (∀ i, IsReal (a4 i)) := by
  have h := congrFun h fun a => a.elim0
  dsimp only [Pre_finite_rows.fn, Pre_finite_rows.fn_part1] at h
  obtain ⟨h, h4⟩ := IntOp.andi_eq_one.1 h
  obtain ⟨h, h2⟩ := IntOp.andi_eq_one.1 h
  obtain ⟨h0, h1⟩ := IntOp.andi_eq_one.1 h
  exact ⟨real_of_all a0 _ (fun _ => rfl) _ _ _ _ h0, real_of_all a1 _ (fun _ => rfl) _ _ _ _ h1,
    real_of_all a2 _ (fun _ => rfl) _ _ _ _ h2, real_of_all a4 _ (fun _ => rfl) _ _ _ _ h4⟩

end Cert.Rows
-- ==== Proof.ProjValue.lean ====
module

public import proofs.«01_k».proof.Proof.ProjProd
public import proofs.«01_k».proof.Proof.ProjRef
public import proofs.«01_k».proof.Proof.ProjFinite

/-! # The projection launch's six blocks are the reference's rows -/

@[expose] public section

set_option maxRecDepth 16384

noncomputable section

namespace Cert.Kernel3Ideal.Proj

open Idealize.ShloMosaic Idealize.ShloMosaic.TcCoe
open Cert.Kernel3Ideal.Gen
open Cert.Rows (IsReal)

variable (m : (ℓ : Loc nD τ sig) → Buf (Elt Ideal) ℓ) (c : Dev nD)

/-- The reference's first product, its normalised latents and its second products, on the kernel's arguments. -/
def rP : FVec Ideal Reference3Ideal.S32768x1312 .f32 := Reference3Ideal.Proj.proj (A0 m c) (A1 m c)
def rCq : FVec Ideal Reference3Ideal.S32768x256 .f32 := Reference3Ideal.Proj.rmsn (A2 m c) (Reference3Ideal.Proj.latQ (rP m c))
def rCk : FVec Ideal Reference3Ideal.S32768x256 .f32 := Reference3Ideal.Proj.rmsn (A3 m c) (Reference3Ideal.Proj.latK (rP m c))
def rQ : FVec Ideal Reference3Ideal.S32768x768 .f32 := Reference3Ideal.Proj.qAll (A4 m c) (rCq m c)
def rKv : FVec Ideal Reference3Ideal.S32768x1024 .f32 := Reference3Ideal.Proj.kvAll (A5 m c) (rCk m c)

/-- The six results. -/
def wantQ : FVec Ideal Reference3Ideal.S32768x1024 .bf16 := Reference3Ideal.Proj.qOut (rQ m c)
  (Reference3Ideal.Proj.qRot (rQ m c) (Host.cos Reference3Ideal.Proj.angs) (Host.sin Reference3Ideal.Proj.angs))
def wantK : FVec Ideal Reference3Ideal.S32768x1024 .bf16 := Reference3Ideal.Proj.kOut (rKv m c)
  (Reference3Ideal.Proj.kRot (rP m c) (Host.cos Reference3Ideal.Proj.angs) (Host.sin Reference3Ideal.Proj.angs))
def wantV : FVec Ideal Reference3Ideal.S640x32768 .bf16 := Reference3Ideal.Proj.vOut (rKv m c)
def wantQs : FVec Ideal Reference3Ideal.S32768x512 .bf16 := Reference3Ideal.Proj.qsOut (rP m c)
def wantKs : FVec Ideal Reference3Ideal.S32768x512 .bf16 := Reference3Ideal.Proj.ksOut (rP m c)
def wantVs : FVec Ideal Reference3Ideal.S160x32768 .bf16 := Reference3Ideal.Proj.vsOut (rP m c)

theorem rP_apply (R : Fin 32768) (j : Fin 1312) : rP m c (ix2 R j) = u m c R ⟨j.val, by omega⟩ := by
  unfold rP
  rw [Reference3Ideal.Proj.proj_apply]
  simp only [Reference3Ideal.Proj.flat_apply]
  rfl

theorem rCq_apply (R : Fin 32768) (l : Fin 256) : rCq m c (ix2 R l) = Rows.rms (fun l => u m c R ⟨l.val, by omega⟩) (fun l => A2 m c (ix1 l)) l := by
  unfold rCq
  rw [Reference3Ideal.Proj.rmsn_apply]
  simp only [Reference3Ideal.Proj.latQ_apply, rP_apply]

theorem rCk_apply (R : Fin 32768) (l : Fin 256) : rCk m c (ix2 R l) = Rows.rms (fun l => u m c R ⟨256 + l.val, by omega⟩) (fun l => A3 m c (ix1 l)) l := by
  unfold rCk
  rw [Reference3Ideal.Proj.rmsn_apply]
  simp only [Reference3Ideal.Proj.latK_apply, rP_apply]

theorem rQ_apply (R : Fin 32768) (j : Fin 768) : rQ m c (ix2 R j) = ∑ l : Fin 256, rCq m c (ix2 R l) * A4 m c (ix2 l j) :=
  Reference3Ideal.Proj.qAll_apply ..
theorem rKv_apply (R : Fin 32768) (j : Fin 1024) : rKv m c (ix2 R j) = ∑ l : Fin 256, rCk m c (ix2 R l) * A5 m c (ix2 l j) :=
  Reference3Ideal.Proj.kvAll_apply ..

section
variable (t : Fin cfg0.N) (r : Fin 512)

theorem kP_eq (L : Fin 1536) (j : Fin 3360) (h : ∀ k, w1c m c k L = A1 m c (ix2 k j)) : kP m c t (ix2 r L) = u m c (row t r) j := by
  rw [kP_apply]
  exact Finset.sum_congr rfl fun k _ => congrArg (xrow m c (row t r) k * ·) (h k)

theorem kP_zero (L : Fin 1536) (h : ∀ k, w1c m c k L = 0) : kP m c t (ix2 r L) = (0 : EReal) := by
  rw [kP_apply]
  exact Finset.sum_eq_zero fun k _ => by rw [h k, mul_zero]

theorem kP_lat (L : Fin 1536) (h : L.val < 512) : kP m c t (ix2 r L) = u m c (row t r) ⟨L.val, by omega⟩ :=
  kP_eq m c t r L _ fun k => w_lat m c k L h

theorem kCq_eq (l : Fin 256) : kCq m c t (ix2 r l) = rCq m c (ix2 (row t r) l) := by
  rw [kCq_apply, rCq_apply]
  exact congrArg (fun f => Rows.rms f _ l) (funext fun l => kP_lat m c t r _ (by dsimp only; omega))

theorem kCk_eq (l : Fin 256) : kCk m c t (ix2 r l) = rCk m c (ix2 (row t r) l) := by
  rw [kCk_apply, rCk_apply]
  exact congrArg (fun f => Rows.rms f _ l) (funext fun l => kP_lat m c t r _ (by dsimp only; omega))

/-! The queries of the windowed heads, their keys and their values. -/

theorem val15 (J : Fin 512) : (outsAt0 m c t).2.2.2.1 (ix2 r J) = wantQs m c (ix2 (row t r) J) := by
  refine (blk15 m c t r J).trans (Eq.trans ?_ (Reference3Ideal.Proj.qsOut_apply ..).symm)
  rw [rP_apply, kP_apply]
  unfold u Rows.prod
  refine Eq.trans ?_ (Rows.sum_mul _ _ Rows.scale_64.1 Rows.scale_64.2).symm
  refine Finset.sum_congr rfl fun k _ => ?_
  rw [w_qs m c k _ (by dsimp only; omega) (by dsimp only; omega), mul_assoc]
  refine congrArg (fun z : EReal => xrow m c (row t r) k * (z * Rows.scale 0x42800000#32)) ?_
  exact col m c k (by dsimp only; omega)

theorem kP_k01 (L : Fin 1536) (j : Fin 3360) (h : 1024 ≤ L.val) (h' : L.val < 1152) (hj : L.val + 32 = j.val) : kP m c t (ix2 r L) = u m c (row t r) j :=
  kP_eq m c t r L j fun k => (w_k01 m c k L h h').trans (col m c k hj)
theorem kP_k1 (L : Fin 1536) (j : Fin 3360) (h : 1152 ≤ L.val) (h' : L.val < 1216) (hj : L.val - 32 = j.val) : kP m c t (ix2 r L) = u m c (row t r) j :=
  kP_eq m c t r L j fun k => (w_k1 m c k L h h').trans (col m c k hj)
theorem kP_k0 (L : Fin 1536) (j : Fin 3360) (h : 1216 ≤ L.val) (h' : L.val < 1280) (hj : L.val - 160 = j.val) : kP m c t (ix2 r L) = u m c (row t r) j :=
  kP_eq m c t r L j fun k => (w_k0 m c k L h h').trans (col m c k hj)

/-- The keys' entry at `J`: a product's on a group's first and last lanes, zero between. -/
theorem ks_apply (R : Fin 32768) (J : Fin 512) : wantKs m c (ix2 R J) =
    if J.val / 64 % 4 = 0 ∨ J.val / 64 % 4 = 3 then u m c R ⟨1056 + (J.val / 256 * 64 + J.val % 64), by omega⟩ else (0 : EReal) := by
  refine (Reference3Ideal.Proj.ksOut_apply ..).trans ?_
  simp only [rP_apply]
  by_cases h0 : J.val / 64 % 4 < 1
  · rw [dif_pos h0, if_pos (by omega)]
  rw [dif_neg h0]
  by_cases h1 : J.val / 64 % 4 - 1 < 1
  · rw [dif_pos h1, if_neg (by omega)]
  rw [dif_neg h1]
  by_cases h2 : J.val / 64 % 4 - 1 - 1 < 1
  · rw [dif_pos h2, if_neg (by omega)]
  rw [dif_neg h2, if_pos (by omega)]

theorem val16 (J : Fin 512) : (outsAt0 m c t).2.2.2.2.1 (ix2 r J) = wantKs m c (ix2 (row t r) J) := by
  refine (blk16 m c t r J ⟨J.val % 128, by omega⟩ rfl).trans (Eq.trans ?_ (ks_apply m c (row t r) J).symm)
  dsimp only
  by_cases hl : J.val % 128 < 64
  · rw [if_pos hl, if_pos hl, if_pos hl, if_pos hl]
    by_cases ha : J.val < 128
    · rw [if_pos ha, if_pos (by omega)]
      exact kP_k01 m c t r _ _ (by dsimp only; omega) (by dsimp only; omega) (by dsimp only; omega)
    rw [if_neg ha]
    by_cases hb : J.val < 256
    · rw [if_pos hb, if_neg (by omega)]
    rw [if_neg hb]
    by_cases hc : J.val < 384
    · rw [if_pos hc, if_pos (by omega)]
      exact kP_k1 m c t r _ _ (by dsimp only; omega) (by dsimp only; omega) (by dsimp only; omega)
    rw [if_neg hc, if_neg (by omega)]
  · rw [if_neg hl, if_neg hl, if_neg hl, if_neg hl]
    by_cases ha : J.val < 128
    · rw [if_pos ha, if_neg (by omega)]
    rw [if_neg ha]
    by_cases hb : J.val < 256
    · rw [if_pos hb, if_pos (by omega)]
      exact kP_k0 m c t r _ _ (by dsimp only; omega) (by dsimp only; omega) (by dsimp only; omega)
    rw [if_neg hb]
    by_cases hc : J.val < 384
    · rw [if_pos hc, if_neg (by omega)]
    rw [if_neg hc, if_pos (by omega)]
    exact kP_k01 m c t r _ _ (by dsimp only; omega) (by dsimp only; omega) (by dsimp only; omega)

theorem val17 (I : Fin 160) : (outsAt0 m c t).2.2.2.2.2 (ix2 I r) = wantVs m c (ix2 I (row t r)) := by
  refine (blk17 m c t I r ⟨(I.val / 80 * 64 + I.val % 80) % 128, by omega⟩ (fun _ => by dsimp only; omega)).trans
    (Eq.trans ?_ (Reference3Ideal.Proj.vsOut_apply ..).symm)
  split_ifs with h
  · rw [rP_apply, kVs_apply]
    exact congrArg (u m c (row t r)) (Fin.ext (by dsimp only; omega))
  · rfl

theorem val14 (I : Fin 640) : (outsAt0 m c t).2.2.1 (ix2 I r) = wantV m c (ix2 I (row t r)) := by
  refine (blk14 m c t I r ⟨(I.val / 80 * 64 + I.val % 80) % 512, by omega⟩ (fun _ => by dsimp only; omega)).trans
    (Eq.trans ?_ (Reference3Ideal.Proj.vOut_apply ..).symm)
  split_ifs with h
  · rw [rKv_apply, kV_apply]
    refine Finset.sum_congr rfl fun l _ => congrArg₂ (· * ·) (kCk_eq m c t r l) (congrArg (fun j => A5 m c (ix2 l j)) (Fin.ext ?_))
    dsimp only; omega
  · rfl

/-! The keys' rotated lanes. -/

theorem here : (row t r).val / 2048 * 2048 + (row t r).val % 2048 = (row t r).val := by omega
theorem posn (i : ℕ) : Rows.ang ((512 * t.val + r.val) % 2048) i = Rows.ang (512 * (t.val % 4) + r.val) i :=
  congrArg (fun s => Rows.ang s i) (by omega)

variable (h0 : ∀ i, IsReal (A0 m c i)) (h1 : ∀ i, IsReal (A1 m c i))

include h0 h1 in
theorem kP_neg (L : Fin 1536) (j : Fin 3360) (h : ∀ k, w1c m c k L = Neg.neg (α := EReal) (A1 m c (ix2 k j))) :
    kP m c t (ix2 r L) = Neg.neg (α := EReal) (u m c (row t r) j) := by
  rw [kP_apply]
  refine Eq.trans (Finset.sum_congr rfl fun k _ => congrArg (xrow m c (row t r) k * ·) (h k)) ?_
  exact Rows.sum_neg _ _ (fun k => h0 _) (fun k => h1 _)

theorem tab_lo (a : EReal) (f : ℕ → EReal) (l : ℕ) (h : l < 64) : Rows.tab a f l = a := if_pos h
theorem tab_1 (a : EReal) (f : ℕ → EReal) (l : ℕ) (h : ¬ l < 64) (h' : l - 64 < 16) : Rows.tab a f l = f (l - 64) := by
  unfold Rows.tab; rw [if_neg h, if_pos h']
theorem tab_2 (a : EReal) (f : ℕ → EReal) (l : ℕ) (h : ¬ l < 64) (h' : ¬ l - 64 < 16) (h'' : l - 64 - 16 < 16) : Rows.tab a f l = f (l - 64 - 16) := by
  unfold Rows.tab; rw [if_neg h, if_neg h', if_pos h'']
theorem tab_hi (a : EReal) (f : ℕ → EReal) (l : ℕ) (h : ¬ l < 64) (h' : ¬ l - 64 < 16) (h'' : ¬ l - 64 - 16 < 16) : Rows.tab a f l = 0 := by
  unfold Rows.tab; rw [if_neg h, if_neg h', if_neg h'']

theorem cos_apply (s : Fin 2048) (i : Fin 16) : Host.cos Reference3Ideal.Proj.angs (ix2 s i) = Ideal.cos (Rows.ang s.val i.val) :=
  congrArg Ideal.cos (Reference3Ideal.Proj.angs_apply s i)
theorem sin_apply (s : Fin 2048) (i : Fin 16) : Host.sin Reference3Ideal.Proj.angs (ix2 s i) = Ideal.sin (Rows.ang s.val i.val) :=
  congrArg Ideal.sin (Reference3Ideal.Proj.angs_apply s i)

theorem u_at {R R' : Fin 32768} {j j' : Fin 3360} (h : R.val = R'.val) (g : j.val = j'.val) : u m c R j = u m c R' j' := by
  obtain rfl := Fin.ext h; obtain rfl := Fin.ext g; rfl
theorem rQ_at {R R' : Fin 32768} {j j' : Fin 768} (h : R.val = R'.val) (g : j.val = j'.val) : rQ m c (ix2 R j) = rQ m c (ix2 R' j') := by
  obtain rfl := Fin.ext h; obtain rfl := Fin.ext g; rfl

include h0 h1 in
theorem val13 (J : Fin 1024) : (outsAt0 m c t).2.1 (ix2 r J) = wantK m c (ix2 (row t r) J) := by
  refine (blk13 m c t r J ⟨J.val % 128, by omega⟩ rfl).trans (Eq.trans ?_ (Reference3Ideal.Proj.kOut_apply ..).symm)
  rw [kN_apply, kR_apply]
  dsimp only
  by_cases ha : J.val % 128 < 64
  · rw [dif_pos ha, tab_lo _ _ _ ha, tab_lo _ _ _ ha, mul_zero, mul_zero, add_zero, add_zero, rKv_apply]
    refine Finset.sum_congr rfl fun l _ => ?_
    rw [dif_pos ⟨by omega, ha⟩]
    exact congrArg₂ (· * ·) (kCk_eq m c t r l) (congrArg (fun j => A5 m c (ix2 l j)) (Fin.ext (by dsimp only; omega)))
  have hz : (∑ l : Fin 256, kCk m c t (ix2 r l) *
      (if h : J.val / 128 < 8 ∧ J.val % 128 < 64 then A5 m c (ix2 l ⟨J.val / 128 * 128 + J.val % 128, by omega⟩) else (0 : EReal))) = (0 : EReal) :=
    Finset.sum_eq_zero fun l _ => by rw [dif_neg (fun h => ha h.2), mul_zero]
  rw [hz, zero_add, dif_neg ha]
  by_cases hb : J.val % 128 - 64 < 16
  · rw [dif_pos (by omega), Reference3Ideal.Proj.kRot_apply, dif_pos hb, tab_1 _ _ _ ha hb, tab_1 _ _ _ ha hb, rP_apply, rP_apply, cos_apply, sin_apply,
      kP_eq m c t r _ ⟨512 + (J.val % 128 - 64), by omega⟩ (fun k => (w_kr m c k _ (by dsimp only; omega) (by dsimp only; omega)).trans (col m c k (by dsimp only; omega))),
      kP_neg m c t r h0 h1 _ ⟨512 + (16 + (J.val % 128 - 64)), by omega⟩ (fun k => (w_neg m c k _ (by dsimp only; omega) (by dsimp only; omega)).trans
        (congrArg (fun z : EReal => -z) (col m c k (by dsimp only; omega)))), neg_mul, ← sub_eq_add_neg]
    dsimp only
    rw [posn]
    exact congrArg₂ (fun a b : EReal => a * Ideal.cos (Rows.ang (pos t r).val (J.val % 128 - 64)) - b * Ideal.sin (Rows.ang (pos t r).val (J.val % 128 - 64)))
      (u_at m c (here t r).symm rfl) (u_at m c (here t r).symm rfl)
  by_cases hc : J.val % 128 - 64 - 16 < 16
  · rw [dif_pos (by omega), Reference3Ideal.Proj.kRot_apply, dif_neg hb, tab_2 _ _ _ ha hb hc, tab_2 _ _ _ ha hb hc, rP_apply, rP_apply, cos_apply, sin_apply,
      kP_eq m c t r _ ⟨512 + (16 + (J.val % 128 - 64 - 16)), by omega⟩ (fun k => (w_kr m c k _ (by dsimp only; omega) (by dsimp only; omega)).trans (col m c k (by dsimp only; omega))),
      kP_eq m c t r _ ⟨512 + (J.val % 128 - 64 - 16), by omega⟩ (fun k => (w_rot m c k _ (by dsimp only; omega) (by dsimp only; omega)).trans (col m c k (by dsimp only; omega))),
      add_comm]
    dsimp only
    rw [posn]
    exact congrArg₂ (fun a b : EReal => a * Ideal.sin (Rows.ang (pos t r).val (J.val % 128 - 64 - 16)) + b * Ideal.cos (Rows.ang (pos t r).val (J.val % 128 - 64 - 16)))
      (u_at m c (here t r).symm rfl) (u_at m c (here t r).symm rfl)
  · rw [dif_neg (by omega), tab_hi _ _ _ ha hb hc, tab_hi _ _ _ ha hb hc, mul_zero, mul_zero, add_zero]

/-! The queries: the second product's columns, then the rotation and the scale. -/

theorem kQ_eq (L : Fin 2048) (j : Fin 768) (h : ∀ l, w2c m c l L = A4 m c (ix2 l j)) : kQ m c t (ix2 r L) = rQ m c (ix2 (row t r) j) := by
  rw [kQ_apply, rQ_apply]
  exact Finset.sum_congr rfl fun l _ => congrArg₂ (fun a b : EReal => a * b) (kCq_eq m c t r l) (h l)

variable (h2 : ∀ i, IsReal (A2 m c i)) (h4 : ∀ i, IsReal (A4 m c i))

include h0 h1 h2 in
theorem rCq_real (R : Fin 32768) (l : Fin 256) : IsReal (rCq m c (ix2 R l)) := by
  rw [rCq_apply]
  exact Rows.rms_real _ _ (fun l => Rows.isReal_sum _ fun k => Rows.IsReal.mul (h0 _) (h1 _)) (fun l => h2 _) l

include h0 h1 h2 h4 in
theorem kQ_neg (L : Fin 2048) (j : Fin 768) (h : ∀ l, w2c m c l L = Neg.neg (α := EReal) (A4 m c (ix2 l j))) :
    kQ m c t (ix2 r L) = Neg.neg (α := EReal) (rQ m c (ix2 (row t r) j)) := by
  rw [kQ_apply, rQ_apply]
  refine Eq.trans (Finset.sum_congr rfl fun l _ => congrArg₂ (fun a b : EReal => a * b) (kCq_eq m c t r l) (h l)) ?_
  exact Rows.sum_neg _ _ (fun l => rCq_real m c h0 h1 h2 _ l) (fun l => h4 _)

theorem w2_lo (l : Fin 256) (J : Fin 1024) (h : J.val % 128 < 96) :
    w2c m c l ⟨J.val, by omega⟩ = A4 m c (ix2 l ⟨J.val / 128 * 96 + J.val % 128, by omega⟩) := by
  unfold w2c
  rw [dif_pos (by dsimp only; omega), dif_pos ⟨by dsimp only; omega, h⟩]

theorem at4 {j j' : Fin 768} (l : Fin 256) (h : j.val = j'.val) : A4 m c (ix2 l j) = A4 m c (ix2 l j') := by
  obtain rfl := Fin.ext h; rfl

theorem w2_neg (l : Fin 256) (J : Fin 1024) (h : ¬ J.val % 128 < 64) (h' : J.val % 128 - 64 < 16) :
    w2c m c l ⟨1024 + J.val, by omega⟩ = Neg.neg (α := EReal) (A4 m c (ix2 l ⟨J.val / 128 * 96 + (64 + (16 + (J.val % 128 - 64))), by omega⟩)) := by
  unfold w2c
  rw [dif_neg (by dsimp only; omega), dif_pos (by dsimp only; omega), dif_pos (by dsimp only; omega)]
  exact congrArg (fun z : EReal => -z) (at4 m c l (by dsimp only; omega))

theorem w2_rot (l : Fin 256) (J : Fin 1024) (h : ¬ J.val % 128 < 64) (h' : ¬ J.val % 128 - 64 < 16) (h'' : J.val % 128 - 64 - 16 < 16) :
    w2c m c l ⟨1024 + J.val, by omega⟩ = A4 m c (ix2 l ⟨J.val / 128 * 96 + (64 + (J.val % 128 - 64 - 16)), by omega⟩) := by
  unfold w2c
  rw [dif_neg (by dsimp only; omega), dif_pos (by dsimp only; omega), dif_neg (by dsimp only; omega)]
  exact at4 m c l (by dsimp only; omega)

include h0 h1 h2 h4 in
theorem val12 (J : Fin 1024) : (outsAt0 m c t).1 (ix2 r J) = wantQ m c (ix2 (row t r) J) := by
  refine (blk12 m c t r J ⟨J.val % 128, by omega⟩ rfl).trans (Eq.trans ?_ (Reference3Ideal.Proj.qOut_apply ..).symm)
  rw [i8, i9]
  dsimp only
  obtain ⟨s0, s1⟩ := Rows.scale_96
  generalize Rows.scale 0x42C00000#32 = s at s0 s1 ⊢
  rw [← mul_assoc, ← mul_assoc, ← EReal.right_distrib_of_nonneg_of_ne_top s0 s1]
  refine congrArg (fun z : EReal => z * s) ?_
  by_cases ha : J.val % 128 < 64
  · rw [dif_pos ha, tab_lo _ _ _ ha, tab_lo _ _ _ ha, mul_one, mul_zero, add_zero]
    exact kQ_eq m c t r _ _ fun l => w2_lo m c l J (by omega)
  rw [dif_neg ha]
  by_cases hb : J.val % 128 - 64 < 16
  · rw [dif_pos (by omega), Reference3Ideal.Proj.qRot_apply, dif_pos hb, tab_1 _ _ _ ha hb, tab_1 _ _ _ ha hb, cos_apply, sin_apply,
      kQ_eq m c t r _ _ (fun l => w2_lo m c l J (by omega)),
      kQ_neg m c t r h0 h1 h2 h4 _ _ (fun l => w2_neg m c l J ha hb), neg_mul, ← sub_eq_add_neg]
    dsimp only
    rw [posn]
    exact congrArg₂ (fun a b : EReal => a * Ideal.cos (Rows.ang (pos t r).val (J.val % 128 - 64)) - b * Ideal.sin (Rows.ang (pos t r).val (J.val % 128 - 64)))
      (rQ_at m c (here t r).symm (by dsimp only; omega)) (rQ_at m c (here t r).symm (by dsimp only))
  by_cases hc : J.val % 128 - 64 - 16 < 16
  · rw [dif_pos (by omega), Reference3Ideal.Proj.qRot_apply, dif_neg hb, tab_2 _ _ _ ha hb hc, tab_2 _ _ _ ha hb hc, cos_apply, sin_apply,
      kQ_eq m c t r _ _ (fun l => w2_lo m c l J (by omega)),
      kQ_eq m c t r _ _ (fun l => w2_rot m c l J ha hb hc), add_comm]
    dsimp only
    rw [posn]
    exact congrArg₂ (fun a b : EReal => a * Ideal.sin (Rows.ang (pos t r).val (J.val % 128 - 64 - 16)) + b * Ideal.cos (Rows.ang (pos t r).val (J.val % 128 - 64 - 16)))
      (rQ_at m c (here t r).symm (by dsimp only)) (rQ_at m c (here t r).symm (by dsimp only; omega))
  · rw [dif_neg (by omega), tab_hi _ _ _ ha hb hc, tab_hi _ _ _ ha hb hc, mul_zero, mul_zero, add_zero]
end

end Cert.Kernel3Ideal.Proj
-- ==== Proof.ProjFinal.lean ====
module

public import proofs.«01_k».proof.Defs
public import proofs.«01_k».proof.Proof.ProjValue
public import proofs.«01_k».proof.Proof.Gen.Kernel3.Frame
public import proofs.«01_k».proof.Proof.Gen.Kernel3Ideal.Value
public import proofs.«01_k».proof.Proof.Gen.Reference3Ideal.Run

/-! # The projection call's claims: its frames, and the equation with the reference -/

@[expose] public section

set_option maxRecDepth 16384

noncomputable section

namespace Cert.Kernel3Ideal.Proj

open Idealize.ShloMosaic Idealize.ShloMosaic.TcCoe Idealize.SL.Sem
open Cert.Kernel3Ideal.Gen
open Cert.Rows (IsReal)

variable (m : (ℓ : Loc nD τ sig) → Buf (Elt Ideal) ℓ) (c : Dev nD)

theorem idx12 : ∀ t : Fin cfg0.N, win0_12.index t = ![t.val, 0] := (by decide +kernel : ∀ t : Fin grid0.N, _)
theorem idx13 : ∀ t : Fin cfg0.N, win0_13.index t = ![t.val, 0] := (by decide +kernel : ∀ t : Fin grid0.N, _)
theorem idx14 : ∀ t : Fin cfg0.N, win0_14.index t = ![0, t.val] := (by decide +kernel : ∀ t : Fin grid0.N, _)
theorem idx15 : ∀ t : Fin cfg0.N, win0_15.index t = ![t.val, 0] := (by decide +kernel : ∀ t : Fin grid0.N, _)
theorem idx16 : ∀ t : Fin cfg0.N, win0_16.index t = ![t.val, 0] := (by decide +kernel : ∀ t : Fin grid0.N, _)
theorem idx17 : ∀ t : Fin cfg0.N, win0_17.index t = ![0, t.val] := (by decide +kernel : ∀ t : Fin grid0.N, _)

/-- A block entry's place in each result. -/
theorem out12 (G : FVec Ideal S32768x1024 .bf16) (t : Fin cfg0.N) (r : Fin 512) (j : Fin 1024) :
    G (((cfg0.win 12).blk t).view.emb (ix2 r j : S512x1024.Idx)) = G (ix2 (row t r) j) := by
  blk_ext [idx12 t]
theorem out13 (G : FVec Ideal S32768x1024 .bf16) (t : Fin cfg0.N) (r : Fin 512) (j : Fin 1024) :
    G (((cfg0.win 13).blk t).view.emb (ix2 r j : S512x1024.Idx)) = G (ix2 (row t r) j) := by
  blk_ext [idx13 t]
theorem out14 (G : FVec Ideal S640x32768 .bf16) (t : Fin cfg0.N) (i : Fin 640) (r : Fin 512) :
    G (((cfg0.win 14).blk t).view.emb (ix2 i r : S640x512.Idx)) = G (ix2 i (row t r)) := by
  blk_ext [idx14 t]
theorem out15 (G : FVec Ideal S32768x512 .bf16) (t : Fin cfg0.N) (r j : Fin 512) :
    G (((cfg0.win 15).blk t).view.emb (ix2 r j : S512x512.Idx)) = G (ix2 (row t r) j) := by
  blk_ext [idx15 t]
theorem out16 (G : FVec Ideal S32768x512 .bf16) (t : Fin cfg0.N) (r j : Fin 512) :
    G (((cfg0.win 16).blk t).view.emb (ix2 r j : S512x512.Idx)) = G (ix2 (row t r) j) := by
  blk_ext [idx16 t]
theorem out17 (G : FVec Ideal S160x32768 .bf16) (t : Fin cfg0.N) (i : Fin 160) (r : Fin 512) :
    G (((cfg0.win 17).blk t).view.emb (ix2 i r : S160x512.Idx)) = G (ix2 i (row t r)) := by
  blk_ext [idx17 t]

theorem array14 : (dats m 0 c).arrAt 14 cfg0.N = wantV m c := by
  refine (dats m 0 c).arrAt_eq_of_covers 14 _ (by decide +kernel) fun t hf y => ?_
  rw [after0_14]
  obtain ⟨i, r, rfl⟩ := pair y
  exact (val14 m c t r i).trans (out14 (wantV m c) t i r).symm
theorem array15 : (dats m 0 c).arrAt 15 cfg0.N = wantQs m c := by
  refine (dats m 0 c).arrAt_eq_of_covers 15 _ (by decide +kernel) fun t hf y => ?_
  rw [after0_15]
  obtain ⟨r, j, rfl⟩ := pair y
  exact (val15 m c t r j).trans (out15 (wantQs m c) t r j).symm
theorem array16 : (dats m 0 c).arrAt 16 cfg0.N = wantKs m c := by
  refine (dats m 0 c).arrAt_eq_of_covers 16 _ (by decide +kernel) fun t hf y => ?_
  rw [after0_16]
  obtain ⟨r, j, rfl⟩ := pair y
  exact (val16 m c t r j).trans (out16 (wantKs m c) t r j).symm
theorem array17 : (dats m 0 c).arrAt 17 cfg0.N = wantVs m c := by
  refine (dats m 0 c).arrAt_eq_of_covers 17 _ (by decide +kernel) fun t hf y => ?_
  rw [after0_17]
  obtain ⟨i, r, rfl⟩ := pair y
  exact (val17 m c t r i).trans (out17 (wantVs m c) t i r).symm

section
variable (h0 : ∀ i, IsReal (A0 m c i)) (h1 : ∀ i, IsReal (A1 m c i))
include h0 h1

theorem array13 : (dats m 0 c).arrAt 13 cfg0.N = wantK m c := by
  refine (dats m 0 c).arrAt_eq_of_covers 13 _ (by decide +kernel) fun t hf y => ?_
  rw [after0_13]
  obtain ⟨r, j, rfl⟩ := pair y
  exact (val13 m c t r h0 h1 j).trans (out13 (wantK m c) t r j).symm

variable (h2 : ∀ i, IsReal (A2 m c i)) (h4 : ∀ i, IsReal (A4 m c i))
include h2 h4

theorem array12 : (dats m 0 c).arrAt 12 cfg0.N = wantQ m c := by
  refine (dats m 0 c).arrAt_eq_of_covers 12 _ (by decide +kernel) fun t hf y => ?_
  rw [after0_12]
  obtain ⟨r, j, rfl⟩ := pair y
  exact (val12 m c t r h0 h1 h2 h4 j).trans (out12 (wantQ m c) t r j).symm
end

theorem frame : Cert.quiescent_Kernel3Ideal := fun m ρ _ => Kernel3Ideal.Gen.frame m ρ
theorem frame_pre : Cert.quiescent_Kernel3Ideal_pre_finite_rows := fun m ρ _ => Kernel3Ideal.Gen.frame m ρ
theorem frame_bits : Cert.quiescent_Kernel3 := fun m ρ _ => Kernel3.Gen.frame m ρ

theorem algebraic : Cert.algebraic_Kernel3Ideal_Reference3Ideal_pre_finite_rows := fun m g m' g' hpre hagree => by
  refine ⟨fun c => wantQ m c, fun c => wantK m c, fun c => wantV m c, fun c => wantQs m c, fun c => wantKs m c, fun c => wantVs m c, ?_, ?_⟩
  · refine (θ_run defs _ _).mono (fun _ h c => ?_) (Value.run_blocks m g)
    obtain ⟨h0, h1, h2, h4⟩ := Rows.finite _ _ _ _ _ _ (hpre c)
    obtain ⟨e0, e1, e2, e3, e4, e5, e⟩ := h c
    exact ⟨e0.trans (array12 m c h0 h1 h2 h4), e1.trans (array13 m c h0 h1), e2.trans (array14 m c), e3.trans (array15 m c), e4.trans (array16 m c),
      e5.trans (array17 m c), e⟩
  · refine (θ_run Reference3Ideal.defs _ _).mono (fun _ h c => ?_) (Reference3Ideal.Value.run m' g')
    obtain ⟨a0, a1, a2, a3, a4, a5⟩ := hagree c
    obtain ⟨e0, e1, e2, e3, e4, e5, e⟩ := h c
    refine ⟨e0.trans ((Reference3Ideal.Proj.res_q m' c).trans ?_), e1.trans ((Reference3Ideal.Proj.res_k m' c).trans ?_), e2.trans ?_, e3.trans ?_,
      e4.trans ?_, e5.trans ?_, e⟩
    all_goals (try rw [a0, a1, a2, a4]); (try rw [a0, a1, a3, a5]); (try rw [a0, a1]); rfl

end Cert.Kernel3Ideal.Proj

namespace Cert.Reference3Ideal.Proj

open Idealize.ShloMosaic Idealize.ShloMosaic.TcCoe Idealize.SL.Sem
open Cert.Reference3Ideal.Gen

theorem quiet (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs _ _).mono (fun r h => ⟨fun c => (h c).2.2.2.2.2.2, sem_eq_zero_of_no_sems (by decide) r.2⟩) (Cert.Reference3Ideal.Value.run m ρ)

theorem frame : Cert.quiescent_Reference3Ideal := fun m ρ _ => quiet m ρ
theorem frame_pre : Cert.quiescent_Reference3Ideal_pre_finite_rows := fun m ρ _ => quiet m ρ

end Cert.Reference3Ideal.Proj
-- ==== Proof.lean ====
module

public import proofs.«01_k».proof.Proof.Final
public import proofs.«01_k».proof.Proof.PostFinal
public import proofs.«01_k».proof.Proof.ProjFinal

/-! # The certificate: the attention, merge and projection kernels compute their references -/

@[expose] public section

noncomputable section

namespace Cert.Proof

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Pre_finite_scores.Gen.facts, Cert.Pre_finite_rows.Gen.facts,
    KernelIdeal.Mla.frame_bits, KernelIdeal.Mla.frame_ideal, KernelIdeal.Mla.frame_ideal_pre, ReferenceIdeal.Mla.frame,
    ReferenceIdeal.Mla.frame_pre, Kernel2.Post.frame, Kernel2Ideal.Post.frame, Reference2Ideal.Post.frame,
    Kernel3Ideal.Proj.frame_bits, Kernel3Ideal.Proj.frame, Kernel3Ideal.Proj.frame_pre, Reference3Ideal.Proj.frame, Reference3Ideal.Proj.frame_pre,
    trivial, KernelIdeal.Mla.algebraic, Kernel2Ideal.Post.preserves, Kernel2Ideal.Post.algebraic, trivial, Kernel3Ideal.Proj.algebraic⟩

end Cert.Proof

end
